-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v3_0)) (v1 : (c : Dev Cert.Kernel2Ideal.nD) → Buf (Elt Ideal) ((c.tc : Thread Cert.Kernel2Ideal.nD Cert.Kernel2Ideal.τ).loc Cert.Kernel2Ideal.main_v3_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3_0) = v0 c
          ∧ r.2.mem ((c.tc : Thread Cert.Kernel2Ideal.nD Cert.Kernel2Ideal.τ).loc Cert.Kernel2Ideal.main_v3_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v79) = v0 c
          ∧ r.2.mem ((c.tc : Thread Cert.Reference2Ideal.nD Cert.Reference2Ideal.τ).loc Cert.Reference2Ideal.main_v84) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v75) = v0 c
          ∧ r.2.mem ((c.tc : Thread Cert.Reference3Ideal.nD Cert.Reference3Ideal.τ).loc Cert.Reference3Ideal.main_v76) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel3_Kernel3Ideal
    ∧ algebraic_Kernel3Ideal_Reference3Ideal (hKernel3Ideal := hKernel3Ideal) (hReference3Ideal := hReference3Ideal)
-- ==== Pre_finite.lean ====
abbrev S2x8448x2048 : Shape := ⟨3, ![2, 8448, 2048]⟩
abbrev S2x8448x4096 : Shape := ⟨3, ![2, 8448, 4096]⟩
abbrev S2x8448x128 : Shape := ⟨3, ![2, 8448, 128]⟩
abbrev S1x16 : Shape := ⟨2, ![1, 16]⟩
abbrev S_ : Shape := ⟨0, ![]⟩
abbrev S2x8448x1024 : Shape := ⟨3, ![2, 8448, 1024]⟩
abbrev S2x8448x16 : Shape := ⟨3, ![2, 8448, 16]⟩

class Facts : Prop where
  bcast_S_S2x8448x2048 : S_.BroadcastsInDim S2x8448x2048 (![] : Fin 0 → Fin S2x8448x2048.rank)
  slices_S2x8448x4096_S2x8448x1024_0_0_2048 : S2x8448x4096.Slices ![0, 0, 2048] S2x8448x1024
  bcast_S_S2x8448x1024 : S_.BroadcastsInDim S2x8448x1024 (![] : Fin 0 → Fin S2x8448x1024.rank)
  slices_S2x8448x128_S2x8448x16_0_0_0 : S2x8448x128.Slices ![0, 0, 0] S2x8448x16
  bcast_S_S2x8448x16 : S_.BroadcastsInDim S2x8448x16 (![] : Fin 0 → Fin S2x8448x16.rank)
  bcast_S_S1x16 : S_.BroadcastsInDim S1x16 (![] : Fin 0 → Fin S1x16.rank)

variable [Facts]

def fn {F : FTy → Type} [FloatOps F] (main_arg0 : FVec F S2x8448x2048 .bf16) (main_arg1 : FVec F S2x8448x4096 .bf16) (main_arg2 : FVec F S2x8448x128 .f32) (main_arg3 : FVec F S1x16 .f32) : IVec S2x8448x2048 1 × IVec S2x8448x1024 1 × IVec S2x8448x16 1 × IVec S1x16 1 :=
  let main_v0 : FVec F S2x8448x2048 .bf16 := Host.absf main_arg0
  let main_cst : FVec F S_ .bf16 := constant S_ .bf16 0x7F80#16
  let main_v1 : FVec F S2x8448x2048 .bf16 := broadcastInDim S2x8448x2048 ![] bcast_S_S2x8448x2048 main_cst
  let main_v2 : IVec S2x8448x2048 1 := cmpf .olt main_v0 main_v1
  let main_v3 : FVec F S2x8448x1024 .bf16 := (extractStridedSlice S2x8448x1024 ![0, 0, 2048] · slices_S2x8448x4096_S2x8448x1024_0_0_2048) main_arg1
  let main_v4 : FVec F S2x8448x1024 .bf16 := Host.absf main_v3
  let main_cst_0 : FVec F S_ .bf16 := constant S_ .bf16 0x7F80#16
  let main_v5 : FVec F S2x8448x1024 .bf16 := broadcastInDim S2x8448x1024 ![] bcast_S_S2x8448x1024 main_cst_0
  let main_v6 : IVec S2x8448x1024 1 := cmpf .olt main_v4 main_v5
  let main_v7 : FVec F S2x8448x16 .f32 := (extractStridedSlice S2x8448x16 ![0, 0, 0] · slices_S2x8448x128_S2x8448x16_0_0_0) main_arg2
  let main_v8 : FVec F S2x8448x16 .f32 := Host.absf main_v7
  let main_cst_1 : FVec F S_ .f32 := constant S_ .f32 0x7F800000#32
  let main_v9 : FVec F S2x8448x16 .f32 := broadcastInDim S2x8448x16 ![] bcast_S_S2x8448x16 main_cst_1
  let main_v10 : IVec S2x8448x16 1 := cmpf .olt main_v8 main_v9
  let main_v11 : FVec F S1x16 .f32 := Host.absf main_arg3
  let main_cst_2 : FVec F S_ .f32 := constant S_ .f32 0x7F800000#32
  let main_v12 : FVec F S1x16 .f32 := broadcastInDim S1x16 ![] bcast_S_S1x16 main_cst_2
  let main_v13 : IVec S1x16 1 := cmpf .olt main_v11 main_v12
  (main_v2, main_v6, main_v10, main_v13)
-- ==== Kernel.lean ====
abbrev S2x16x1024x2048 : Shape := ⟨4, ![2, 16, 1024, 2048]⟩
abbrev S2x16x1024x1 : Shape := ⟨4, ![2, 16, 1024, 1]⟩
abbrev S16x2048x2048 : Shape := ⟨3, ![16, 2048, 2048]⟩
abbrev S2x16x2x8192x128 : Shape := ⟨5, ![2, 16, 2, 8192, 128]⟩
abbrev S1x1x1024x2048 : Shape := ⟨4, ![1, 1, 1024, 2048]⟩
abbrev S1x1x1024x1 : Shape := ⟨4, ![1, 1, 1024, 1]⟩
abbrev S1x2048x256 : Shape := ⟨3, ![1, 2048, 256]⟩
abbrev S1x256x2048 : Shape := ⟨3, ![1, 256, 2048]⟩
abbrev S1x1x2x8192x128 : Shape := ⟨5, ![1, 1, 2, 8192, 128]⟩
abbrev S1024x2048 : Shape := ⟨2, ![1024, 2048]⟩
abbrev S2048x256 : Shape := ⟨2, ![2048, 256]⟩
abbrev S1024x256 : Shape := ⟨2, ![1024, 256]⟩
abbrev S256x2048 : Shape := ⟨2, ![256, 2048]⟩
abbrev S1024x512 : Shape := ⟨2, ![1024, 512]⟩
abbrev S256x512 : Shape := ⟨2, ![256, 512]⟩
abbrev S1024x1 : Shape := ⟨2, ![1024, 1]⟩
abbrev S1024x128 : Shape := ⟨2, ![1024, 128]⟩
abbrev S1x1x1x1024x128 : Shape := ⟨5, ![1, 1, 1, 1024, 128]⟩

abbrev nBuf : Space → Nat
  | .hbm => 6
  | .vmem => 13
  | .smem => 0
  | _ => 0

abbrev bufTy : (tb : Table) → Fin (tcTables nBuf tb) → BufTy
  | .hbm, ⟨0, _⟩ => ⟨S2x16x1024x2048, .bf16⟩
  | .hbm, ⟨1, _⟩ => ⟨S2x16x1024x1, .f32⟩
  | .hbm, ⟨2, _⟩ => ⟨S16x2048x2048, .f32⟩
  | .hbm, ⟨3, _⟩ => ⟨S16x2048x2048, .f32⟩
  | .hbm, ⟨4, _⟩ => ⟨S16x2048x2048, .f32⟩
  | .hbm, ⟨5, _⟩ => ⟨S2x16x2x8192x128, .f32⟩
  | .local _ .vmem, ⟨0, _⟩ => ⟨S1x1x1024x2048, .bf16⟩
  | .local _ .vmem, ⟨1, _⟩ => ⟨S1x1x1024x2048, .bf16⟩
  | .local _ .vmem, ⟨2, _⟩ => ⟨S1x1x1024x1, .f32⟩
  | .local _ .vmem, ⟨3, _⟩ => ⟨S1x1x1024x1, .f32⟩
  | .local _ .vmem, ⟨4, _⟩ => ⟨S1x2048x256, .f32⟩
  | .local _ .vmem, ⟨5, _⟩ => ⟨S1x2048x256, .f32⟩
  | .local _ .vmem, ⟨6, _⟩ => ⟨S1x2048x256, .f32⟩
  | .local _ .vmem, ⟨7, _⟩ => ⟨S1x2048x256, .f32⟩
  | .local _ .vmem, ⟨8, _⟩ => ⟨S1x256x2048, .f32⟩
  | .local _ .vmem, ⟨9, _⟩ => ⟨S1x256x2048, .f32⟩
  | .local _ .vmem, ⟨10, _⟩ => ⟨S1x1x2x8192x128, .f32⟩
  | .local _ .vmem, ⟨11, _⟩ => ⟨S1x1x2x8192x128, .f32⟩
  | .local _ .vmem, ⟨12, _⟩ => ⟨S1024x2048, .f32⟩
  | _, _ => ⟨S2x16x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 2, 8], ![false, false, false]⟩

def k0_cond2 (i : grid0.Coords) : BitVec 1 :=
  let arg2 : BitVec 32 := BitVec.ofNat 32 (i 2).val
  let c7_i32 : BitVec 32 := 7#32
  let v54 : BitVec 1 := Scalar.cmpi .eq arg2 c7_i32
  let v55 : BitVec 32 := Scalar.extui v54
  let c0_i32_34 : BitVec 32 := 0#32
  let v56 : BitVec 1 := Scalar.cmpi .ne v55 c0_i32_34
  v56

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_5 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, arg0.toNat, c0_i32.toNat, c0_i32_0.toNat, c0_i32_1.toNat]

abbrev stage0_0 : Fin 2 → Memref sig .tc .vmem S1x1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x1x2x8192x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== ReferenceIdeal.lean ====
abbrev S2x16x1024x2048 : Shape := ⟨4, ![2, 16, 1024, 2048]⟩
abbrev S2x16x1024x1 : Shape := ⟨4, ![2, 16, 1024, 1]⟩
abbrev S16x2048x2048 : Shape := ⟨3, ![16, 2048, 2048]⟩
abbrev S16x2048x2x1024 : Shape := ⟨4, ![16, 2048, 2, 1024]⟩
abbrev S_ : Shape := ⟨0, ![]⟩
abbrev S2x16x1024x2x8x128 : Shape := ⟨6, ![2, 16, 1024, 2, 8, 128]⟩
abbrev S2x16x2x1024x8x128 : Shape := ⟨6, ![2, 16, 2, 1024, 8, 128]⟩
abbrev S2x16x2x8192x128 : Shape := ⟨5, ![2, 16, 2, 8192, 128]⟩

abbrev nBuf : Space → Nat
  | .hbm => 27
  | .vmem => 0
  | .smem => 0
  | _ => 0

abbrev bufTy : (tb : Table) → Fin (tcTables nBuf tb) → BufTy
  | .hbm, ⟨0, _⟩ => ⟨S2x16x1024x2048, .bf16⟩
  | .hbm, ⟨1, _⟩ => ⟨S2x16x1024x1, .f32⟩
  | .hbm, ⟨2, _⟩ => ⟨S16x2048x2048, .f32⟩
  | .hbm, ⟨3, _⟩ => ⟨S16x2048x2048, .f32⟩
  | .hbm, ⟨4, _⟩ => ⟨S16x2048x2048, .f32⟩
  | .hbm, ⟨5, _⟩ => ⟨S2x16x1024x2048, .f32⟩
  | .hbm, ⟨6, _⟩ => ⟨S16x2048x2x1024, .f32⟩
  | .hbm, ⟨7, _⟩ => ⟨S2x16x1024x2048, .f32⟩
  | .hbm, ⟨8, _⟩ => ⟨S16x2048x2x1024, .f32⟩
  | .hbm, ⟨9, _⟩ => ⟨S2x16x1024x2048, .f32⟩
  | .hbm, ⟨10, _⟩ => ⟨S2x16x1024x2048, .f32⟩
  | .hbm, ⟨11, _⟩ => ⟨S2x16x1024x2048, .f32⟩
  | .hbm, ⟨12, _⟩ => ⟨S_, .f32⟩
  | .hbm, ⟨13, _⟩ => ⟨S2x16x1024x2048, .f32⟩
  | .hbm, ⟨14, _⟩ => ⟨S2x16x1024x2048, .f32⟩
  | .hbm, ⟨15, _⟩ => ⟨S_, .f32⟩
  | .hbm, ⟨16, _⟩ => ⟨S2x16x1024x2048, .f32⟩
  | .hbm, ⟨17, _⟩ => ⟨S2x16x1024x2048, .f32⟩
  | .hbm, ⟨18, _⟩ => ⟨S2x16x1024x2048, .f32⟩
  | .hbm, ⟨19, _⟩ => ⟨S2x16x1024x2048, .f32⟩
  | .hbm, ⟨20, _⟩ => ⟨S16x2048x2x1024, .f32⟩
  | .hbm, ⟨21, _⟩ => ⟨S2x16x1024x2048, .f32⟩
  | .hbm, ⟨22, _⟩ => ⟨S2x16x1024x2048, .f32⟩
  | .hbm, ⟨23, _⟩ => ⟨S2x16x1024x2048, .f32⟩
  | .hbm, ⟨24, _⟩ => ⟨S2x16x1024x2x8x128, .f32⟩
  | .hbm, ⟨25, _⟩ => ⟨S2x16x2x1024x8x128, .f32⟩
  | .hbm, ⟨26, _⟩ => ⟨S2x16x2x8192x128, .f32⟩
  | _, _ => ⟨S2x16x1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩

abbrev nD : Nat := 1
abbrev τ : Topo := Topo.v7x

variable {F : FTy → Type} [FloatOps F]
-- ==== Kernel2.lean ====
abbrev S2x8448x2048 : Shape := ⟨3, ![2, 8448, 2048]⟩
abbrev S2x8448x4096 : Shape := ⟨3, ![2, 8448, 4096]⟩
abbrev S2x8448x128 : Shape := ⟨3, ![2, 8448, 128]⟩
abbrev S1x16 : Shape := ⟨2, ![1, 16]⟩
abbrev S2x8448x16 : Shape := ⟨3, ![2, 8448, 16]⟩
abbrev S2x16x8448 : Shape := ⟨3, ![2, 16, 8448]⟩
abbrev S16x1 : Shape := ⟨2, ![16, 1]⟩
abbrev S2x8448x1024 : Shape := ⟨3, ![2, 8448, 1024]⟩
abbrev S1x256x1024 : Shape := ⟨3, ![1, 256, 1024]⟩
abbrev S1x256x128 : Shape := ⟨3, ![1, 256, 128]⟩
abbrev S1x16x256 : Shape := ⟨3, ![1, 16, 256]⟩
abbrev S8x256x256 : Shape := ⟨3, ![8, 256, 256]⟩
abbrev S8x1x256 : Shape := ⟨3, ![8, 1, 256]⟩
abbrev S8x1x1 : Shape := ⟨3, ![8, 1, 1]⟩
abbrev S256x256 : Shape := ⟨2, ![256, 256]⟩
abbrev S1x256x16 : Shape := ⟨3, ![1, 256, 16]⟩
abbrev S256x16 : Shape := ⟨2, ![256, 16]⟩
abbrev S16x256 : Shape := ⟨2, ![16, 256]⟩
abbrev S1x256x256 : Shape := ⟨3, ![1, 256, 256]⟩
abbrev S256x1 : Shape := ⟨2, ![256, 1]⟩
abbrev S1x256 : Shape := ⟨2, ![1, 256]⟩
abbrev S1x1x1 : Shape := ⟨3, ![1, 1, 1]⟩
abbrev S1x1 : Shape := ⟨2, ![1, 1]⟩
abbrev S256 : Shape := ⟨1, ![256]⟩
abbrev S1x1x256 : Shape := ⟨3, ![1, 1, 256]⟩
abbrev S1 : Shape := ⟨1, ![1]⟩

abbrev nBuf : Space → Nat
  | .hbm => 9
  | .vmem => 29
  | .smem => 0
  | _ => 0

abbrev bufTy : (tb : Table) → Fin (tcTables nBuf tb) → BufTy
  | .hbm, ⟨0, _⟩ => ⟨S2x8448x2048, .bf16⟩
  | .hbm, ⟨1, _⟩ => ⟨S2x8448x4096, .bf16⟩
  | .hbm, ⟨2, _⟩ => ⟨S2x8448x128, .f32⟩
  | .hbm, ⟨3, _⟩ => ⟨S1x16, .f32⟩
  | .hbm, ⟨4, _⟩ => ⟨S2x8448x16, .f32⟩
  | .hbm, ⟨5, _⟩ => ⟨S2x16x8448, .f32⟩
  | .hbm, ⟨6, _⟩ => ⟨S16x1, .f32⟩
  | .hbm, ⟨7, _⟩ => ⟨S2x8448x1024, .bf16⟩
  | .hbm, ⟨8, _⟩ => ⟨S2x8448x1024, .bf16⟩
  | .local _ .vmem, ⟨0, _⟩ => ⟨S1x256x1024, .bf16⟩
  | .local _ .vmem, ⟨1, _⟩ => ⟨S1x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256x128, .f32⟩
  | .local _ .vmem, ⟨7, _⟩ => ⟨S1x256x128, .f32⟩
  | .local _ .vmem, ⟨8, _⟩ => ⟨S1x16x256, .f32⟩
  | .local _ .vmem, ⟨9, _⟩ => ⟨S1x16x256, .f32⟩
  | .local _ .vmem, ⟨10, _⟩ => ⟨S1x256x1024, .bf16⟩
  | .local _ .vmem, ⟨11, _⟩ => ⟨S1x256x1024, .bf16⟩
  | .local _ .vmem, ⟨12, _⟩ => ⟨S1x256x1024, .bf16⟩
  | .local _ .vmem, ⟨13, _⟩ => ⟨S1x256x1024, .bf16⟩
  | .local _ .vmem, ⟨14, _⟩ => ⟨S1x256x1024, .bf16⟩
  | .local _ .vmem, ⟨15, _⟩ => ⟨S1x256x1024, .bf16⟩
  | .local _ .vmem, ⟨16, _⟩ => ⟨S1x256x128, .f32⟩
  | .local _ .vmem, ⟨17, _⟩ => ⟨S1x256x128, .f32⟩
  | .local _ .vmem, ⟨18, _⟩ => ⟨S1x16x256, .f32⟩
  | .local _ .vmem, ⟨19, _⟩ => ⟨S1x16x256, .f32⟩
  | .local _ .vmem, ⟨20, _⟩ => ⟨S1x16, .f32⟩
  | .local _ .vmem, ⟨21, _⟩ => ⟨S16x1, .f32⟩
  | .local _ .vmem, ⟨22, _⟩ => ⟨S1x256x1024, .bf16⟩
  | .local _ .vmem, ⟨23, _⟩ => ⟨S1x256x1024, .bf16⟩
  | .local _ .vmem, ⟨24, _⟩ => ⟨S1x256x1024, .bf16⟩
  | .local _ .vmem, ⟨25, _⟩ => ⟨S1x256x1024, .bf16⟩
  | .local _ .vmem, ⟨26, _⟩ => ⟨S8x256x256, .f32⟩
  | .local _ .vmem, ⟨27, _⟩ => ⟨S8x1x256, .f32⟩
  | .local _ .vmem, ⟨28, _⟩ => ⟨S8x1x1, .f32⟩
  | _, _ => ⟨S2x8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨2, ![2, 33], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c32_i32 : BitVec 32 := 32#32
  let v1 : BitVec 32 := Scalar.addi c32_i32 arg1
  let c1_i32_0 : BitVec 32 := 1#32
  let v2 : BitVec 32 := Scalar.subi arg1 c1_i32_0
  let v3 : BitVec 32 := Scalar.select v0 v1 v2
  let c0_i32 : BitVec 32 := 0#32
  let c0_i32_1 : BitVec 32 := 0#32
  ![arg0.toNat, v3.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c32_i32 : BitVec 32 := 32#32
  let v1 : BitVec 32 := Scalar.addi c32_i32 arg1
  let c1_i32_0 : BitVec 32 := 1#32
  let v2 : BitVec 32 := Scalar.subi arg1 c1_i32_0
  let v3 : BitVec 32 := Scalar.select v0 v1 v2
  let c1_i32_1 : BitVec 32 := 1#32
  let c0_i32 : BitVec 32 := 0#32
  ![arg0.toNat, v3.toNat, c1_i32_1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c32_i32 : BitVec 32 := 32#32
  let v1 : BitVec 32 := Scalar.addi c32_i32 arg1
  let c1_i32_0 : BitVec 32 := 1#32
  let v2 : BitVec 32 := Scalar.subi arg1 c1_i32_0
  let v3 : BitVec 32 := Scalar.select v0 v1 v2
  let c2_i32 : BitVec 32 := 2#32
  let c0_i32 : BitVec 32 := 0#32
  ![arg0.toNat, v3.toNat, c2_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c32_i32 : BitVec 32 := 32#32
  let v1 : BitVec 32 := Scalar.addi c32_i32 arg1
  let c1_i32_0 : BitVec 32 := 1#32
  let v2 : BitVec 32 := Scalar.subi arg1 c1_i32_0
  let v3 : BitVec 32 := Scalar.select v0 v1 v2
  let c0_i32 : BitVec 32 := 0#32
  let c0_i32_1 : BitVec 32 := 0#32
  ![arg0.toNat, v3.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c32_i32 : BitVec 32 := 32#32
  let v1 : BitVec 32 := Scalar.addi c32_i32 arg1
  let c1_i32_0 : BitVec 32 := 1#32
  let v2 : BitVec 32 := Scalar.subi arg1 c1_i32_0
  let v3 : BitVec 32 := Scalar.select v0 v1 v2
  let c0_i32 : BitVec 32 := 0#32
  let c0_i32_1 : BitVec 32 := 0#32
  ![arg0.toNat, c0_i32.toNat, v3.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c32_i32 : BitVec 32 := 32#32
  let v1 : BitVec 32 := Scalar.subi c32_i32 arg1
  let c1_i32_0 : BitVec 32 := 1#32
  let v2 : BitVec 32 := Scalar.subi arg1 c1_i32_0
  let c31_i32 : BitVec 32 := 31#32
  let v3 : BitVec 32 := Scalar.subi c31_i32 v2
  let v4 : BitVec 32 := Scalar.select v0 v1 v3
  let c0_i32 : BitVec 32 := 0#32
  let c0_i32_1 : BitVec 32 := 0#32
  ![arg0.toNat, v4.toNat, c0_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c32_i32 : BitVec 32 := 32#32
  let v1 : BitVec 32 := Scalar.subi c32_i32 arg1
  let c1_i32_0 : BitVec 32 := 1#32
  let v2 : BitVec 32 := Scalar.subi arg1 c1_i32_0
  let c31_i32 : BitVec 32 := 31#32
  let v3 : BitVec 32 := Scalar.subi c31_i32 v2
  let v4 : BitVec 32 := Scalar.select v0 v1 v3
  let c1_i32_1 : BitVec 32 := 1#32
  let c0_i32 : BitVec 32 := 0#32
  ![arg0.toNat, v4.toNat, c1_i32_1.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c32_i32 : BitVec 32 := 32#32
  let v1 : BitVec 32 := Scalar.subi c32_i32 arg1
  let c1_i32_0 : BitVec 32 := 1#32
  let v2 : BitVec 32 := Scalar.subi arg1 c1_i32_0
  let c31_i32 : BitVec 32 := 31#32
  let v3 : BitVec 32 := Scalar.subi c31_i32 v2
  let v4 : BitVec 32 := Scalar.select v0 v1 v3
  let c2_i32 : BitVec 32 := 2#32
  let c0_i32 : BitVec 32 := 0#32
  ![arg0.toNat, v4.toNat, c2_i32.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c32_i32 : BitVec 32 := 32#32
  let v1 : BitVec 32 := Scalar.subi c32_i32 arg1
  let c1_i32_0 : BitVec 32 := 1#32
  let v2 : BitVec 32 := Scalar.subi arg1 c1_i32_0
  let c31_i32 : BitVec 32 := 31#32
  let v3 : BitVec 32 := Scalar.subi c31_i32 v2
  let v4 : BitVec 32 := Scalar.select v0 v1 v3
  let c0_i32 : BitVec 32 := 0#32
  let c0_i32_1 : BitVec 32 := 0#32
  ![arg0.toNat, v4.toNat, c0_i32.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c32_i32 : BitVec 32 := 32#32
  let v1 : BitVec 32 := Scalar.subi c32_i32 arg1
  let c1_i32_0 : BitVec 32 := 1#32
  let v2 : BitVec 32 := Scalar.subi arg1 c1_i32_0
  let c31_i32 : BitVec 32 := 31#32
  let v3 : BitVec 32 := Scalar.subi c31_i32 v2
  let v4 : BitVec 32 := Scalar.select v0 v1 v3
  let c0_i32 : BitVec 32 := 0#32
  let c0_i32_1 : BitVec 32 := 0#32
  ![arg0.toNat, c0_i32.toNat, v4.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c32_i32 : BitVec 32 := 32#32
  let v1 : BitVec 32 := Scalar.addi c32_i32 arg1
  let c1_i32_0 : BitVec 32 := 1#32
  let v2 : BitVec 32 := Scalar.subi arg1 c1_i32_0
  let v3 : BitVec 32 := Scalar.select v0 v1 v2
  let c0_i32 : BitVec 32 := 0#32
  let c0_i32_1 : BitVec 32 := 0#32
  ![arg0.toNat, v3.toNat, c0_i32.toNat]

def cc0_transform_13 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c32_i32 : BitVec 32 := 32#32
  let v1 : BitVec 32 := Scalar.subi c32_i32 arg1
  let c1_i32_0 : BitVec 32 := 1#32
  let v2 : BitVec 32 := Scalar.subi arg1 c1_i32_0
  let c31_i32 : BitVec 32 := 31#32
  let v3 : BitVec 32 := Scalar.subi c31_i32 v2
  let v4 : BitVec 32 := Scalar.select v0 v1 v3
  let c0_i32 : BitVec 32 := 0#32
  let c0_i32_1 : BitVec 32 := 0#32
  ![arg0.toNat, v4.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x16x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S1x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S16x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference2Ideal.lean ====
abbrev S2x8448x2048 : Shape := ⟨3, ![2, 8448, 2048]⟩
abbrev S2x8448x4096 : Shape := ⟨3, ![2, 8448, 4096]⟩
abbrev S2x8448x128 : Shape := ⟨3, ![2, 8448, 128]⟩
abbrev S1x16 : Shape := ⟨2, ![1, 16]⟩
abbrev S2x8448x1024 : Shape := ⟨3, ![2, 8448, 1024]⟩
abbrev S2x8448x4x256 : Shape := ⟨4, ![2, 8448, 4, 256]⟩
abbrev S2x4x8448x256 : Shape := ⟨4, ![2, 4, 8448, 256]⟩
abbrev S2x8448x16 : Shape := ⟨3, ![2, 8448, 16]⟩
abbrev S2x8448x4x4 : Shape := ⟨4, ![2, 8448, 4, 4]⟩
abbrev S4x4 : Shape := ⟨2, ![4, 4]⟩
abbrev S1x1x4x4 : Shape := ⟨4, ![1, 1, 4, 4]⟩
abbrev S2x4x4x8448 : Shape := ⟨4, ![2, 4, 4, 8448]⟩
abbrev S_ : Shape := ⟨0, ![]⟩
abbrev S4x4x256x256 : Shape := ⟨4, ![4, 4, 256, 256]⟩
abbrev S4x4x256 : Shape := ⟨3, ![4, 4, 256]⟩
abbrev S2x4x256x256 : Shape := ⟨4, ![2, 4, 256, 256]⟩
abbrev S2x4x8192x256 : Shape := ⟨4, ![2, 4, 8192, 256]⟩
abbrev S4x4x8448x256 : Shape := ⟨4, ![4, 4, 8448, 256]⟩
abbrev S2x1x4x8448 : Shape := ⟨4, ![2, 1, 4, 8448]⟩
abbrev S2x4x8448 : Shape := ⟨3, ![2, 4, 8448]⟩
abbrev S2x4x256 : Shape := ⟨3, ![2, 4, 256]⟩
abbrev S2x4x8192 : Shape := ⟨3, ![2, 4, 8192]⟩
abbrev S4x4x8448 : Shape := ⟨3, ![4, 4, 8448]⟩
abbrev S64x64 : Shape := ⟨2, ![64, 64]⟩
abbrev S4x4x132x64x256 : Shape := ⟨5, ![4, 4, 132, 64, 256]⟩
abbrev S132x4x4x64x256 : Shape := ⟨5, ![132, 4, 4, 64, 256]⟩
abbrev S4x4x132x64 : Shape := ⟨4, ![4, 4, 132, 64]⟩
abbrev S132x4x4x64 : Shape := ⟨4, ![132, 4, 4, 64]⟩
abbrev S1x4x4x64x256 : Shape := ⟨5, ![1, 4, 4, 64, 256]⟩
abbrev S4x4x64x256 : Shape := ⟨4, ![4, 4, 64, 256]⟩
abbrev S1x4x4x64 : Shape := ⟨4, ![1, 4, 4, 64]⟩
abbrev S4x4x64 : Shape := ⟨3, ![4, 4, 64]⟩
abbrev S4x4x64x1 : Shape := ⟨4, ![4, 4, 64, 1]⟩
abbrev S4x4x1x64 : Shape := ⟨4, ![4, 4, 1, 64]⟩
abbrev S4x4x64x64 : Shape := ⟨4, ![4, 4, 64, 64]⟩
abbrev S4x4x1 : Shape := ⟨3, ![4, 4, 1]⟩
abbrev S4x4x1x1 : Shape := ⟨4, ![4, 4, 1, 1]⟩

abbrev nBuf : Space → Nat
  | .hbm => 259
  | .vmem => 0
  | .smem => 0
  | _ => 0

abbrev hbmTy0_0 (i : Nat) : BufTy := match i % 128 with
  | 0 => ⟨S2x8448x2048, .bf16⟩
  | 1 => ⟨S2x8448x4096, .bf16⟩
  | 2 => ⟨S2x8448x128, .f32⟩
  | 3 => ⟨S1x16, .f32⟩
  | 4 => ⟨S2x8448x1024, .bf16⟩
  | 5 => ⟨S2x8448x1024, .f32⟩
  | 6 => ⟨S2x8448x4x256, .f32⟩
  | 7 => ⟨S2x4x8448x256, .f32⟩
  | 8 => ⟨S2x8448x1024, .bf16⟩
  | 9 => ⟨S2x8448x1024, .f32⟩
  | 10 => ⟨S2x8448x4x256, .f32⟩
  | 11 => ⟨S2x4x8448x256, .f32⟩
  | 12 => ⟨S2x8448x1024, .bf16⟩
  | 13 => ⟨S2x8448x1024, .f32⟩
  | 14 => ⟨S2x8448x4x256, .f32⟩
  | 15 => ⟨S2x4x8448x256, .f32⟩
  | 16 => ⟨S2x8448x16, .f32⟩
  | 17 => ⟨S2x8448x4x4, .f32⟩
  | 18 => ⟨S4x4, .f32⟩
  | 19 => ⟨S1x1x4x4, .f32⟩
  | 20 => ⟨S2x8448x4x4, .f32⟩
  | 21 => ⟨S2x8448x4x4, .f32⟩
  | 22 => ⟨S2x4x4x8448, .f32⟩
  | 23 => ⟨S_, .f32⟩
  | 24 => ⟨S4x4x256x256, .f32⟩
  | 25 => ⟨S_, .f32⟩
  | 26 => ⟨S4x4x256, .f32⟩
  | 27 => ⟨S_, .f32⟩
  | 28 => ⟨S4x4, .f32⟩
  | 29 => ⟨S2x4x256x256, .f32⟩
  | 30 => ⟨S2x4x8192x256, .f32⟩
  | 31 => ⟨S2x4x8448x256, .f32⟩
  | 32 => ⟨S2x4x8448x256, .f32⟩
  | 33 => ⟨S4x4x8448x256, .f32⟩
  | 34 => ⟨S2x4x256x256, .f32⟩
  | 35 => ⟨S2x4x8192x256, .f32⟩
  | 36 => ⟨S2x4x8448x256, .f32⟩
  | 37 => ⟨S2x4x8448x256, .f32⟩
  | 38 => ⟨S4x4x8448x256, .f32⟩
  | 39 => ⟨S2x4x256x256, .f32⟩
  | 40 => ⟨S2x4x8192x256, .f32⟩
  | 41 => ⟨S2x4x8448x256, .f32⟩
  | 42 => ⟨S2x4x8448x256, .f32⟩
  | 43 => ⟨S4x4x8448x256, .f32⟩
  | 44 => ⟨S2x1x4x8448, .f32⟩
  | 45 => ⟨S2x4x8448, .f32⟩
  | 46 => ⟨S2x1x4x8448, .f32⟩
  | 47 => ⟨S2x4x8448, .f32⟩
  | 48 => ⟨S2x4x256, .f32⟩
  | 49 => ⟨S2x4x8192, .f32⟩
  | 50 => ⟨S2x4x8448, .f32⟩
  | 51 => ⟨S2x4x8448, .f32⟩
  | 52 => ⟨S4x4x8448, .f32⟩
  | 53 => ⟨S2x1x4x8448, .f32⟩
  | 54 => ⟨S2x4x8448, .f32⟩
  | 55 => ⟨S2x4x8448, .f32⟩
  | 56 => ⟨S_, .f32⟩
  | 57 => ⟨S2x4x8448, .f32⟩
  | 58 => ⟨S2x4x8448, .f32⟩
  | 59 => ⟨S2x4x8448, .f32⟩
  | 60 => ⟨S2x4x8448, .f32⟩
  | 61 => ⟨S2x4x8448, .i1⟩
  | 62 => ⟨S2x4x8448, .f32⟩
  | 63 => ⟨S2x4x8448, .f32⟩
  | 64 => ⟨S2x4x8448, .f32⟩
  | 65 => ⟨S2x4x8448, .f32⟩
  | 66 => ⟨S2x4x8448, .f32⟩
  | 67 => ⟨S2x4x8448, .f32⟩
  | 68 => ⟨S2x4x8448, .f32⟩
  | 69 => ⟨S2x4x8448, .f32⟩
  | 70 => ⟨S2x4x8448, .f32⟩
  | 71 => ⟨S2x1x4x8448, .f32⟩
  | 72 => ⟨S2x4x8448, .f32⟩
  | 73 => ⟨S2x4x8448, .f32⟩
  | 74 => ⟨S_, .f32⟩
  | 75 => ⟨S2x4x8448, .f32⟩
  | 76 => ⟨S2x4x8448, .f32⟩
  | 77 => ⟨S2x4x8448, .f32⟩
  | 78 => ⟨S2x4x8448, .f32⟩
  | 79 => ⟨S2x4x8448, .i1⟩
  | 80 => ⟨S2x4x8448, .f32⟩
  | 81 => ⟨S2x4x8448, .f32⟩
  | 82 => ⟨S2x4x8448, .f32⟩
  | 83 => ⟨S2x4x8448, .f32⟩
  | 84 => ⟨S2x4x8448, .f32⟩
  | 85 => ⟨S2x4x8448, .f32⟩
  | 86 => ⟨S2x4x8448, .f32⟩
  | 87 => ⟨S2x4x8448, .f32⟩
  | 88 => ⟨S2x4x8448, .f32⟩
  | 89 => ⟨S2x4x256, .f32⟩
  | 90 => ⟨S2x4x8192, .f32⟩
  | 91 => ⟨S2x4x8448, .f32⟩
  | 92 => ⟨S2x4x8448, .f32⟩
  | 93 => ⟨S4x4x8448, .f32⟩
  | 94 => ⟨S_, .i1⟩
  | 95 => ⟨S64x64, .i1⟩
  | 96 => ⟨S64x64, .i32⟩
  | 97 => ⟨S_, .i32⟩
  | 98 => ⟨S64x64, .i32⟩
  | 99 => ⟨S64x64, .i32⟩
  | 100 => ⟨S64x64, .i32⟩
  | 101 => ⟨S64x64, .i1⟩
  | 102 => ⟨S_, .i1⟩
  | 103 => ⟨S64x64, .i1⟩
  | 104 => ⟨S64x64, .i1⟩
  | 105 => ⟨S4x4x132x64x256, .f32⟩
  | 106 => ⟨S132x4x4x64x256, .f32⟩
  | 107 => ⟨S4x4x132x64x256, .f32⟩
  | 108 => ⟨S132x4x4x64x256, .f32⟩
  | 109 => ⟨S4x4x132x64x256, .f32⟩
  | 110 => ⟨S132x4x4x64x256, .f32⟩
  | 111 => ⟨S4x4x132x64, .f32⟩
  | 112 => ⟨S132x4x4x64, .f32⟩
  | 113 => ⟨S4x4x132x64, .f32⟩
  | 114 => ⟨S132x4x4x64, .f32⟩
  | 115 => ⟨S_, .f32⟩
  | 116 => ⟨S132x4x4x64x256, .f32⟩
  | 117 => ⟨S_, .i32⟩
  | 118 => ⟨S132x4x4x64x256, .f32⟩
  | 119 => ⟨S132x4x4x64x256, .f32⟩
  | 120 => ⟨S132x4x4x64x256, .f32⟩
  | 121 => ⟨S132x4x4x64, .f32⟩
  | 122 => ⟨S132x4x4x64, .f32⟩
  | 123 => ⟨S64x64, .i1⟩
  | 124 => ⟨S_, .i32⟩
  | 125 => ⟨S4x4x256x256, .f32⟩
  | 126 => ⟨S4x4x256, .f32⟩
  | 127 => ⟨S4x4, .f32⟩
  | _ => ⟨S2x8448x2048, .bf16⟩

abbrev hbmTy0_1 (i : Nat) : BufTy := match i % 128 with
  | 0 => ⟨S132x4x4x64x256, .f32⟩
  | 1 => ⟨S_, .i32⟩
  | 2 => ⟨S_, .i1⟩
  | 3 => ⟨S_, .i32⟩
  | 4 => ⟨S_, .i32⟩
  | 5 => ⟨S_, .i32⟩
  | 6 => ⟨S_, .i32⟩
  | 7 => ⟨S1x4x4x64x256, .f32⟩
  | 8 => ⟨S4x4x64x256, .f32⟩
  | 9 => ⟨S_, .i32⟩
  | 10 => ⟨S_, .i32⟩
  | 11 => ⟨S_, .i32⟩
  | 12 => ⟨S_, .i32⟩
  | 13 => ⟨S1x4x4x64x256, .f32⟩
  | 14 => ⟨S4x4x64x256, .f32⟩
  | 15 => ⟨S_, .i32⟩
  | 16 => ⟨S_, .i32⟩
  | 17 => ⟨S_, .i32⟩
  | 18 => ⟨S_, .i32⟩
  | 19 => ⟨S1x4x4x64x256, .f32⟩
  | 20 => ⟨S4x4x64x256, .f32⟩
  | 21 => ⟨S_, .i32⟩
  | 22 => ⟨S_, .i32⟩
  | 23 => ⟨S_, .i32⟩
  | 24 => ⟨S1x4x4x64, .f32⟩
  | 25 => ⟨S4x4x64, .f32⟩
  | 26 => ⟨S_, .i32⟩
  | 27 => ⟨S_, .i32⟩
  | 28 => ⟨S_, .i32⟩
  | 29 => ⟨S1x4x4x64, .f32⟩
  | 30 => ⟨S4x4x64, .f32⟩
  | 31 => ⟨S_, .f32⟩
  | 32 => ⟨S_, .f32⟩
  | 33 => ⟨S4x4x64, .f32⟩
  | 34 => ⟨S4x4x64x1, .f32⟩
  | 35 => ⟨S4x4x1x64, .f32⟩
  | 36 => ⟨S4x4x64x64, .f32⟩
  | 37 => ⟨S4x4x64x64, .f32⟩
  | 38 => ⟨S4x4x64x64, .f32⟩
  | 39 => ⟨S4x4x1x64, .f32⟩
  | 40 => ⟨S4x4x64x64, .f32⟩
  | 41 => ⟨S4x4x64x64, .f32⟩
  | 42 => ⟨S_, .f32⟩
  | 43 => ⟨S_, .f32⟩
  | 44 => ⟨S4x4x64x64, .i1⟩
  | 45 => ⟨S4x4x64x64, .f32⟩
  | 46 => ⟨S4x4x64x64, .f32⟩
  | 47 => ⟨S4x4x1, .f32⟩
  | 48 => ⟨S4x4x64, .f32⟩
  | 49 => ⟨S4x4x64, .f32⟩
  | 50 => ⟨S_, .f32⟩
  | 51 => ⟨S4x4x64, .f32⟩
  | 52 => ⟨S4x4x64, .f32⟩
  | 53 => ⟨S4x4x64x1, .f32⟩
  | 54 => ⟨S4x4x64x64, .f32⟩
  | 55 => ⟨S4x4x64x64, .f32⟩
  | 56 => ⟨S4x4x64x64, .f32⟩
  | 57 => ⟨S4x4x64, .f32⟩
  | 58 => ⟨S4x4x64, .f32⟩
  | 59 => ⟨S4x4x64x64, .f32⟩
  | 60 => ⟨S4x4x64x64, .f32⟩
  | 61 => ⟨S4x4x64x256, .f32⟩
  | 62 => ⟨S4x4x64x1, .f32⟩
  | 63 => ⟨S4x4x64x256, .f32⟩
  | 64 => ⟨S4x4x64x256, .f32⟩
  | 65 => ⟨S4x4x64x256, .f32⟩
  | 66 => ⟨S4x4x64x256, .f32⟩
  | 67 => ⟨S_, .f32⟩
  | 68 => ⟨S4x4x64, .f32⟩
  | 69 => ⟨S4x4x64, .f32⟩
  | 70 => ⟨S4x4x64, .f32⟩
  | 71 => ⟨S4x4x64, .f32⟩
  | 72 => ⟨S4x4x64, .f32⟩
  | 73 => ⟨S4x4x64, .f32⟩
  | 74 => ⟨S4x4x64, .f32⟩
  | 75 => ⟨S4x4x64, .f32⟩
  | 76 => ⟨S4x4x64x1, .f32⟩
  | 77 => ⟨S4x4x64x256, .f32⟩
  | 78 => ⟨S4x4x64x256, .f32⟩
  | 79 => ⟨S4x4x1, .f32⟩
  | 80 => ⟨S4x4, .f32⟩
  | 81 => ⟨S4x4x1, .f32⟩
  | 82 => ⟨S4x4x64, .f32⟩
  | 83 => ⟨S4x4x64, .f32⟩
  | 84 => ⟨S4x4x64, .f32⟩
  | 85 => ⟨S4x4, .f32⟩
  | 86 => ⟨S_, .f32⟩
  | 87 => ⟨S4x4, .f32⟩
  | 88 => ⟨S4x4, .f32⟩
  | 89 => ⟨S4x4x1, .f32⟩
  | 90 => ⟨S4x4x64, .f32⟩
  | 91 => ⟨S4x4x64, .f32⟩
  | 92 => ⟨S4x4x64, .f32⟩
  | 93 => ⟨S4x4, .f32⟩
  | 94 => ⟨S4x4, .f32⟩
  | 95 => ⟨S4x4, .f32⟩
  | 96 => ⟨S4x4x1x1, .f32⟩
  | 97 => ⟨S4x4x256x256, .f32⟩
  | 98 => ⟨S4x4x256x256, .f32⟩
  | 99 => ⟨S4x4x64x1, .f32⟩
  | 100 => ⟨S4x4x64x256, .f32⟩
  | 101 => ⟨S4x4x64x256, .f32⟩
  | 102 => ⟨S4x4x256x256, .f32⟩
  | 103 => ⟨S4x4x256x256, .f32⟩
  | 104 => ⟨S4x4x1, .f32⟩
  | 105 => ⟨S4x4x256, .f32⟩
  | 106 => ⟨S4x4x256, .f32⟩
  | 107 => ⟨S4x4x256, .f32⟩
  | 108 => ⟨S4x4x256, .f32⟩
  | 109 => ⟨S1x4x4x64x256, .f32⟩
  | 110 => ⟨S_, .i32⟩
  | 111 => ⟨S_, .i32⟩
  | 112 => ⟨S_, .i32⟩
  | 113 => ⟨S_, .i32⟩
  | 114 => ⟨S132x4x4x64x256, .f32⟩
  | 115 => ⟨S_, .i32⟩
  | 116 => ⟨S_, .i32⟩
  | 117 => ⟨S4x4x132x64x256, .f32⟩
  | 118 => ⟨S4x4x8448x256, .f32⟩
  | 119 => ⟨S2x4x8448x256, .f32⟩
  | 120 => ⟨S2x4x8192x256, .f32⟩
  | 121 => ⟨S2x4x256x256, .f32⟩
  | 122 => ⟨S2x4x8448x256, .f32⟩
  | 123 => ⟨S2x8448x4x256, .f32⟩
  | 124 => ⟨S2x8448x1024, .f32⟩
  | 125 => ⟨S2x8448x1024, .bf16⟩
  | 126 => ⟨S2x4x8448x256, .f32⟩
  | 127 => ⟨S2x4x8448x256, .f32⟩
  | _ => ⟨S2x8448x2048, .bf16⟩

abbrev hbmTy0_2 (i : Nat) : BufTy := match i % 128 with
  | 0 => ⟨S2x8448x4x256, .f32⟩
  | 1 => ⟨S2x8448x1024, .f32⟩
  | 2 => ⟨S2x8448x1024, .bf16⟩
  | _ => ⟨S2x8448x2048, .bf16⟩

abbrev hbmTy (i : Nat) : BufTy := match i / 128 with
  | 0 => hbmTy0_0 i
  | 1 => hbmTy0_1 i
  | 2 => hbmTy0_2 i
  | _ => ⟨S2x8448x2048, .bf16⟩

abbrev bufTy : (tb : Table) → Fin (tcTables nBuf tb) → BufTy
  | .hbm, ⟨i, _⟩ => hbmTy i
  | _, _ => ⟨S2x8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst : Ref sig .tc := ⟨.hbm, 23, rfl⟩
abbrev main_v19 : Ref sig .tc := ⟨.hbm, 24, rfl⟩
abbrev main_cst_0 : Ref sig .tc := ⟨.hbm, 25, rfl⟩
abbrev main_v20 : Ref sig .tc := ⟨.hbm, 26, rfl⟩
abbrev main_cst_1 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_call4_v0 : Ref sig .tc := ⟨.hbm, 55, rfl⟩
abbrev main_call4_call0_cst : Ref sig .tc := ⟨.hbm, 56, rfl⟩
abbrev main_call4_call0_v0 : Ref sig .tc := ⟨.hbm, 57, rfl⟩
abbrev main_call4_call0_v1 : Ref sig .tc := ⟨.hbm, 58, rfl⟩
abbrev main_call4_call0_v2 : Ref sig .tc := ⟨.hbm, 59, rfl⟩
abbrev main_call4_call0_v3 : Ref sig .tc := ⟨.hbm, 60, rfl⟩
abbrev main_call4_call0_v4 : Ref sig .tc := ⟨.hbm, 61, rfl⟩
abbrev main_call4_call0_v5 : Ref sig .tc := ⟨.hbm, 62, rfl⟩
abbrev main_call4_call0_v6 : Ref sig .tc := ⟨.hbm, 63, rfl⟩
abbrev main_call4_call0_v7 : Ref sig .tc := ⟨.hbm, 64, rfl⟩
abbrev main_call4_call0_v8 : Ref sig .tc := ⟨.hbm, 65, rfl⟩
abbrev main_call4_call0_v9 : Ref sig .tc := ⟨.hbm, 66, rfl⟩
abbrev main_call4_call0_v10 : Ref sig .tc := ⟨.hbm, 67, rfl⟩
abbrev main_call4_call0_v11 : Ref sig .tc := ⟨.hbm, 68, rfl⟩
abbrev main_call4_v1 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_call5_v0 : Ref sig .tc := ⟨.hbm, 73, rfl⟩
abbrev main_call5_call0_cst : Ref sig .tc := ⟨.hbm, 74, rfl⟩
abbrev main_call5_call0_v0 : Ref sig .tc := ⟨.hbm, 75, rfl⟩
abbrev main_call5_call0_v1 : Ref sig .tc := ⟨.hbm, 76, rfl⟩
abbrev main_call5_call0_v2 : Ref sig .tc := ⟨.hbm, 77, rfl⟩
abbrev main_call5_call0_v3 : Ref sig .tc := ⟨.hbm, 78, rfl⟩
abbrev main_call5_call0_v4 : Ref sig .tc := ⟨.hbm, 79, rfl⟩
abbrev main_call5_call0_v5 : Ref sig .tc := ⟨.hbm, 80, rfl⟩
abbrev main_call5_call0_v6 : Ref sig .tc := ⟨.hbm, 81, rfl⟩
abbrev main_call5_call0_v7 : Ref sig .tc := ⟨.hbm, 82, rfl⟩
abbrev main_call5_call0_v8 : Ref sig .tc := ⟨.hbm, 83, rfl⟩
abbrev main_call5_call0_v9 : Ref sig .tc := ⟨.hbm, 84, rfl⟩
abbrev main_call5_call0_v10 : Ref sig .tc := ⟨.hbm, 85, rfl⟩
abbrev main_call5_call0_v11 : Ref sig .tc := ⟨.hbm, 86, rfl⟩
abbrev main_call5_v1 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_c : Ref sig .tc := ⟨.hbm, 94, rfl⟩
abbrev main_v57 : Ref sig .tc := ⟨.hbm, 95, rfl⟩
abbrev main_call7_v0 : Ref sig .tc := ⟨.hbm, 96, rfl⟩
abbrev main_call7_c : Ref sig .tc := ⟨.hbm, 97, rfl⟩
abbrev main_call7_v1 : Ref sig .tc := ⟨.hbm, 98, rfl⟩
abbrev main_call7_v2 : Ref sig .tc := ⟨.hbm, 99, rfl⟩
abbrev main_call7_v3 : Ref sig .tc := ⟨.hbm, 100, rfl⟩
abbrev main_call7_v4 : Ref sig .tc := ⟨.hbm, 101, rfl⟩
abbrev main_call7_c_0 : Ref sig .tc := ⟨.hbm, 102, rfl⟩
abbrev main_call7_v5 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_cst_2 : Ref sig .tc := ⟨.hbm, 115, rfl⟩
abbrev main_v69 : Ref sig .tc := ⟨.hbm, 116, rfl⟩
abbrev main_c_3 : Ref sig .tc := ⟨.hbm, 117, rfl⟩
abbrev main_v70_0 : Ref sig .tc := ⟨.hbm, 118, rfl⟩
abbrev main_v70_1 : Ref sig .tc := ⟨.hbm, 119, rfl⟩
abbrev main_v70_2 : Ref sig .tc := ⟨.hbm, 120, rfl⟩
abbrev main_v70_3 : Ref sig .tc := ⟨.hbm, 121, rfl⟩
abbrev main_v70_4 : Ref sig .tc := ⟨.hbm, 122, rfl⟩
abbrev main_v70_5 : Ref sig .tc := ⟨.hbm, 123, rfl⟩
abbrev main_v70_6 : Ref sig .tc := ⟨.hbm, 124, rfl⟩
abbrev main_v70_7 : Ref sig .tc := ⟨.hbm, 125, rfl⟩
abbrev main_v70_8 : Ref sig .tc := ⟨.hbm, 126, rfl⟩
abbrev main_v70_9 : Ref sig .tc := ⟨.hbm, 127, rfl⟩
abbrev main_v70_10 : Ref sig .tc := ⟨.hbm, 128, rfl⟩
abbrev main_while0c_c_14 : Ref sig .tc := ⟨.hbm, 129, rfl⟩
abbrev main_while0c_v85 : Ref sig .tc := ⟨.hbm, 130, rfl⟩
abbrev main_while0b_call8_c : Ref sig .tc := ⟨.hbm, 131, rfl⟩
abbrev main_while0b_call8_c_0 : Ref sig .tc := ⟨.hbm, 132, rfl⟩
abbrev main_while0b_call8_c_1 : Ref sig .tc := ⟨.hbm, 133, rfl⟩
abbrev main_while0b_call8_c_2 : Ref sig .tc := ⟨.hbm, 134, rfl⟩
abbrev main_while0b_call8_v0 : Ref sig .tc := ⟨.hbm, 135, rfl⟩
abbrev main_while0b_v85 : Ref sig .tc := ⟨.hbm, 136, rfl⟩
abbrev main_while0b_call9_c : Ref sig .tc := ⟨.hbm, 137, rfl⟩
abbrev main_while0b_call9_c_0 : Ref sig .tc := ⟨.hbm, 138, rfl⟩
abbrev main_while0b_call9_c_1 : Ref sig .tc := ⟨.hbm, 139, rfl⟩
abbrev main_while0b_call9_c_2 : Ref sig .tc := ⟨.hbm, 140, rfl⟩
abbrev main_while0b_call9_v0 : Ref sig .tc := ⟨.hbm, 141, rfl⟩
abbrev main_while0b_v86 : Ref sig .tc := ⟨.hbm, 142, rfl⟩
abbrev main_while0b_call10_c : Ref sig .tc := ⟨.hbm, 143, rfl⟩
abbrev main_while0b_call10_c_0 : Ref sig .tc := ⟨.hbm, 144, rfl⟩
abbrev main_while0b_call10_c_1 : Ref sig .tc := ⟨.hbm, 145, rfl⟩
abbrev main_while0b_call10_c_2 : Ref sig .tc := ⟨.hbm, 146, rfl⟩
abbrev main_while0b_call10_v0 : Ref sig .tc := ⟨.hbm, 147, rfl⟩
abbrev main_while0b_v87 : Ref sig .tc := ⟨.hbm, 148, rfl⟩
abbrev main_while0b_call11_c : Ref sig .tc := ⟨.hbm, 149, rfl⟩
abbrev main_while0b_call11_c_0 : Ref sig .tc := ⟨.hbm, 150, rfl⟩
abbrev main_while0b_call11_c_1 : Ref sig .tc := ⟨.hbm, 151, rfl⟩
abbrev main_while0b_call11_v0 : Ref sig .tc := ⟨.hbm, 152, rfl⟩
abbrev main_while0b_v88 : Ref sig .tc := ⟨.hbm, 153, rfl⟩
abbrev main_while0b_call12_c : Ref sig .tc := ⟨.hbm, 154, rfl⟩
abbrev main_while0b_call12_c_0 : Ref sig .tc := ⟨.hbm, 155, rfl⟩
abbrev main_while0b_call12_c_1 : Ref sig .tc := ⟨.hbm, 156, rfl⟩
abbrev main_while0b_call12_v0 : Ref sig .tc := ⟨.hbm, 157, rfl⟩
abbrev main_while0b_v89 : Ref sig .tc := ⟨.hbm, 158, rfl⟩
abbrev main_while0b_call13_call0_cst : Ref sig .tc := ⟨.hbm, 159, rfl⟩
abbrev main_while0b_call13_call0_v0 : Ref sig .tc := ⟨.hbm, 160, rfl⟩
abbrev main_while0b_v90 : Ref sig .tc := ⟨.hbm, 161, rfl⟩
abbrev main_while0b_v91 : Ref sig .tc := ⟨.hbm, 162, rfl⟩
abbrev main_while0b_v92 : Ref sig .tc := ⟨.hbm, 163, rfl⟩
abbrev main_while0b_v93 : Ref sig .tc := ⟨.hbm, 164, rfl⟩
abbrev main_while0b_v94 : Ref sig .tc := ⟨.hbm, 165, rfl⟩
abbrev main_while0b_v95 : Ref sig .tc := ⟨.hbm, 166, rfl⟩
abbrev main_while0b_v96 : Ref sig .tc := ⟨.hbm, 167, rfl⟩
abbrev main_while0b_v97 : Ref sig .tc := ⟨.hbm, 168, rfl⟩
abbrev main_while0b_v98 : Ref sig .tc := ⟨.hbm, 169, rfl⟩
abbrev main_while0b_cst_14 : Ref sig .tc := ⟨.hbm, 170, rfl⟩
abbrev main_while0b_call14_v0 : Ref sig .tc := ⟨.hbm, 171, rfl⟩
abbrev main_while0b_call14_v1 : Ref sig .tc := ⟨.hbm, 172, rfl⟩
abbrev main_while0b_call14_v2 : Ref sig .tc := ⟨.hbm, 173, rfl⟩
abbrev main_while0b_v99 : Ref sig .tc := ⟨.hbm, 174, rfl⟩
abbrev main_while0b_v100 : Ref sig .tc := ⟨.hbm, 175, rfl⟩
abbrev main_while0b_v101 : Ref sig .tc := ⟨.hbm, 176, rfl⟩
abbrev main_while0b_v102 : Ref sig .tc := ⟨.hbm, 177, rfl⟩
abbrev main_while0b_cst_15 : Ref sig .tc := ⟨.hbm, 178, rfl⟩
abbrev main_while0b_v103 : Ref sig .tc := ⟨.hbm, 179, rfl⟩
abbrev main_while0b_v104 : Ref sig .tc := ⟨.hbm, 180, rfl⟩
abbrev main_while0b_v105 : Ref sig .tc := ⟨.hbm, 181, rfl⟩
abbrev main_while0b_v106 : Ref sig .tc := ⟨.hbm, 182, rfl⟩
abbrev main_while0b_v107 : Ref sig .tc := ⟨.hbm, 183, rfl⟩
abbrev main_while0b_v108 : Ref sig .tc := ⟨.hbm, 184, rfl⟩
abbrev main_while0b_v109 : Ref sig .tc := ⟨.hbm, 185, rfl⟩
abbrev main_while0b_v110 : Ref sig .tc := ⟨.hbm, 186, rfl⟩
abbrev main_while0b_v111 : Ref sig .tc := ⟨.hbm, 187, rfl⟩
abbrev main_while0b_v112 : Ref sig .tc := ⟨.hbm, 188, rfl⟩
abbrev main_while0b_v113 : Ref sig .tc := ⟨.hbm, 189, rfl⟩
abbrev main_while0b_v114 : Ref sig .tc := ⟨.hbm, 190, rfl⟩
abbrev main_while0b_v115 : Ref sig .tc := ⟨.hbm, 191, rfl⟩
abbrev main_while0b_v116 : Ref sig .tc := ⟨.hbm, 192, rfl⟩
abbrev main_while0b_v117 : Ref sig .tc := ⟨.hbm, 193, rfl⟩
abbrev main_while0b_v118 : Ref sig .tc := ⟨.hbm, 194, rfl⟩
abbrev main_while0b_cst_16 : Ref sig .tc := ⟨.hbm, 195, rfl⟩
abbrev main_while0b_v119 : Ref sig .tc := ⟨.hbm, 196, rfl⟩
abbrev main_while0b_v120 : Ref sig .tc := ⟨.hbm, 197, rfl⟩
abbrev main_while0b_v121 : Ref sig .tc := ⟨.hbm, 198, rfl⟩
abbrev main_while0b_v122 : Ref sig .tc := ⟨.hbm, 199, rfl⟩
abbrev main_while0b_v123 : Ref sig .tc := ⟨.hbm, 200, rfl⟩
abbrev main_while0b_v124 : Ref sig .tc := ⟨.hbm, 201, rfl⟩
abbrev main_while0b_v125 : Ref sig .tc := ⟨.hbm, 202, rfl⟩
abbrev main_while0b_v126 : Ref sig .tc := ⟨.hbm, 203, rfl⟩
abbrev main_while0b_v127 : Ref sig .tc := ⟨.hbm, 204, rfl⟩
abbrev main_while0b_v128 : Ref sig .tc := ⟨.hbm, 205, rfl⟩
abbrev main_while0b_v129 : Ref sig .tc := ⟨.hbm, 206, rfl⟩
abbrev main_while0b_v130 : Ref sig .tc := ⟨.hbm, 207, rfl⟩
abbrev main_while0b_v131 : Ref sig .tc := ⟨.hbm, 208, rfl⟩
abbrev main_while0b_v132 : Ref sig .tc := ⟨.hbm, 209, rfl⟩
abbrev main_while0b_v133 : Ref sig .tc := ⟨.hbm, 210, rfl⟩
abbrev main_while0b_v134 : Ref sig .tc := ⟨.hbm, 211, rfl⟩
abbrev main_while0b_v135 : Ref sig .tc := ⟨.hbm, 212, rfl⟩
abbrev main_while0b_v136 : Ref sig .tc := ⟨.hbm, 213, rfl⟩
abbrev main_while0b_cst_17 : Ref sig .tc := ⟨.hbm, 214, rfl⟩
abbrev main_while0b_v137 : Ref sig .tc := ⟨.hbm, 215, rfl⟩
abbrev main_while0b_v138 : Ref sig .tc := ⟨.hbm, 216, rfl⟩
abbrev main_while0b_v139 : Ref sig .tc := ⟨.hbm, 217, rfl⟩
abbrev main_while0b_v140 : Ref sig .tc := ⟨.hbm, 218, rfl⟩
abbrev main_while0b_v141 : Ref sig .tc := ⟨.hbm, 219, rfl⟩
abbrev main_while0b_v142 : Ref sig .tc := ⟨.hbm, 220, rfl⟩
abbrev main_while0b_v143 : Ref sig .tc := ⟨.hbm, 221, rfl⟩
abbrev main_while0b_v144 : Ref sig .tc := ⟨.hbm, 222, rfl⟩
abbrev main_while0b_v145 : Ref sig .tc := ⟨.hbm, 223, rfl⟩
abbrev main_while0b_v146 : Ref sig .tc := ⟨.hbm, 224, rfl⟩
abbrev main_while0b_v147 : Ref sig .tc := ⟨.hbm, 225, rfl⟩
abbrev main_while0b_v148 : Ref sig .tc := ⟨.hbm, 226, rfl⟩
abbrev main_while0b_v149 : Ref sig .tc := ⟨.hbm, 227, rfl⟩
abbrev main_while0b_v150 : Ref sig .tc := ⟨.hbm, 228, rfl⟩
abbrev main_while0b_v151 : Ref sig .tc := ⟨.hbm, 229, rfl⟩
abbrev main_while0b_v152 : Ref sig .tc := ⟨.hbm, 230, rfl⟩
abbrev main_while0b_v153 : Ref sig .tc := ⟨.hbm, 231, rfl⟩
abbrev main_while0b_v154 : Ref sig .tc := ⟨.hbm, 232, rfl⟩
abbrev main_while0b_v155 : Ref sig .tc := ⟨.hbm, 233, rfl⟩
abbrev main_while0b_v156 : Ref sig .tc := ⟨.hbm, 234, rfl⟩
abbrev main_while0b_v157 : Ref sig .tc := ⟨.hbm, 235, rfl⟩
abbrev main_while0b_v158 : Ref sig .tc := ⟨.hbm, 236, rfl⟩
abbrev main_while0b_call15_v0 : Ref sig .tc := ⟨.hbm, 237, rfl⟩
abbrev main_while0b_call15_c : Ref sig .tc := ⟨.hbm, 238, rfl⟩
abbrev main_while0b_call15_c_0 : Ref sig .tc := ⟨.hbm, 239, rfl⟩
abbrev main_while0b_call15_c_1 : Ref sig .tc := ⟨.hbm, 240, rfl⟩
abbrev main_while0b_call15_c_2 : Ref sig .tc := ⟨.hbm, 241, rfl⟩
abbrev main_while0b_v159 : Ref sig .tc := ⟨.hbm, 242, rfl⟩
abbrev main_while0b_c_18 : Ref sig .tc := ⟨.hbm, 243, rfl⟩
abbrev main_while0b_v160 : Ref sig .tc := ⟨.hbm, 244, rfl⟩
abbrev main_v71 : Ref sig .tc := ⟨.hbm, 245, rfl⟩
abbrev main_v72 : Ref sig .tc := ⟨.hbm, 246, rfl⟩
abbrev main_v73 : Ref sig .tc := ⟨.hbm, 247, rfl⟩
abbrev main_v74 : Ref sig .tc := ⟨.hbm, 248, rfl⟩
abbrev main_v75 : Ref sig .tc := ⟨.hbm, 249, rfl⟩
abbrev main_v76 : Ref sig .tc := ⟨.hbm, 250, rfl⟩
abbrev main_v77 : Ref sig .tc := ⟨.hbm, 251, rfl⟩
abbrev main_v78 : Ref sig .tc := ⟨.hbm, 252, rfl⟩
abbrev main_v79 : Ref sig .tc := ⟨.hbm, 253, rfl⟩
abbrev main_v80 : Ref sig .tc := ⟨.hbm, 254, rfl⟩
abbrev main_v81 : Ref sig .tc := ⟨.hbm, 255, rfl⟩
abbrev main_v82 : Ref sig .tc := ⟨.hbm, 256, rfl⟩
abbrev main_v83 : Ref sig .tc := ⟨.hbm, 257, rfl⟩
abbrev main_v84 : Ref sig .tc := ⟨.hbm, 258, rfl⟩

abbrev nD : Nat := 1
abbrev τ : Topo := Topo.v7x

variable {F : FTy → Type} [FloatOps F]

abbrev main_while0_count : Scf.Loop 32 := ⟨0#32, 132#32, 1#32⟩
-- ==== Kernel3.lean ====
abbrev S16384x1024 : Shape := ⟨2, ![16384, 1024]⟩
abbrev S16384x2048 : Shape := ⟨2, ![16384, 2048]⟩
abbrev S1x1024 : Shape := ⟨2, ![1, 1024]⟩
abbrev S1024x1024 : Shape := ⟨2, ![1024, 1024]⟩
abbrev S2048x2048 : Shape := ⟨2, ![2048, 2048]⟩
abbrev S4x2048 : Shape := ⟨2, ![4, 2048]⟩
abbrev S2x8x2048 : Shape := ⟨3, ![2, 8, 2048]⟩
abbrev S2048x256 : Shape := ⟨2, ![2048, 256]⟩
abbrev S262144x128 : Shape := ⟨2, ![262144, 128]⟩
abbrev S16384x128 : Shape := ⟨2, ![16384, 128]⟩
abbrev S256x1024 : Shape := ⟨2, ![256, 1024]⟩
abbrev S256x2048 : Shape := ⟨2, ![256, 2048]⟩
abbrev S1x8x2048 : Shape := ⟨3, ![1, 8, 2048]⟩
abbrev S4096x128 : Shape := ⟨2, ![4096, 128]⟩
abbrev S256x128 : Shape := ⟨2, ![256, 128]⟩
abbrev S8x2048 : Shape := ⟨2, ![8, 2048]⟩
abbrev S256 : Shape := ⟨1, ![256]⟩
abbrev S256x1 : Shape := ⟨2, ![256, 1]⟩
abbrev S1x2048 : Shape := ⟨2, ![1, 2048]⟩
abbrev S256x256 : Shape := ⟨2, ![256, 256]⟩
abbrev S2048x128 : Shape := ⟨2, ![2048, 128]⟩

abbrev nBuf : Space → Nat
  | .hbm => 14
  | .vmem => 22
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .bf16⟩
  | .hbm, ⟨3, _⟩ => ⟨S16384x2048, .f32⟩
  | .hbm, ⟨4, _⟩ => ⟨S1x1024, .f32⟩
  | .hbm, ⟨5, _⟩ => ⟨S1024x1024, .bf16⟩
  | .hbm, ⟨6, _⟩ => ⟨S1x1024, .f32⟩
  | .hbm, ⟨7, _⟩ => ⟨S2048x2048, .bf16⟩
  | .hbm, ⟨8, _⟩ => ⟨S4x2048, .f32⟩
  | .hbm, ⟨9, _⟩ => ⟨S2x8x2048, .f32⟩
  | .hbm, ⟨10, _⟩ => ⟨S2048x256, .bf16⟩
  | .hbm, ⟨11, _⟩ => ⟨S16384x2048, .f32⟩
  | .hbm, ⟨12, _⟩ => ⟨S262144x128, .f32⟩
  | .hbm, ⟨13, _⟩ => ⟨S16384x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .bf16⟩
  | .local _ .vmem, ⟨5, _⟩ => ⟨S256x1024, .bf16⟩
  | .local _ .vmem, ⟨6, _⟩ => ⟨S256x2048, .f32⟩
  | .local _ .vmem, ⟨7, _⟩ => ⟨S256x2048, .f32⟩
  | .local _ .vmem, ⟨8, _⟩ => ⟨S1x1024, .f32⟩
  | .local _ .vmem, ⟨9, _⟩ => ⟨S1024x1024, .bf16⟩
  | .local _ .vmem, ⟨10, _⟩ => ⟨S1x1024, .f32⟩
  | .local _ .vmem, ⟨11, _⟩ => ⟨S2048x2048, .bf16⟩
  | .local _ .vmem, ⟨12, _⟩ => ⟨S4x2048, .f32⟩
  | .local _ .vmem, ⟨13, _⟩ => ⟨S1x8x2048, .f32⟩
  | .local _ .vmem, ⟨14, _⟩ => ⟨S1x8x2048, .f32⟩
  | .local _ .vmem, ⟨15, _⟩ => ⟨S2048x256, .bf16⟩
  | .local _ .vmem, ⟨16, _⟩ => ⟨S256x2048, .f32⟩
  | .local _ .vmem, ⟨17, _⟩ => ⟨S256x2048, .f32⟩
  | .local _ .vmem, ⟨18, _⟩ => ⟨S4096x128, .f32⟩
  | .local _ .vmem, ⟨19, _⟩ => ⟨S4096x128, .f32⟩
  | .local _ .vmem, ⟨20, _⟩ => ⟨S256x128, .f32⟩
  | .local _ .vmem, ⟨21, _⟩ => ⟨S256x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x8x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S2048x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4096x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference3Ideal.lean ====
abbrev S16384x1024 : Shape := ⟨2, ![16384, 1024]⟩
abbrev S16384x2048 : Shape := ⟨2, ![16384, 2048]⟩
abbrev S1x1024 : Shape := ⟨2, ![1, 1024]⟩
abbrev S1024x1024 : Shape := ⟨2, ![1024, 1024]⟩
abbrev S2048x2048 : Shape := ⟨2, ![2048, 2048]⟩
abbrev S4x2048 : Shape := ⟨2, ![4, 2048]⟩
abbrev S2x8x2048 : Shape := ⟨3, ![2, 8, 2048]⟩
abbrev S2048x256 : Shape := ⟨2, ![2048, 256]⟩
abbrev S2x1x2048 : Shape := ⟨3, ![2, 1, 2048]⟩
abbrev S_ : Shape := ⟨0, ![]⟩
abbrev S2x8192x2048 : Shape := ⟨3, ![2, 8192, 2048]⟩
abbrev S1x2048 : Shape := ⟨2, ![1, 2048]⟩
abbrev S2048 : Shape := ⟨1, ![2048]⟩
abbrev S2x8192 : Shape := ⟨2, ![2, 8192]⟩
abbrev S2x8192x1 : Shape := ⟨3, ![2, 8192, 1]⟩
abbrev S1x1x2048 : Shape := ⟨3, ![1, 1, 2048]⟩
abbrev S262144x128 : Shape := ⟨2, ![262144, 128]⟩

abbrev nBuf : Space → Nat
  | .hbm => 101
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .bf16⟩
  | .hbm, ⟨3, _⟩ => ⟨S16384x2048, .f32⟩
  | .hbm, ⟨4, _⟩ => ⟨S1x1024, .f32⟩
  | .hbm, ⟨5, _⟩ => ⟨S1024x1024, .bf16⟩
  | .hbm, ⟨6, _⟩ => ⟨S1x1024, .f32⟩
  | .hbm, ⟨7, _⟩ => ⟨S2048x2048, .bf16⟩
  | .hbm, ⟨8, _⟩ => ⟨S4x2048, .f32⟩
  | .hbm, ⟨9, _⟩ => ⟨S2x8x2048, .f32⟩
  | .hbm, ⟨10, _⟩ => ⟨S2048x256, .bf16⟩
  | .hbm, ⟨11, _⟩ => ⟨S2x1x2048, .f32⟩
  | .hbm, ⟨12, _⟩ => ⟨S2x1x2048, .f32⟩
  | .hbm, ⟨13, _⟩ => ⟨S2x1x2048, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S1024x1024, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S_, .f32⟩
  | .hbm, ⟨41, _⟩ => ⟨S16384x1024, .f32⟩
  | .hbm, ⟨42, _⟩ => ⟨S16384x1024, .f32⟩
  | .hbm, ⟨43, _⟩ => ⟨S_, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x2048, .f32⟩
  | .hbm, ⟨49, _⟩ => ⟨S2048x2048, .f32⟩
  | .hbm, ⟨50, _⟩ => ⟨S16384x2048, .f32⟩
  | .hbm, ⟨51, _⟩ => ⟨S2x8192x2048, .f32⟩
  | .hbm, ⟨52, _⟩ => ⟨S2x8192x2048, .f32⟩
  | .hbm, ⟨53, _⟩ => ⟨S1x2048, .f32⟩
  | .hbm, ⟨54, _⟩ => ⟨S2048, .f32⟩
  | .hbm, ⟨55, _⟩ => ⟨S2x8192x2048, .f32⟩
  | .hbm, ⟨56, _⟩ => ⟨S_, .f32⟩
  | .hbm, ⟨57, _⟩ => ⟨S2x8192, .f32⟩
  | .hbm, ⟨58, _⟩ => ⟨S2x8192x1, .f32⟩
  | .hbm, ⟨59, _⟩ => ⟨S_, .f32⟩
  | .hbm, ⟨60, _⟩ => ⟨S2x8192x1, .f32⟩
  | .hbm, ⟨61, _⟩ => ⟨S2x8192x1, .f32⟩
  | .hbm, ⟨62, _⟩ => ⟨S_, .f32⟩
  | .hbm, ⟨63, _⟩ => ⟨S2x8192x1, .f32⟩
  | .hbm, ⟨64, _⟩ => ⟨S2x8192x1, .f32⟩
  | .hbm, ⟨65, _⟩ => ⟨S2x8192x1, .f32⟩
  | .hbm, ⟨66, _⟩ => ⟨S2x8192x2048, .f32⟩
  | .hbm, ⟨67, _⟩ => ⟨S2x8192x2048, .f32⟩
  | .hbm, ⟨68, _⟩ => ⟨S1x1x2048, .f32⟩
  | .hbm, ⟨69, _⟩ => ⟨S2x8192x2048, .f32⟩
  | .hbm, ⟨70, _⟩ => ⟨S2x8192x2048, .f32⟩
  | .hbm, ⟨71, _⟩ => ⟨S2x8192x2048, .f32⟩
  | .hbm, ⟨72, _⟩ => ⟨S2x8192x2048, .f32⟩
  | .hbm, ⟨73, _⟩ => ⟨S2x8192x2048, .f32⟩
  | .hbm, ⟨74, _⟩ => ⟨S1x2048, .f32⟩
  | .hbm, ⟨75, _⟩ => ⟨S2048, .f32⟩
  | .hbm, ⟨76, _⟩ => ⟨S2x8192x2048, .f32⟩
  | .hbm, ⟨77, _⟩ => ⟨S_, .f32⟩
  | .hbm, ⟨78, _⟩ => ⟨S2x8192, .f32⟩
  | .hbm, ⟨79, _⟩ => ⟨S2x8192x1, .f32⟩
  | .hbm, ⟨80, _⟩ => ⟨S_, .f32⟩
  | .hbm, ⟨81, _⟩ => ⟨S2x8192x1, .f32⟩
  | .hbm, ⟨82, _⟩ => ⟨S2x8192x1, .f32⟩
  | .hbm, ⟨83, _⟩ => ⟨S_, .f32⟩
  | .hbm, ⟨84, _⟩ => ⟨S2x8192x1, .f32⟩
  | .hbm, ⟨85, _⟩ => ⟨S2x8192x1, .f32⟩
  | .hbm, ⟨86, _⟩ => ⟨S2x8192x1, .f32⟩
  | .hbm, ⟨87, _⟩ => ⟨S2x8192x2048, .f32⟩
  | .hbm, ⟨88, _⟩ => ⟨S2x8192x2048, .f32⟩
  | .hbm, ⟨89, _⟩ => ⟨S1x1x2048, .f32⟩
  | .hbm, ⟨90, _⟩ => ⟨S2x8192x2048, .f32⟩
  | .hbm, ⟨91, _⟩ => ⟨S2x8192x2048, .f32⟩
  | .hbm, ⟨92, _⟩ => ⟨S_, .f32⟩
  | .hbm, ⟨93, _⟩ => ⟨S2x1x2048, .f32⟩
  | .hbm, ⟨94, _⟩ => ⟨S2x1x2048, .f32⟩
  | .hbm, ⟨95, _⟩ => ⟨S2x8192x2048, .f32⟩
  | .hbm, ⟨96, _⟩ => ⟨S2x8192x2048, .f32⟩
  | .hbm, ⟨97, _⟩ => ⟨S2x8192x2048, .f32⟩
  | .hbm, ⟨98, _⟩ => ⟨S2x8192x2048, .f32⟩
  | .hbm, ⟨99, _⟩ => ⟨S16384x2048, .f32⟩
  | .hbm, ⟨100, _⟩ => ⟨S262144x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_5 : Ref sig .tc := ⟨.hbm, 56, rfl⟩
abbrev main_v39 : Ref sig .tc := ⟨.hbm, 57, rfl⟩
abbrev main_v40 : Ref sig .tc := ⟨.hbm, 58, rfl⟩
abbrev main_cst_6 : Ref sig .tc := ⟨.hbm, 59, rfl⟩
abbrev main_v41 : Ref sig .tc := ⟨.hbm, 60, rfl⟩
abbrev main_v42 : Ref sig .tc := ⟨.hbm, 61, rfl⟩
abbrev main_cst_7 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_8 : Ref sig .tc := ⟨.hbm, 77, rfl⟩
abbrev main_v57 : Ref sig .tc := ⟨.hbm, 78, rfl⟩
abbrev main_v58 : Ref sig .tc := ⟨.hbm, 79, rfl⟩
abbrev main_cst_9 : Ref sig .tc := ⟨.hbm, 80, rfl⟩
abbrev main_v59 : Ref sig .tc := ⟨.hbm, 81, rfl⟩
abbrev main_v60 : Ref sig .tc := ⟨.hbm, 82, rfl⟩
abbrev main_cst_10 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_11 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩

abbrev nD : Nat := 1
abbrev τ : Topo := Topo.v7x

variable {F : FTy → Type} [FloatOps F]
-- ==== Proof.FfnRunA.lean ====
/- Kernel: the expert feed-forward's body at a first column block (the accumulator is zeroed). The output's slabs are strided: column tile c of a block goes to rows c, c+8, c+16, … -/
module

public import proofs.«01_k».proof.Proof.FfnRuns

@[expose] public section

-- membership in a rectangle of production extents (`View.cover_of_tiled`): the elaborator's structural look
-- recurses once per coordinate of the long axes
set_option maxRecDepth 16384

noncomputable section

namespace Cert.Kernel.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 8, … 248: 32 of 256), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`*_eq_skeleton`), which `sl_exec` runs (Lib/Exec.lean) — each `scf.if` decided by the case's hypotheses `hc·`; the pieces are
    the witness that run finds (assigned when `iexact` hands the buffer to the continuation). Here also the FORGOTTEN outputs' (5) at anything, handed back at some contents nothing names. -/
noncomputable def kernelRun0_A (c : Dev nD) (i : grid0.Coords) (arg3 : Memref sig .tc .vmem S1x1x1024x2048 .bf16) (harg3 : arg3.IsWhole) (arg4 : Memref sig .tc .vmem S1x1x1024x1 .f32) (harg4 : arg4.IsWhole) (arg5 : Memref sig .tc .vmem S1x2048x256 .f32) (harg5 : arg5.IsWhole) (arg6 : Memref sig .tc .vmem S1x2048x256 .f32) (harg6 : arg6.IsWhole) (arg7 : Memref sig .tc .vmem S1x256x2048 .f32) (harg7 : arg7.IsWhole) (arg8 : Memref sig .tc .vmem S1x1x2x8192x128 .f32) (harg8 : arg8.IsWhole) (arg9 : Memref sig .tc .vmem S1024x2048 .f32) (harg9 : arg9.IsWhole) (hc0 : cond0_0 i) (hc1 : ¬cond0_1 i)
    (x0 : Vec F S1x1x1024x2048 .bf16) (x1 : Vec F S1x1x1024x1 .f32) (x2 : Vec F S1x2048x256 .f32) (x3 : Vec F S1x2048x256 .f32) (x4 : Vec F S1x256x2048 .f32) :
    { LS0 : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ f, arg9.view.loc (c : Thread nD τ) ↦[arg9.view.set]{fullShare} arg9.view.writes (Elt F) f LS0)) -∗ K ⟨⟩))
          ⊢ wp frame (wpE (defs₀ (F := F)) Variants.none c none) E (cc0_expert_ffn i arg3 harg3 arg4 harg4 arg5 harg5 arg6 harg6 arg7 harg7 arg8 harg8 arg9 harg9) K } := by
  refine ⟨?_, fun E K => ?run⟩
  case run =>
    simp only [cc0_expert_ffn_eq_skeleton]; unfold cc0_expert_ffn_skel
    simp only [k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _, _; isplitr; swap; · iexact H5
      ipureintro; rfl
    iexists _; iexact HS0

end Cert.Kernel.Ffn

end
-- ==== Proof.FfnRunB.lean ====
/- Kernel: the expert feed-forward's body at a middle column block. The output's slabs are strided: column tile c of a block goes to rows c, c+8, c+16, … -/
module

public import proofs.«01_k».proof.Proof.FfnRunA

@[expose] public section

-- membership in a rectangle of production extents (`View.cover_of_tiled`): the elaborator's structural look
-- recurses once per coordinate of the long axes
set_option maxRecDepth 16384

noncomputable section

namespace Cert.Kernel.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 254: 192 of 256), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`*_eq_skeleton`), which `sl_exec` runs (Lib/Exec.lean) — each `scf.if` decided by the case's hypotheses `hc·`; the pieces are
    the witness that run finds (assigned when `iexact` hands the buffer to the continuation). Here also the FORGOTTEN outputs' (5) at anything, handed back at some contents nothing names. -/
noncomputable def kernelRun0_B (c : Dev nD) (i : grid0.Coords) (arg3 : Memref sig .tc .vmem S1x1x1024x2048 .bf16) (harg3 : arg3.IsWhole) (arg4 : Memref sig .tc .vmem S1x1x1024x1 .f32) (harg4 : arg4.IsWhole) (arg5 : Memref sig .tc .vmem S1x2048x256 .f32) (harg5 : arg5.IsWhole) (arg6 : Memref sig .tc .vmem S1x2048x256 .f32) (harg6 : arg6.IsWhole) (arg7 : Memref sig .tc .vmem S1x256x2048 .f32) (harg7 : arg7.IsWhole) (arg8 : Memref sig .tc .vmem S1x1x2x8192x128 .f32) (harg8 : arg8.IsWhole) (arg9 : Memref sig .tc .vmem S1024x2048 .f32) (harg9 : arg9.IsWhole) (hc0 : ¬cond0_0 i) (hc1 : ¬cond0_1 i)
    (x0 : Vec F S1x1x1024x2048 .bf16) (x1 : Vec F S1x1x1024x1 .f32) (x2 : Vec F S1x2048x256 .f32) (x3 : Vec F S1x2048x256 .f32) (x4 : Vec F S1x256x2048 .f32) (xs0 : Vec F S1024x2048 .f32) :
    { LS0 : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ f, arg9.view.loc (c : Thread nD τ) ↦[arg9.view.set]{fullShare} arg9.view.writes (Elt F) f LS0)) -∗ K ⟨⟩))
          ⊢ wp frame (wpE (defs₀ (F := F)) Variants.none c none) E (cc0_expert_ffn i arg3 harg3 arg4 harg4 arg5 harg5 arg6 harg6 arg7 harg7 arg8 harg8 arg9 harg9) K } := by
  refine ⟨?_, fun E K => ?run⟩
  case run =>
    simp only [cc0_expert_ffn_eq_skeleton]; unfold cc0_expert_ffn_skel
    simp only [k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _, _; isplitr; swap; · iexact H5
      ipureintro; rfl
    iexists _; iexact HS0

end Cert.Kernel.Ffn

end
-- ==== Proof.FfnRunC.lean ====
/- Kernel: the expert feed-forward's body at a last column block (the gated result is stored). The output's slabs are strided: column tile c of a block goes to rows c, c+8, c+16, … -/
module

public import proofs.«01_k».proof.Proof.FfnRunB

@[expose] public section

-- membership in a rectangle of production extents (`View.cover_of_tiled`): the elaborator's structural look
-- recurses once per coordinate of the long axes
set_option maxRecDepth 16384

noncomputable section

namespace Cert.Kernel.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 taken: points 7, 15, … 255: 32 of 256), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`*_eq_skeleton`), which `sl_exec` runs (Lib/Exec.lean) — each `scf.if` decided by the case's hypotheses `hc·`; the pieces are
    the witness that run finds (assigned when `iexact` hands the buffer to the continuation). Here also the FORGOTTEN outputs' (5) at anything, handed back at some contents nothing names. -/
noncomputable def kernelRun0_C (c : Dev nD) (i : grid0.Coords) (arg3 : Memref sig .tc .vmem S1x1x1024x2048 .bf16) (harg3 : arg3.IsWhole) (arg4 : Memref sig .tc .vmem S1x1x1024x1 .f32) (harg4 : arg4.IsWhole) (arg5 : Memref sig .tc .vmem S1x2048x256 .f32) (harg5 : arg5.IsWhole) (arg6 : Memref sig .tc .vmem S1x2048x256 .f32) (harg6 : arg6.IsWhole) (arg7 : Memref sig .tc .vmem S1x256x2048 .f32) (harg7 : arg7.IsWhole) (arg8 : Memref sig .tc .vmem S1x1x2x8192x128 .f32) (harg8 : arg8.IsWhole) (arg9 : Memref sig .tc .vmem S1024x2048 .f32) (harg9 : arg9.IsWhole) (hc0 : ¬cond0_0 i) (hc1 : cond0_1 i)
    (x0 : Vec F S1x1x1024x2048 .bf16) (x1 : Vec F S1x1x1024x1 .f32) (x2 : Vec F S1x2048x256 .f32) (x3 : Vec F S1x2048x256 .f32) (x4 : Vec F S1x256x2048 .f32) (xs0 : Vec F S1024x2048 .f32) :
    { LS0 : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ f, arg9.view.loc (c : Thread nD τ) ↦[arg9.view.set]{fullShare} arg9.view.writes (Elt F) f LS0)) -∗ K ⟨⟩))
          ⊢ wp frame (wpE (defs₀ (F := F)) Variants.none c none) E (cc0_expert_ffn i arg3 harg3 arg4 harg4 arg5 harg5 arg6 harg6 arg7 harg7 arg8 harg8 arg9 harg9) K } := by
  refine ⟨?_, fun E K => ?run⟩
  case run =>
    simp only [cc0_expert_ffn_eq_skeleton]; unfold cc0_expert_ffn_skel
    simp only [k0_part4_eq_skeleton, k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _, _; isplitr; swap; · iexact H5
      ipureintro; rfl
    iexists _; iexact HS0

end Cert.Kernel.Ffn

end
-- ==== Proof.FfnFrame.lean ====
/- Kernel: the expert feed-forward's whole run: the accumulator point by point, the body's obligation, the frame. The output's slabs are strided: column tile c of a block goes to rows c, c+8, c+16, … -/
module

public import proofs.«01_k».proof.Proof.FfnRunC
public import Idealize.ShloMosaic.Lib.Claim

@[expose] public section

-- membership in a rectangle of production extents (`View.cover_of_tiled`): the elaborator's structural look
-- recurses once per coordinate of the long axes
set_option maxRecDepth 16384

noncomputable section

namespace Cert.Kernel.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg9`, which the kernel carries between points, cover it: one of them a store of the WHOLE buffer (Lib/Ring.lean `sl_whole_mem`). -/
theorem scover0_A_0 (c : Dev nD) (i : grid0.Coords) (arg3 : Memref sig .tc .vmem S1x1x1024x2048 .bf16) (harg3 : arg3.IsWhole) (arg4 : Memref sig .tc .vmem S1x1x1024x1 .f32) (harg4 : arg4.IsWhole) (arg5 : Memref sig .tc .vmem S1x2048x256 .f32) (harg5 : arg5.IsWhole) (arg6 : Memref sig .tc .vmem S1x2048x256 .f32) (harg6 : arg6.IsWhole) (arg7 : Memref sig .tc .vmem S1x256x2048 .f32) (harg7 : arg7.IsWhole) (arg8 : Memref sig .tc .vmem S1x1x2x8192x128 .f32) (harg8 : arg8.IsWhole) (arg9 : Memref sig .tc .vmem S1024x2048 .f32) (harg9 : arg9.IsWhole) (hc0 : cond0_0 i) (hc1 : ¬cond0_1 i)
    (x0 : Vec F S1x1x1024x2048 .bf16) (x1 : Vec F S1x1x1024x1 .f32) (x2 : Vec F S1x2048x256 .f32) (x3 : Vec F S1x2048x256 .f32) (x4 : Vec F S1x256x2048 .f32) (y : S1024x2048.Idx) :
    ∃ pc ∈ (kernelRun0_A c i arg3 harg3 arg4 harg4 arg5 harg5 arg6 harg6 arg7 harg7 arg8 harg8 arg9 harg9 hc0 hc1 x0 x1 x2 x3 x4).1, y ∈ pc.1.set :=
  View.cover_of_wholeMem (kernelRun0_A c i arg3 harg3 arg4 harg4 arg5 harg5 arg6 harg6 arg7 harg7 arg8 harg8 arg9 harg9 hc0 hc1 x0 x1 x2 x3 x4).1 (by sl_whole_mem) y

/-- What case A leaves in scratch `arg9`: its pieces read back over junk. -/
def sout0_A_0 (c : Dev nD) (i : grid0.Coords) (arg3 : Memref sig .tc .vmem S1x1x1024x2048 .bf16) (harg3 : arg3.IsWhole) (arg4 : Memref sig .tc .vmem S1x1x1024x1 .f32) (harg4 : arg4.IsWhole) (arg5 : Memref sig .tc .vmem S1x2048x256 .f32) (harg5 : arg5.IsWhole) (arg6 : Memref sig .tc .vmem S1x2048x256 .f32) (harg6 : arg6.IsWhole) (arg7 : Memref sig .tc .vmem S1x256x2048 .f32) (harg7 : arg7.IsWhole) (arg8 : Memref sig .tc .vmem S1x1x2x8192x128 .f32) (harg8 : arg8.IsWhole) (arg9 : Memref sig .tc .vmem S1024x2048 .f32) (harg9 : arg9.IsWhole) (hc0 : cond0_0 i) (hc1 : ¬cond0_1 i)
    (x0 : Vec F S1x1x1024x2048 .bf16) (x1 : Vec F S1x1x1024x1 .f32) (x2 : Vec F S1x2048x256 .f32) (x3 : Vec F S1x2048x256 .f32) (x4 : Vec F S1x256x2048 .f32) : Vec F S1024x2048 .f32 :=
  VS0_0.read (Elt F) (VS0_0.writes (Elt F) VS0_0.junk (kernelRun0_A c i arg3 harg3 arg4 harg4 arg5 harg5 arg6 harg6 arg7 harg7 arg8 harg8 arg9 harg9 hc0 hc1 x0 x1 x2 x3 x4).1)

/-- Case B's pieces for scratch `arg9`, which the kernel carries between points, cover it: 4 pieces of `S1024x512` tiling it (Lib/Ring.lean `Piece.tiledL`). -/
theorem scover0_B_0 (c : Dev nD) (i : grid0.Coords) (arg3 : Memref sig .tc .vmem S1x1x1024x2048 .bf16) (harg3 : arg3.IsWhole) (arg4 : Memref sig .tc .vmem S1x1x1024x1 .f32) (harg4 : arg4.IsWhole) (arg5 : Memref sig .tc .vmem S1x2048x256 .f32) (harg5 : arg5.IsWhole) (arg6 : Memref sig .tc .vmem S1x2048x256 .f32) (harg6 : arg6.IsWhole) (arg7 : Memref sig .tc .vmem S1x256x2048 .f32) (harg7 : arg7.IsWhole) (arg8 : Memref sig .tc .vmem S1x1x2x8192x128 .f32) (harg8 : arg8.IsWhole) (arg9 : Memref sig .tc .vmem S1024x2048 .f32) (harg9 : arg9.IsWhole) (hc0 : ¬cond0_0 i) (hc1 : ¬cond0_1 i)
    (x0 : Vec F S1x1x1024x2048 .bf16) (x1 : Vec F S1x1x1024x1 .f32) (x2 : Vec F S1x2048x256 .f32) (x3 : Vec F S1x2048x256 .f32) (x4 : Vec F S1x256x2048 .f32) (xs0 : Vec F S1024x2048 .f32) (y : S1024x2048.Idx) :
    ∃ pc ∈ (kernelRun0_B c i arg3 harg3 arg4 harg4 arg5 harg5 arg6 harg6 arg7 harg7 arg8 harg8 arg9 harg9 hc0 hc1 x0 x1 x2 x3 x4 xs0).1, y ∈ pc.1.set :=
  View.cover_of_tiledL (kernelRun0_B c i arg3 harg3 arg4 harg4 arg5 harg5 arg6 harg6 arg7 harg7 arg8 harg8 arg9 harg9 hc0 hc1 x0 x1 x2 x3 x4 xs0).1 S1024x512.size (by sl_kernel_rfl) y

/-- What case B leaves in scratch `arg9`: its pieces read back over junk. -/
def sout0_B_0 (c : Dev nD) (i : grid0.Coords) (arg3 : Memref sig .tc .vmem S1x1x1024x2048 .bf16) (harg3 : arg3.IsWhole) (arg4 : Memref sig .tc .vmem S1x1x1024x1 .f32) (harg4 : arg4.IsWhole) (arg5 : Memref sig .tc .vmem S1x2048x256 .f32) (harg5 : arg5.IsWhole) (arg6 : Memref sig .tc .vmem S1x2048x256 .f32) (harg6 : arg6.IsWhole) (arg7 : Memref sig .tc .vmem S1x256x2048 .f32) (harg7 : arg7.IsWhole) (arg8 : Memref sig .tc .vmem S1x1x2x8192x128 .f32) (harg8 : arg8.IsWhole) (arg9 : Memref sig .tc .vmem S1024x2048 .f32) (harg9 : arg9.IsWhole) (hc0 : ¬cond0_0 i) (hc1 : ¬cond0_1 i)
    (x0 : Vec F S1x1x1024x2048 .bf16) (x1 : Vec F S1x1x1024x1 .f32) (x2 : Vec F S1x2048x256 .f32) (x3 : Vec F S1x2048x256 .f32) (x4 : Vec F S1x256x2048 .f32) (xs0 : Vec F S1024x2048 .f32) : Vec F S1024x2048 .f32 :=
  VS0_0.read (Elt F) (VS0_0.writes (Elt F) VS0_0.junk (kernelRun0_B c i arg3 harg3 arg4 harg4 arg5 harg5 arg6 harg6 arg7 harg7 arg8 harg8 arg9 harg9 hc0 hc1 x0 x1 x2 x3 x4 xs0).1)

/-- Case C's pieces for scratch `arg9`, which the kernel carries between points, cover it: 4 pieces of `S1024x512` tiling it (Lib/Ring.lean `Piece.tiledL`). -/
theorem scover0_C_0 (c : Dev nD) (i : grid0.Coords) (arg3 : Memref sig .tc .vmem S1x1x1024x2048 .bf16) (harg3 : arg3.IsWhole) (arg4 : Memref sig .tc .vmem S1x1x1024x1 .f32) (harg4 : arg4.IsWhole) (arg5 : Memref sig .tc .vmem S1x2048x256 .f32) (harg5 : arg5.IsWhole) (arg6 : Memref sig .tc .vmem S1x2048x256 .f32) (harg6 : arg6.IsWhole) (arg7 : Memref sig .tc .vmem S1x256x2048 .f32) (harg7 : arg7.IsWhole) (arg8 : Memref sig .tc .vmem S1x1x2x8192x128 .f32) (harg8 : arg8.IsWhole) (arg9 : Memref sig .tc .vmem S1024x2048 .f32) (harg9 : arg9.IsWhole) (hc0 : ¬cond0_0 i) (hc1 : cond0_1 i)
    (x0 : Vec F S1x1x1024x2048 .bf16) (x1 : Vec F S1x1x1024x1 .f32) (x2 : Vec F S1x2048x256 .f32) (x3 : Vec F S1x2048x256 .f32) (x4 : Vec F S1x256x2048 .f32) (xs0 : Vec F S1024x2048 .f32) (y : S1024x2048.Idx) :
    ∃ pc ∈ (kernelRun0_C c i arg3 harg3 arg4 harg4 arg5 harg5 arg6 harg6 arg7 harg7 arg8 harg8 arg9 harg9 hc0 hc1 x0 x1 x2 x3 x4 xs0).1, y ∈ pc.1.set :=
  View.cover_of_tiledL (kernelRun0_C c i arg3 harg3 arg4 harg4 arg5 harg5 arg6 harg6 arg7 harg7 arg8 harg8 arg9 harg9 hc0 hc1 x0 x1 x2 x3 x4 xs0).1 S1024x512.size (by sl_kernel_rfl) y

/-- What case C leaves in scratch `arg9`: its pieces read back over junk. -/
def sout0_C_0 (c : Dev nD) (i : grid0.Coords) (arg3 : Memref sig .tc .vmem S1x1x1024x2048 .bf16) (harg3 : arg3.IsWhole) (arg4 : Memref sig .tc .vmem S1x1x1024x1 .f32) (harg4 : arg4.IsWhole) (arg5 : Memref sig .tc .vmem S1x2048x256 .f32) (harg5 : arg5.IsWhole) (arg6 : Memref sig .tc .vmem S1x2048x256 .f32) (harg6 : arg6.IsWhole) (arg7 : Memref sig .tc .vmem S1x256x2048 .f32) (harg7 : arg7.IsWhole) (arg8 : Memref sig .tc .vmem S1x1x2x8192x128 .f32) (harg8 : arg8.IsWhole) (arg9 : Memref sig .tc .vmem S1024x2048 .f32) (harg9 : arg9.IsWhole) (hc0 : ¬cond0_0 i) (hc1 : cond0_1 i)
    (x0 : Vec F S1x1x1024x2048 .bf16) (x1 : Vec F S1x1x1024x1 .f32) (x2 : Vec F S1x2048x256 .f32) (x3 : Vec F S1x2048x256 .f32) (x4 : Vec F S1x256x2048 .f32) (xs0 : Vec F S1024x2048 .f32) : Vec F S1024x2048 .f32 :=
  VS0_0.read (Elt F) (VS0_0.writes (Elt F) VS0_0.junk (kernelRun0_C c i arg3 harg3 arg4 harg4 arg5 harg5 arg6 harg6 arg7 harg7 arg8 harg8 arg9 harg9 hc0 hc1 x0 x1 x2 x3 x4 xs0).1)

/-! ## What the outputs hold after each point -/

/-- THE ACCUMULATION. What the outputs' staging buffers and the scratch the kernel carries between points hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1024x2048 .f32
  | 0, hn => sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩)
  | n + 1, hn =>
    if h0 : (n + 1) % 8 = 0 then
      if h1 : (n + 1) % 8 = 7 then
        False.elim (by have hN : n + 1 < 256 := lt_of_lt_of_eq hn (show cfg0.N = 256 from N_0); omega)
      else
        sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩)
    else
      if h1 : (n + 1) % 8 = 7 then
        sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn))
      else
        sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn))

/-- `outsAt0` at a point of case A: that case's contents. -/
theorem outsAt0_A (c : Dev nD) (t : Fin cfg0.N) (h0 : t.val % 8 = 0) (h1 : ¬t.val % 8 = 7) :
    outsAt0 m c t.val t.isLt = sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 8 = 0) (h1 : ¬t.val % 8 = 7) :
    outsAt0 m c t.val t.isLt = sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 8 = 0) (h1 : t.val % 8 = 7) :
    outsAt0 m c t.val t.isLt = sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn))) ∗ (∃ r, prngReg c r))

/-- Before the first point the scratch holds anything. -/
theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn))) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)))) ∗ (∃ r, prngReg c r)) := by
  cases n with
  | zero => exact absurd rfl hz
  | succ n => rfl

/-! ## The pipeline's proof data -/

/-- The output windows this certificate FORGETS (5): nothing reads what the kernel leaves in them, so nothing
    of it is named (Lib/Pipeline/Dat.lean `Dat.toRForget`). -/
def forgets0 : Fin 6 → Bool := fun w => w.val == 5

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
/-- What window 1's buffer holds after a point. -/
theorem after0_1 (c : Dev nD) (t : Fin cfg0.N) : (dats m 0 c).after 1 t = iblk m c 1 t := by dsimp only [dats]
/-- What window 2's buffer holds after a point. -/
theorem after0_2 (c : Dev nD) (t : Fin cfg0.N) : (dats m 0 c).after 2 t = iblk m c 2 t := by dsimp only [dats]
/-- What window 3's buffer holds after a point. -/
theorem after0_3 (c : Dev nD) (t : Fin cfg0.N) : (dats m 0 c).after 3 t = iblk m c 3 t := by dsimp only [dats]
/-- What window 4's buffer holds after a point. -/
theorem after0_4 (c : Dev nD) (t : Fin cfg0.N) : (dats m 0 c).after 4 t = iblk m c 4 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- What window 1's buffer holds before a point. -/
theorem before0_1 (c : Dev nD) (t : Fin cfg0.N) (d) : (dats m 0 c).before 1 t d = iblk m c 1 t :=
  before0_1_of m (dats m 0 c) (A_eq m c 1) (after0_1 m c) t d
/-- What window 2's buffer holds before a point. -/
theorem before0_2 (c : Dev nD) (t : Fin cfg0.N) (d) : (dats m 0 c).before 2 t d = iblk m c 2 t :=
  before0_2_of m (dats m 0 c) (A_eq m c 2) (after0_2 m c) t d
/-- What window 3's buffer holds before a point. -/
theorem before0_3 (c : Dev nD) (t : Fin cfg0.N) (d) : (dats m 0 c).before 3 t d = iblk m c 3 t :=
  before0_3_of m (dats m 0 c) (A_eq m c 3) (after0_3 m c) t d
/-- What window 4's buffer holds before a point. -/
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (∃ d, owns (c : Thread nD τ) (ms0_5 t) fullShare d))

set_option maxHeartbeats 4800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  by_cases h0 : t.val % 8 = 0
  · by_cases h1 : t.val % 8 = 7
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      by_cases hz : t.val = 0
      · rw [PhiS_castSucc m c t, PhiS_zero m c _ _ hz, PhiA0_eq]
        rw [outsAt0_A m c t h0 h1]
        unfold sout0_A_0
        iintro ⟨⟨HS0, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, H5, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexact H5
      · rw [PhiS_castSucc m c t, PhiS_pos m c _ _ hz]
        rw [outsAt0_A m c t h0 h1]
        unfold sout0_A_0
        iintro ⟨⟨HS0, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexists _; iexact HS0
        iintro ⟨H0, H1, H2, H3, H4, H5, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexact H5
  · by_cases h1 : t.val % 8 = 7
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      by_cases hz : t.val = 0
      · exfalso; have hN : t.val < 256 := lt_of_lt_of_eq t.isLt (show cfg0.N = 256 from N_0); omega
      · rw [PhiS_castSucc m c t, PhiS_pos m c _ _ hz]
        rw [outsAt0_C m c t h0 h1]
        unfold sout0_C_0
        iintro ⟨⟨HS0, Hg⟩, Ho, ⟨%d0, H0⟩, ⟨%d1, H1⟩, ⟨%d2, H2⟩, ⟨%d3, H3⟩, ⟨%d4, H4⟩, ⟨%d5, H5⟩⟩
        iapply ((kernelRun0_C c (grid0.coords t) _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _).2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, H5, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexact H5
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      by_cases hz : t.val = 0
      · exfalso; have hN : t.val < 256 := lt_of_lt_of_eq t.isLt (show cfg0.N = 256 from N_0); omega
      · rw [PhiS_castSucc m c t, PhiS_pos m c _ _ hz]
        rw [outsAt0_B m c t h0 h1]
        unfold sout0_B_0
        iintro ⟨⟨HS0, Hg⟩, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) _).2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, H5, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 256 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (window 5) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of_forgets m ρ (fun c => (dats m 0 c).toRForget forgets0) (A_eq m) (run_main m ρ)

/-- The run terminates without a fault, leaves every argument array as it was, and leaves every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Ffn

end
-- ==== Proof.FfnIdealRuns.lean ====
/- KernelIdeal: the expert feed-forward's launch: its branch conditions, idle points and staging memrefs. The output's slabs are strided: column tile c of a block goes to rows c, c+8, c+16, … -/
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.FfnIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 2).val) 0#32)) 0#32) = 1#1
/-- It holds at the points ≡ 0 (mod 8) — by arithmetic of the point. -/
theorem hcond0_0 : ∀ t : Fin cfg0.N, cond0_0 (grid0.coords t) ↔ t.val % 8 = 0 :=
  (fun t => by
    have ht : t.val < 256 := Nat.lt_of_lt_of_eq t.isLt N_0
    have e0 : (grid0.coords t 0).val = t.val / 16 % 16 := Pipeline.Grid.coords_val t 0 (by decide) rfl
    have e1 : (grid0.coords t 1).val = t.val / 8 % 2 := Pipeline.Grid.coords_val t 1 (by decide) rfl
    have e2 : (grid0.coords t 2).val = t.val / 1 % 8 := Pipeline.Grid.coords_val t 2 (by decide) rfl
    simp only [cond0_0, e0, e1, e2]
    word_cmp
   : ∀ t : Fin grid0.N, cond0_0 (grid0.coords t) ↔ t.val % 8 = 0)

/-- The condition of the body's `scf.if` 1 (`k0_h2`), from the grid coordinates (the skeleton's scalar
    chain substituted). -/
abbrev cond0_1 (i : grid0.Coords) : Prop := k0_cond2 i = 1#1
/-- It holds at the points ≡ 7 (mod 8) — by arithmetic of the point. -/
theorem hcond0_1 : ∀ t : Fin cfg0.N, cond0_1 (grid0.coords t) ↔ t.val % 8 = 7 :=
  (fun t => by
    have ht : t.val < 256 := Nat.lt_of_lt_of_eq t.isLt N_0
    have e0 : (grid0.coords t 0).val = t.val / 16 % 16 := Pipeline.Grid.coords_val t 0 (by decide) rfl
    have e1 : (grid0.coords t 1).val = t.val / 8 % 2 := Pipeline.Grid.coords_val t 1 (by decide) rfl
    have e2 : (grid0.coords t 2).val = t.val / 1 % 8 := Pipeline.Grid.coords_val t 2 (by decide) rfl
    simp only [cond0_1, k0_cond2, e0, e1, e2]
    word_cmp
   : ∀ t : Fin grid0.N, cond0_1 (grid0.coords t) ↔ t.val % 8 = 7)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- At the points of case A the printed configuration (`Cfg.idle`) calls output 5 idle: the case stores nothing into it. -/
theorem idleAt0_5_A : ∀ t : Fin cfg0.N, cond0_0 (grid0.coords t) → ¬cond0_1 (grid0.coords t) → cfg0.idle 5 (grid0.coords t) = true := by decide +kernel
/-- At the points of case A the pipeline does not write output 5's block back. -/
theorem noFlush0_5_A : ∀ t : Fin cfg0.N, cond0_0 (grid0.coords t) → ¬cond0_1 (grid0.coords t) → (cfg0.win 5).flush t = false := by decide +kernel
/-- At the points of case B the printed configuration (`Cfg.idle`) calls output 5 idle: the case stores nothing into it. -/
theorem idleAt0_5_B : ∀ t : Fin cfg0.N, ¬cond0_0 (grid0.coords t) → ¬cond0_1 (grid0.coords t) → cfg0.idle 5 (grid0.coords t) = true := by decide +kernel
/-- At the points of case B the pipeline does not write output 5's block back. -/
theorem noFlush0_5_B : ∀ t : Fin cfg0.N, ¬cond0_0 (grid0.coords t) → ¬cond0_1 (grid0.coords t) → (cfg0.win 5).flush t = false := by decide +kernel
/-- At the points of case C the printed configuration (`Cfg.idle`) calls output 5 live: the case stores into it. -/
theorem liveAt0_5_C : ∀ t : Fin cfg0.N, ¬cond0_0 (grid0.coords t) → cond0_1 (grid0.coords t) → cfg0.idle 5 (grid0.coords t) = false := by decide +kernel

/-! ## The kernel body on any staging memrefs: a subtype the run finds -/

/-- One staging buffer of output window 5, through which its contents are stated (`View.read_writes_of_cover`: the
    choice does not matter). -/
abbrev VO0_5 : View sig .tc .vmem S1x1x2x8192x128 .f32 := (Memref.whole cc0_stg5_0 : Memref sig .tc .vmem S1x1x2x8192x128 .f32).view
/-- Each window's current staging memref at point `t`, spelled as the pipeline passes it (`bodyAt0`), and its wholeness. -/
abbrev ms0_0 (t : Fin cfg0.N) : Memref sig .tc .vmem S1x1x1024x2048 .bf16 := win0_0.stage (cfg0.slots t 0)
/-- Window 0's staging buffer at a point is a whole buffer. -/
abbrev hs0_0 (t : Fin cfg0.N) : (ms0_0 t).IsWhole := hstage0_0 ((cfg0.slots t 0).cast nbuf0_0)
/-- Window 1's staging buffer at a point. -/
abbrev ms0_1 (t : Fin cfg0.N) : Memref sig .tc .vmem S1x1x1024x1 .f32 := win0_1.stage (cfg0.slots t 1)
/-- Window 1's staging buffer at a point is a whole buffer. -/
abbrev hs0_1 (t : Fin cfg0.N) : (ms0_1 t).IsWhole := hstage0_1 ((cfg0.slots t 1).cast nbuf0_1)
/-- Window 2's staging buffer at a point. -/
abbrev ms0_2 (t : Fin cfg0.N) : Memref sig .tc .vmem S1x2048x256 .f32 := win0_2.stage (cfg0.slots t 2)
/-- Window 2's staging buffer at a point is a whole buffer. -/
abbrev hs0_2 (t : Fin cfg0.N) : (ms0_2 t).IsWhole := hstage0_2 ((cfg0.slots t 2).cast nbuf0_2)
/-- Window 3's staging buffer at a point. -/
abbrev ms0_3 (t : Fin cfg0.N) : Memref sig .tc .vmem S1x2048x256 .f32 := win0_3.stage (cfg0.slots t 3)
/-- Window 3's staging buffer at a point is a whole buffer. -/
abbrev hs0_3 (t : Fin cfg0.N) : (ms0_3 t).IsWhole := hstage0_3 ((cfg0.slots t 3).cast nbuf0_3)
/-- Window 4's staging buffer at a point. -/
abbrev ms0_4 (t : Fin cfg0.N) : Memref sig .tc .vmem S1x256x2048 .f32 := win0_4.stage (cfg0.slots t 4)
/-- Window 4's staging buffer at a point is a whole buffer. -/
abbrev hs0_4 (t : Fin cfg0.N) : (ms0_4 t).IsWhole := hstage0_4 ((cfg0.slots t 4).cast nbuf0_4)
/-- Window 5's staging buffer at a point. -/
abbrev ms0_5 (t : Fin cfg0.N) : Memref sig .tc .vmem S1x1x2x8192x128 .f32 := win0_5.stage (cfg0.slots t 5)
/-- Window 5's staging buffer at a point is a whole buffer. -/
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S1024x2048 .f32 := Memref.whole cc0_scratch0
/-- The scratch `arg9` the kernel carries between points, as a view: what it holds is stated through it. -/
abbrev VS0_0 : View sig .tc .vmem S1024x2048 .f32 := scM0_0.view

/-- The frame kit's invariant with the scratch operands as memrefs owned at some contents (`scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.FfnIdeal

end
-- ==== Proof.FfnIdealRunA.lean ====
/- KernelIdeal: the expert feed-forward's body at a first column block (the accumulator is zeroed). The output's slabs are strided: column tile c of a block goes to rows c, c+8, c+16, … -/
module

public import proofs.«01_k».proof.Proof.FfnIdealRuns

@[expose] public section

-- membership in a rectangle of production extents (`View.cover_of_tiled`): the elaborator's structural look
-- recurses once per coordinate of the long axes
set_option maxRecDepth 16384

noncomputable section

namespace Cert.KernelIdeal.FfnIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 8, … 248: 32 of 256), WITH the
    proof that on whole staging memrefs — the inputs' at their contents, the outputs it leaves idle (5: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg3 : Memref sig .tc .vmem S1x1x1024x2048 .bf16) (harg3 : arg3.IsWhole) (arg4 : Memref sig .tc .vmem S1x1x1024x1 .f32) (harg4 : arg4.IsWhole) (arg5 : Memref sig .tc .vmem S1x2048x256 .f32) (harg5 : arg5.IsWhole) (arg6 : Memref sig .tc .vmem S1x2048x256 .f32) (harg6 : arg6.IsWhole) (arg7 : Memref sig .tc .vmem S1x256x2048 .f32) (harg7 : arg7.IsWhole) (arg8 : Memref sig .tc .vmem S1x1x2x8192x128 .f32) (harg8 : arg8.IsWhole) (arg9 : Memref sig .tc .vmem S1024x2048 .f32) (harg9 : arg9.IsWhole) (hc0 : cond0_0 i) (hc1 : ¬cond0_1 i)
    (x0 : Vec F S1x1x1024x2048 .bf16) (x1 : Vec F S1x1x1024x1 .f32) (x2 : Vec F S1x2048x256 .f32) (x3 : Vec F S1x2048x256 .f32) (x4 : Vec F S1x256x2048 .f32) :
    Σ' (L5 : List (View.Piece (Elt F) S1x1x2x8192x128 .f32)), { LS0 : List (View.Piece (Elt F) S1024x2048 .f32) //
      ∀ (xi5 : Vec F S1x1x2x8192x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc0_expert_ffn i arg3 harg3 arg4 harg4 arg5 harg5 arg6 harg6 arg7 harg7 arg8 harg8 arg9 harg9) K } := by
  refine ⟨[], ?_, fun xi5 E K => ?run⟩
  case run =>
    simp only [cc0_expert_ffn_eq_skeleton]; unfold cc0_expert_ffn_skel
    simp only [k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.KernelIdeal.FfnIdeal

end
-- ==== Proof.FfnIdealRunB.lean ====
/- KernelIdeal: the expert feed-forward's body at a middle column block. The output's slabs are strided: column tile c of a block goes to rows c, c+8, c+16, … -/
module

public import proofs.«01_k».proof.Proof.FfnIdealRunA

@[expose] public section

-- membership in a rectangle of production extents (`View.cover_of_tiled`): the elaborator's structural look
-- recurses once per coordinate of the long axes
set_option maxRecDepth 16384

noncomputable section

namespace Cert.KernelIdeal.FfnIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 254: 192 of 256), WITH the
    proof that on whole staging memrefs — the inputs' at their contents, the outputs it leaves idle (5: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg3 : Memref sig .tc .vmem S1x1x1024x2048 .bf16) (harg3 : arg3.IsWhole) (arg4 : Memref sig .tc .vmem S1x1x1024x1 .f32) (harg4 : arg4.IsWhole) (arg5 : Memref sig .tc .vmem S1x2048x256 .f32) (harg5 : arg5.IsWhole) (arg6 : Memref sig .tc .vmem S1x2048x256 .f32) (harg6 : arg6.IsWhole) (arg7 : Memref sig .tc .vmem S1x256x2048 .f32) (harg7 : arg7.IsWhole) (arg8 : Memref sig .tc .vmem S1x1x2x8192x128 .f32) (harg8 : arg8.IsWhole) (arg9 : Memref sig .tc .vmem S1024x2048 .f32) (harg9 : arg9.IsWhole) (hc0 : ¬cond0_0 i) (hc1 : ¬cond0_1 i)
    (x0 : Vec F S1x1x1024x2048 .bf16) (x1 : Vec F S1x1x1024x1 .f32) (x2 : Vec F S1x2048x256 .f32) (x3 : Vec F S1x2048x256 .f32) (x4 : Vec F S1x256x2048 .f32) (xs0 : Vec F S1024x2048 .f32) :
    Σ' (L5 : List (View.Piece (Elt F) S1x1x2x8192x128 .f32)), { LS0 : List (View.Piece (Elt F) S1024x2048 .f32) //
      ∀ (xi5 : Vec F S1x1x2x8192x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc0_expert_ffn i arg3 harg3 arg4 harg4 arg5 harg5 arg6 harg6 arg7 harg7 arg8 harg8 arg9 harg9) K } := by
  refine ⟨[], ?_, fun xi5 E K => ?run⟩
  case run =>
    simp only [cc0_expert_ffn_eq_skeleton]; unfold cc0_expert_ffn_skel
    simp only [k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.KernelIdeal.FfnIdeal

end
-- ==== Proof.FfnIdealRunC.lean ====
/- KernelIdeal: the expert feed-forward's body at a last column block (the gated result is stored). The output's slabs are strided: column tile c of a block goes to rows c, c+8, c+16, … -/
module

public import proofs.«01_k».proof.Proof.FfnIdealRunB

@[expose] public section

-- membership in a rectangle of production extents (`View.cover_of_tiled`): the elaborator's structural look
-- recurses once per coordinate of the long axes
set_option maxRecDepth 16384

noncomputable section

namespace Cert.KernelIdeal.FfnIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 taken: points 7, 15, … 255: 32 of 256), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg3 : Memref sig .tc .vmem S1x1x1024x2048 .bf16) (harg3 : arg3.IsWhole) (arg4 : Memref sig .tc .vmem S1x1x1024x1 .f32) (harg4 : arg4.IsWhole) (arg5 : Memref sig .tc .vmem S1x2048x256 .f32) (harg5 : arg5.IsWhole) (arg6 : Memref sig .tc .vmem S1x2048x256 .f32) (harg6 : arg6.IsWhole) (arg7 : Memref sig .tc .vmem S1x256x2048 .f32) (harg7 : arg7.IsWhole) (arg8 : Memref sig .tc .vmem S1x1x2x8192x128 .f32) (harg8 : arg8.IsWhole) (arg9 : Memref sig .tc .vmem S1024x2048 .f32) (harg9 : arg9.IsWhole) (hc0 : ¬cond0_0 i) (hc1 : cond0_1 i)
    (x0 : Vec F S1x1x1024x2048 .bf16) (x1 : Vec F S1x1x1024x1 .f32) (x2 : Vec F S1x2048x256 .f32) (x3 : Vec F S1x2048x256 .f32) (x4 : Vec F S1x256x2048 .f32) (xs0 : Vec F S1024x2048 .f32) :
    Σ' (L5 : List (View.Piece (Elt F) S1x1x2x8192x128 .f32)), { LS0 : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0)) -∗ K ⟨⟩))
          ⊢ wp frame (wpE (defs₀ (F := F)) Variants.none c none) E (cc0_expert_ffn i arg3 harg3 arg4 harg4 arg5 harg5 arg6 harg6 arg7 harg7 arg8 harg8 arg9 harg9) K } := by
  refine ⟨?_, ?_, fun E K => ?run⟩
  case run =>
    simp only [cc0_expert_ffn_eq_skeleton]; unfold cc0_expert_ffn_skel
    simp only [k0_part4_eq_skeleton, k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS0

end Cert.KernelIdeal.FfnIdeal

end
-- ==== Proof.FfnIdealFrame.lean ====
/- KernelIdeal: the expert feed-forward's whole run: the accumulator point by point, the body's obligation, the frame. The output's slabs are strided: column tile c of a block goes to rows c, c+8, c+16, … -/
module

public import proofs.«01_k».proof.Proof.FfnIdealRunC
public import Idealize.ShloMosaic.Lib.Claim

@[expose] public section

-- membership in a rectangle of production extents (`View.cover_of_tiled`): the elaborator's structural look
-- recurses once per coordinate of the long axes
set_option maxRecDepth 16384

noncomputable section

namespace Cert.KernelIdeal.FfnIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A stores nothing into output 5 (the window is idle at its points and not written back there):
    no pieces — a placeholder (junk read back) that nothing consults, since at these points the window is neither
    written back nor read at the next point (Lib/Pipeline.lean "Idle points"). -/
def out0_A_5 (c : Dev nD) (i : grid0.Coords) (arg3 : Memref sig .tc .vmem S1x1x1024x2048 .bf16) (harg3 : arg3.IsWhole) (arg4 : Memref sig .tc .vmem S1x1x1024x1 .f32) (harg4 : arg4.IsWhole) (arg5 : Memref sig .tc .vmem S1x2048x256 .f32) (harg5 : arg5.IsWhole) (arg6 : Memref sig .tc .vmem S1x2048x256 .f32) (harg6 : arg6.IsWhole) (arg7 : Memref sig .tc .vmem S1x256x2048 .f32) (harg7 : arg7.IsWhole) (arg8 : Memref sig .tc .vmem S1x1x2x8192x128 .f32) (harg8 : arg8.IsWhole) (arg9 : Memref sig .tc .vmem S1024x2048 .f32) (harg9 : arg9.IsWhole) (hc0 : cond0_0 i) (hc1 : ¬cond0_1 i)
    (x0 : Vec F S1x1x1024x2048 .bf16) (x1 : Vec F S1x1x1024x1 .f32) (x2 : Vec F S1x2048x256 .f32) (x3 : Vec F S1x2048x256 .f32) (x4 : Vec F S1x256x2048 .f32) : Vec F S1x1x2x8192x128 .f32 :=
  VO0_5.read (Elt F) (VO0_5.writes (Elt F) VO0_5.junk (kernelRun0_A c i arg3 harg3 arg4 harg4 arg5 harg5 arg6 harg6 arg7 harg7 arg8 harg8 arg9 harg9 hc0 hc1 x0 x1 x2 x3 x4).1)

/-- Case A's pieces for scratch `arg9`, which the kernel carries between points, cover it: one of them a store of the WHOLE buffer (Lib/Ring.lean `sl_whole_mem`). -/
theorem scover0_A_0 (c : Dev nD) (i : grid0.Coords) (arg3 : Memref sig .tc .vmem S1x1x1024x2048 .bf16) (harg3 : arg3.IsWhole) (arg4 : Memref sig .tc .vmem S1x1x1024x1 .f32) (harg4 : arg4.IsWhole) (arg5 : Memref sig .tc .vmem S1x2048x256 .f32) (harg5 : arg5.IsWhole) (arg6 : Memref sig .tc .vmem S1x2048x256 .f32) (harg6 : arg6.IsWhole) (arg7 : Memref sig .tc .vmem S1x256x2048 .f32) (harg7 : arg7.IsWhole) (arg8 : Memref sig .tc .vmem S1x1x2x8192x128 .f32) (harg8 : arg8.IsWhole) (arg9 : Memref sig .tc .vmem S1024x2048 .f32) (harg9 : arg9.IsWhole) (hc0 : cond0_0 i) (hc1 : ¬cond0_1 i)
    (x0 : Vec F S1x1x1024x2048 .bf16) (x1 : Vec F S1x1x1024x1 .f32) (x2 : Vec F S1x2048x256 .f32) (x3 : Vec F S1x2048x256 .f32) (x4 : Vec F S1x256x2048 .f32) (y : S1024x2048.Idx) :
    ∃ pc ∈ (kernelRun0_A c i arg3 harg3 arg4 harg4 arg5 harg5 arg6 harg6 arg7 harg7 arg8 harg8 arg9 harg9 hc0 hc1 x0 x1 x2 x3 x4).2.1, y ∈ pc.1.set :=
  View.cover_of_wholeMem (kernelRun0_A c i arg3 harg3 arg4 harg4 arg5 harg5 arg6 harg6 arg7 harg7 arg8 harg8 arg9 harg9 hc0 hc1 x0 x1 x2 x3 x4).2.1 (by sl_whole_mem) y

/-- What case A leaves in scratch `arg9`: its pieces read back over junk. -/
def sout0_A_0 (c : Dev nD) (i : grid0.Coords) (arg3 : Memref sig .tc .vmem S1x1x1024x2048 .bf16) (harg3 : arg3.IsWhole) (arg4 : Memref sig .tc .vmem S1x1x1024x1 .f32) (harg4 : arg4.IsWhole) (arg5 : Memref sig .tc .vmem S1x2048x256 .f32) (harg5 : arg5.IsWhole) (arg6 : Memref sig .tc .vmem S1x2048x256 .f32) (harg6 : arg6.IsWhole) (arg7 : Memref sig .tc .vmem S1x256x2048 .f32) (harg7 : arg7.IsWhole) (arg8 : Memref sig .tc .vmem S1x1x2x8192x128 .f32) (harg8 : arg8.IsWhole) (arg9 : Memref sig .tc .vmem S1024x2048 .f32) (harg9 : arg9.IsWhole) (hc0 : cond0_0 i) (hc1 : ¬cond0_1 i)
    (x0 : Vec F S1x1x1024x2048 .bf16) (x1 : Vec F S1x1x1024x1 .f32) (x2 : Vec F S1x2048x256 .f32) (x3 : Vec F S1x2048x256 .f32) (x4 : Vec F S1x256x2048 .f32) : Vec F S1024x2048 .f32 :=
  VS0_0.read (Elt F) (VS0_0.writes (Elt F) VS0_0.junk (kernelRun0_A c i arg3 harg3 arg4 harg4 arg5 harg5 arg6 harg6 arg7 harg7 arg8 harg8 arg9 harg9 hc0 hc1 x0 x1 x2 x3 x4).2.1)

/-- Case B stores nothing into output 5 (the window is idle at its points and not written back there):
    no pieces — a placeholder (junk read back) that nothing consults, since at these points the window is neither
    written back nor read at the next point (Lib/Pipeline.lean "Idle points"). -/
def out0_B_5 (c : Dev nD) (i : grid0.Coords) (arg3 : Memref sig .tc .vmem S1x1x1024x2048 .bf16) (harg3 : arg3.IsWhole) (arg4 : Memref sig .tc .vmem S1x1x1024x1 .f32) (harg4 : arg4.IsWhole) (arg5 : Memref sig .tc .vmem S1x2048x256 .f32) (harg5 : arg5.IsWhole) (arg6 : Memref sig .tc .vmem S1x2048x256 .f32) (harg6 : arg6.IsWhole) (arg7 : Memref sig .tc .vmem S1x256x2048 .f32) (harg7 : arg7.IsWhole) (arg8 : Memref sig .tc .vmem S1x1x2x8192x128 .f32) (harg8 : arg8.IsWhole) (arg9 : Memref sig .tc .vmem S1024x2048 .f32) (harg9 : arg9.IsWhole) (hc0 : ¬cond0_0 i) (hc1 : ¬cond0_1 i)
    (x0 : Vec F S1x1x1024x2048 .bf16) (x1 : Vec F S1x1x1024x1 .f32) (x2 : Vec F S1x2048x256 .f32) (x3 : Vec F S1x2048x256 .f32) (x4 : Vec F S1x256x2048 .f32) (xs0 : Vec F S1024x2048 .f32) : Vec F S1x1x2x8192x128 .f32 :=
  VO0_5.read (Elt F) (VO0_5.writes (Elt F) VO0_5.junk (kernelRun0_B c i arg3 harg3 arg4 harg4 arg5 harg5 arg6 harg6 arg7 harg7 arg8 harg8 arg9 harg9 hc0 hc1 x0 x1 x2 x3 x4 xs0).1)

/-- Case B's pieces for scratch `arg9`, which the kernel carries between points, cover it: 4 pieces of `S1024x512` tiling it (Lib/Ring.lean `Piece.tiledL`). -/
theorem scover0_B_0 (c : Dev nD) (i : grid0.Coords) (arg3 : Memref sig .tc .vmem S1x1x1024x2048 .bf16) (harg3 : arg3.IsWhole) (arg4 : Memref sig .tc .vmem S1x1x1024x1 .f32) (harg4 : arg4.IsWhole) (arg5 : Memref sig .tc .vmem S1x2048x256 .f32) (harg5 : arg5.IsWhole) (arg6 : Memref sig .tc .vmem S1x2048x256 .f32) (harg6 : arg6.IsWhole) (arg7 : Memref sig .tc .vmem S1x256x2048 .f32) (harg7 : arg7.IsWhole) (arg8 : Memref sig .tc .vmem S1x1x2x8192x128 .f32) (harg8 : arg8.IsWhole) (arg9 : Memref sig .tc .vmem S1024x2048 .f32) (harg9 : arg9.IsWhole) (hc0 : ¬cond0_0 i) (hc1 : ¬cond0_1 i)
    (x0 : Vec F S1x1x1024x2048 .bf16) (x1 : Vec F S1x1x1024x1 .f32) (x2 : Vec F S1x2048x256 .f32) (x3 : Vec F S1x2048x256 .f32) (x4 : Vec F S1x256x2048 .f32) (xs0 : Vec F S1024x2048 .f32) (y : S1024x2048.Idx) :
    ∃ pc ∈ (kernelRun0_B c i arg3 harg3 arg4 harg4 arg5 harg5 arg6 harg6 arg7 harg7 arg8 harg8 arg9 harg9 hc0 hc1 x0 x1 x2 x3 x4 xs0).2.1, y ∈ pc.1.set :=
  View.cover_of_tiledL (kernelRun0_B c i arg3 harg3 arg4 harg4 arg5 harg5 arg6 harg6 arg7 harg7 arg8 harg8 arg9 harg9 hc0 hc1 x0 x1 x2 x3 x4 xs0).2.1 S1024x512.size (by sl_kernel_rfl) y

/-- What case B leaves in scratch `arg9`: its pieces read back over junk. -/
def sout0_B_0 (c : Dev nD) (i : grid0.Coords) (arg3 : Memref sig .tc .vmem S1x1x1024x2048 .bf16) (harg3 : arg3.IsWhole) (arg4 : Memref sig .tc .vmem S1x1x1024x1 .f32) (harg4 : arg4.IsWhole) (arg5 : Memref sig .tc .vmem S1x2048x256 .f32) (harg5 : arg5.IsWhole) (arg6 : Memref sig .tc .vmem S1x2048x256 .f32) (harg6 : arg6.IsWhole) (arg7 : Memref sig .tc .vmem S1x256x2048 .f32) (harg7 : arg7.IsWhole) (arg8 : Memref sig .tc .vmem S1x1x2x8192x128 .f32) (harg8 : arg8.IsWhole) (arg9 : Memref sig .tc .vmem S1024x2048 .f32) (harg9 : arg9.IsWhole) (hc0 : ¬cond0_0 i) (hc1 : ¬cond0_1 i)
    (x0 : Vec F S1x1x1024x2048 .bf16) (x1 : Vec F S1x1x1024x1 .f32) (x2 : Vec F S1x2048x256 .f32) (x3 : Vec F S1x2048x256 .f32) (x4 : Vec F S1x256x2048 .f32) (xs0 : Vec F S1024x2048 .f32) : Vec F S1024x2048 .f32 :=
  VS0_0.read (Elt F) (VS0_0.writes (Elt F) VS0_0.junk (kernelRun0_B c i arg3 harg3 arg4 harg4 arg5 harg5 arg6 harg6 arg7 harg7 arg8 harg8 arg9 harg9 hc0 hc1 x0 x1 x2 x3 x4 xs0).2.1)

/-- Slab c of an output block: rows c mod 8, c mod 8 + 8, … of half c / 8. -/
def slab (c : Fin 16) : Rect S1x1x2x8192x128 where
  off := ![0, 0, c.val / 8, c.val % 8, 0]
  size := S1x1x1x1024x128.size
  stride := ![1, 1, 1, 8, 1]
  inb := by revert c; decide +kernel
  stride_pos := by decide +kernel

/-- Pieces on the sixteen slabs cover the output block. -/
theorem slab_cover (L : List (View.Piece (Elt F) S1x1x2x8192x128 .f32))
    (h : L.map (fun p => p.1) = (List.finRange 16).reverse.map slab) (y : S1x1x2x8192x128.Idx) :
    ∃ pc ∈ L, y ∈ pc.1.set := by
  have h0 : (y 0).val < 1 := (y 0).isLt
  have h1 : (y 1).val < 1 := (y 1).isLt
  have h2 : (y 2).val < 2 := (y 2).isLt
  have h3 : (y 3).val < 8192 := (y 3).isLt
  have h4 : (y 4).val < 128 := (y 4).isLt
  have hm : slab ⟨8 * (y 2).val + (y 3).val % 8, by omega⟩ ∈ L.map (fun p => p.1) := by
    rw [h]; exact List.mem_map_of_mem (List.mem_reverse.mpr (List.mem_finRange _))
  obtain ⟨pc, hpc, e⟩ := List.mem_map.mp hm
  refine ⟨pc, hpc, ?_⟩
  rw [e]
  refine (LoadRect.mem_set _).mpr fun a => ?_
  match a with
  | ⟨0, _⟩ => exact ⟨0, (by decide : 0 < 1), (by show (y 0).val = 0 + 1 * 0; omega)⟩
  | ⟨1, _⟩ => exact ⟨0, (by decide : 0 < 1), (by show (y 1).val = 0 + 1 * 0; omega)⟩
  | ⟨2, _⟩ => exact ⟨0, (by decide : 0 < 1), (by show (y 2).val = (8 * (y 2).val + (y 3).val % 8) / 8 + 1 * 0; omega)⟩
  | ⟨3, _⟩ => exact ⟨(y 3).val / 8, (by show (y 3).val / 8 < 1024; omega), (by show (y 3).val = (8 * (y 2).val + (y 3).val % 8) % 8 + 8 * ((y 3).val / 8); omega)⟩
  | ⟨4, _⟩ => exact ⟨(y 4).val, h4, (by show (y 4).val = 0 + 1 * (y 4).val; omega)⟩

/-- The last column block's sixteen slabs cover the output block: row r of half h lies in slab 8h + r mod 8. -/
theorem cover0_C_5 (c : Dev nD) (i : grid0.Coords) (arg3 : Memref sig .tc .vmem S1x1x1024x2048 .bf16) (harg3 : arg3.IsWhole) (arg4 : Memref sig .tc .vmem S1x1x1024x1 .f32) (harg4 : arg4.IsWhole) (arg5 : Memref sig .tc .vmem S1x2048x256 .f32) (harg5 : arg5.IsWhole) (arg6 : Memref sig .tc .vmem S1x2048x256 .f32) (harg6 : arg6.IsWhole) (arg7 : Memref sig .tc .vmem S1x256x2048 .f32) (harg7 : arg7.IsWhole) (arg8 : Memref sig .tc .vmem S1x1x2x8192x128 .f32) (harg8 : arg8.IsWhole) (arg9 : Memref sig .tc .vmem S1024x2048 .f32) (harg9 : arg9.IsWhole) (hc0 : ¬cond0_0 i) (hc1 : cond0_1 i)
    (x0 : Vec F S1x1x1024x2048 .bf16) (x1 : Vec F S1x1x1024x1 .f32) (x2 : Vec F S1x2048x256 .f32) (x3 : Vec F S1x2048x256 .f32) (x4 : Vec F S1x256x2048 .f32) (xs0 : Vec F S1024x2048 .f32) (y : S1x1x2x8192x128.Idx) :
    ∃ pc ∈ (kernelRun0_C c i arg3 harg3 arg4 harg4 arg5 harg5 arg6 harg6 arg7 harg7 arg8 harg8 arg9 harg9 hc0 hc1 x0 x1 x2 x3 x4 xs0).1, y ∈ pc.1.set :=
  slab_cover _ (by sl_kernel_rfl) y

/-- What case C leaves in output 5's staging buffer: its pieces read back over junk. -/
def out0_C_5 (c : Dev nD) (i : grid0.Coords) (arg3 : Memref sig .tc .vmem S1x1x1024x2048 .bf16) (harg3 : arg3.IsWhole) (arg4 : Memref sig .tc .vmem S1x1x1024x1 .f32) (harg4 : arg4.IsWhole) (arg5 : Memref sig .tc .vmem S1x2048x256 .f32) (harg5 : arg5.IsWhole) (arg6 : Memref sig .tc .vmem S1x2048x256 .f32) (harg6 : arg6.IsWhole) (arg7 : Memref sig .tc .vmem S1x256x2048 .f32) (harg7 : arg7.IsWhole) (arg8 : Memref sig .tc .vmem S1x1x2x8192x128 .f32) (harg8 : arg8.IsWhole) (arg9 : Memref sig .tc .vmem S1024x2048 .f32) (harg9 : arg9.IsWhole) (hc0 : ¬cond0_0 i) (hc1 : cond0_1 i)
    (x0 : Vec F S1x1x1024x2048 .bf16) (x1 : Vec F S1x1x1024x1 .f32) (x2 : Vec F S1x2048x256 .f32) (x3 : Vec F S1x2048x256 .f32) (x4 : Vec F S1x256x2048 .f32) (xs0 : Vec F S1024x2048 .f32) : Vec F S1x1x2x8192x128 .f32 :=
  VO0_5.read (Elt F) (VO0_5.writes (Elt F) VO0_5.junk (kernelRun0_C c i arg3 harg3 arg4 harg4 arg5 harg5 arg6 harg6 arg7 harg7 arg8 harg8 arg9 harg9 hc0 hc1 x0 x1 x2 x3 x4 xs0).1)

/-- Case C's pieces for scratch `arg9`, which the kernel carries between points, cover it: 4 pieces of `S1024x512` tiling it (Lib/Ring.lean `Piece.tiledL`). -/
theorem scover0_C_0 (c : Dev nD) (i : grid0.Coords) (arg3 : Memref sig .tc .vmem S1x1x1024x2048 .bf16) (harg3 : arg3.IsWhole) (arg4 : Memref sig .tc .vmem S1x1x1024x1 .f32) (harg4 : arg4.IsWhole) (arg5 : Memref sig .tc .vmem S1x2048x256 .f32) (harg5 : arg5.IsWhole) (arg6 : Memref sig .tc .vmem S1x2048x256 .f32) (harg6 : arg6.IsWhole) (arg7 : Memref sig .tc .vmem S1x256x2048 .f32) (harg7 : arg7.IsWhole) (arg8 : Memref sig .tc .vmem S1x1x2x8192x128 .f32) (harg8 : arg8.IsWhole) (arg9 : Memref sig .tc .vmem S1024x2048 .f32) (harg9 : arg9.IsWhole) (hc0 : ¬cond0_0 i) (hc1 : cond0_1 i)
    (x0 : Vec F S1x1x1024x2048 .bf16) (x1 : Vec F S1x1x1024x1 .f32) (x2 : Vec F S1x2048x256 .f32) (x3 : Vec F S1x2048x256 .f32) (x4 : Vec F S1x256x2048 .f32) (xs0 : Vec F S1024x2048 .f32) (y : S1024x2048.Idx) :
    ∃ pc ∈ (kernelRun0_C c i arg3 harg3 arg4 harg4 arg5 harg5 arg6 harg6 arg7 harg7 arg8 harg8 arg9 harg9 hc0 hc1 x0 x1 x2 x3 x4 xs0).2.1, y ∈ pc.1.set :=
  View.cover_of_tiledL (kernelRun0_C c i arg3 harg3 arg4 harg4 arg5 harg5 arg6 harg6 arg7 harg7 arg8 harg8 arg9 harg9 hc0 hc1 x0 x1 x2 x3 x4 xs0).2.1 S1024x512.size (by sl_kernel_rfl) y

/-- What case C leaves in scratch `arg9`: its pieces read back over junk. -/
def sout0_C_0 (c : Dev nD) (i : grid0.Coords) (arg3 : Memref sig .tc .vmem S1x1x1024x2048 .bf16) (harg3 : arg3.IsWhole) (arg4 : Memref sig .tc .vmem S1x1x1024x1 .f32) (harg4 : arg4.IsWhole) (arg5 : Memref sig .tc .vmem S1x2048x256 .f32) (harg5 : arg5.IsWhole) (arg6 : Memref sig .tc .vmem S1x2048x256 .f32) (harg6 : arg6.IsWhole) (arg7 : Memref sig .tc .vmem S1x256x2048 .f32) (harg7 : arg7.IsWhole) (arg8 : Memref sig .tc .vmem S1x1x2x8192x128 .f32) (harg8 : arg8.IsWhole) (arg9 : Memref sig .tc .vmem S1024x2048 .f32) (harg9 : arg9.IsWhole) (hc0 : ¬cond0_0 i) (hc1 : cond0_1 i)
    (x0 : Vec F S1x1x1024x2048 .bf16) (x1 : Vec F S1x1x1024x1 .f32) (x2 : Vec F S1x2048x256 .f32) (x3 : Vec F S1x2048x256 .f32) (x4 : Vec F S1x256x2048 .f32) (xs0 : Vec F S1024x2048 .f32) : Vec F S1024x2048 .f32 :=
  VS0_0.read (Elt F) (VS0_0.writes (Elt F) VS0_0.junk (kernelRun0_C c i arg3 harg3 arg4 harg4 arg5 harg5 arg6 harg6 arg7 harg7 arg8 harg8 arg9 harg9 hc0 hc1 x0 x1 x2 x3 x4 xs0).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x1x2x8192x128 .f32 × Vec F S1024x2048 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 8 = 0 then
      if h1 : (n + 1) % 8 = 7 then
        False.elim (by have hN : n + 1 < 256 := lt_of_lt_of_eq hn (show cfg0.N = 256 from N_0); omega)
      else
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      if h1 : (n + 1) % 8 = 7 then
        (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2)
      else
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2)

/-- `outsAt0` at a point of case A: that case's contents. -/
theorem outsAt0_A (c : Dev nD) (t : Fin cfg0.N) (h0 : t.val % 8 = 0) (h1 : ¬t.val % 8 = 7) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 8 = 0) (h1 : ¬t.val % 8 = 7) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 8 = 0) (h1 : t.val % 8 = 7) :
    outsAt0 m c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

/-- Before the first point the scratch holds anything. -/
theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
/-- What window 1's buffer holds after a point. -/
theorem after0_1 (c : Dev nD) (t : Fin cfg0.N) : (dats m 0 c).after 1 t = iblk m c 1 t := by dsimp only [dats]
/-- What window 2's buffer holds after a point. -/
theorem after0_2 (c : Dev nD) (t : Fin cfg0.N) : (dats m 0 c).after 2 t = iblk m c 2 t := by dsimp only [dats]
/-- What window 3's buffer holds after a point. -/
theorem after0_3 (c : Dev nD) (t : Fin cfg0.N) : (dats m 0 c).after 3 t = iblk m c 3 t := by dsimp only [dats]
/-- What window 4's buffer holds after a point. -/
theorem after0_4 (c : Dev nD) (t : Fin cfg0.N) : (dats m 0 c).after 4 t = iblk m c 4 t := by dsimp only [dats]
/-- What window 5's buffer holds after a point. -/
theorem after0_5 (c : Dev nD) (t : Fin cfg0.N) : (dats m 0 c).after 5 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- What window 1's buffer holds before a point. -/
theorem before0_1 (c : Dev nD) (t : Fin cfg0.N) (d) : (dats m 0 c).before 1 t d = iblk m c 1 t :=
  before0_1_of m (dats m 0 c) (A_eq m c 1) (after0_1 m c) t d
/-- What window 2's buffer holds before a point. -/
theorem before0_2 (c : Dev nD) (t : Fin cfg0.N) (d) : (dats m 0 c).before 2 t d = iblk m c 2 t :=
  before0_2_of m (dats m 0 c) (A_eq m c 2) (after0_2 m c) t d
/-- What window 3's buffer holds before a point. -/
theorem before0_3 (c : Dev nD) (t : Fin cfg0.N) (d) : (dats m 0 c).before 3 t d = iblk m c 3 t :=
  before0_3_of m (dats m 0 c) (A_eq m c 3) (after0_3 m c) t d
/-- What window 4's buffer holds before a point. -/
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  by_cases h0 : t.val % 8 = 0
  · by_cases h1 : t.val % 8 = 7
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [Dat.leavesExact_idle (dats m 0 c) 5 t (idleAt0_5_A t ((hcond0_0 t).mpr h0) (fun h => h1 ((hcond0_1 t).mp h))) (noFlush0_5_A t ((hcond0_0 t).mpr h0) (fun h => h1 ((hcond0_1 t).mp h)))]
      by_cases hz : t.val = 0
      · rw [PhiS_castSucc m c t, PhiS_zero m c _ _ hz, PhiA0_eq]
        rw [outsAt0_A m c t h0 h1]
        unfold sout0_A_0; (try dsimp only)
        iintro ⟨⟨HS0, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS_castSucc m c t, PhiS_pos m c _ _ hz]
        rw [outsAt0_A m c t h0 h1]
        unfold sout0_A_0; (try dsimp only)
        iintro ⟨⟨HS0, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 8 = 7
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5_C t (fun h => h0 ((hcond0_0 t).mp h)) ((hcond0_1 t).mpr h1)], after0_5]
      by_cases hz : t.val = 0
      · exfalso; have hN : t.val < 256 := lt_of_lt_of_eq t.isLt (show cfg0.N = 256 from N_0); omega
      · rw [PhiS_castSucc m c t, PhiS_pos m c _ _ hz]
        rw [outsAt0_C m c t h0 h1]
        unfold out0_C_5 sout0_C_0; (try dsimp only)
        iintro ⟨⟨HS0, Hg⟩, Ho, ⟨%d0, H0⟩, ⟨%d1, H1⟩, ⟨%d2, H2⟩, ⟨%d3, H3⟩, ⟨%d4, H4⟩, ⟨%d5, H5⟩⟩
        iapply ((kernelRun0_C c (grid0.coords t) _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover0_C_5 c _ _ _ _ _ _ _ _ _ _ _ _ _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [Dat.leavesExact_idle (dats m 0 c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
      by_cases hz : t.val = 0
      · exfalso; have hN : t.val < 256 := lt_of_lt_of_eq t.isLt (show cfg0.N = 256 from N_0); omega
      · rw [PhiS_castSucc m c t, PhiS_pos m c _ _ hz]
        rw [outsAt0_B m c t h0 h1]
        unfold sout0_B_0; (try dsimp only)
        iintro ⟨⟨HS0, Hg⟩, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 256 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The run terminates without a fault, leaves every argument array as it was, and leaves every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.FfnIdeal

end
-- ==== Proof.FfnIdealValue.lean ====
/- The expert feed-forward's result array after the run, as the fold of what each point leaves, read at the points that write blocks back. -/
module

public import proofs.«01_k».proof.Proof.FfnIdealFrame
public import Idealize.ShloMosaic.Lib.Pipeline.Value

@[expose] public section

noncomputable section

namespace Cert.KernelIdeal.FfnValue

open Cert.KernelIdeal Cert.KernelIdeal.Gen Cert.KernelIdeal.FfnIdeal Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 5's array: the run's contents for that window after the body (`outsAt0`: its component 0), read through the window's block. -/
theorem flushed5 (c : Dev nD) (t : Fin cfg0.N) :
    (dats m 0 c).flushed 5 t = (cfg0.win 5).cut (grid0.coords t) ((outsAt0 m c t.val t.isLt).1) := by
  show (cfg0.win 5).cut (grid0.coords t) ((dats m 0 c).after 5 t) = _
  rw [after0_5]

/-- … so at a point where case A runs, what its write-back would write is that case's NAMED TERM for the window (`out0_A_5`: the pieces
    its run found, read back) at the point's memrefs and input blocks, and for an output the case reads back what the point before left (`outsAt0` at `t - 1`) — by the frame's rewriting lemma for the case. -/
theorem flushed5_A (c : Dev nD) (t : Fin cfg0.N) (h0 : t.val % 8 = 0) (h1 : ¬t.val % 8 = 7) :
    (dats m 0 c).flushed 5 t = (cfg0.win 5).cut (grid0.coords t) (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t)) := by
  simp only [flushed5, outsAt0_A m c t h0 h1]

/-- … so at a point where case B runs, what its write-back would write is that case's NAMED TERM for the window (`out0_B_5`: the pieces
    its run found, read back) at the point's memrefs and input blocks, and for an output the case reads back what the point before left (`outsAt0` at `t - 1`) — by the frame's rewriting lemma for the case. -/
theorem flushed5_B (c : Dev nD) (t : Fin cfg0.N) (h0 : ¬t.val % 8 = 0) (h1 : ¬t.val % 8 = 7) :
    (dats m 0 c).flushed 5 t = (cfg0.win 5).cut (grid0.coords t) (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2) := by
  simp only [flushed5, outsAt0_B m c t h0 h1]

/-- … so at a point where case C runs, what its write-back would write is that case's NAMED TERM for the window (`out0_C_5`: the pieces
    its run found, read back) at the point's memrefs and input blocks, and for an output the case reads back what the point before left (`outsAt0` at `t - 1`) — by the frame's rewriting lemma for the case. -/
theorem flushed5_C (c : Dev nD) (t : Fin cfg0.N) (h0 : ¬t.val % 8 = 0) (h1 : t.val % 8 = 7) :
    (dats m 0 c).flushed 5 t = (cfg0.win 5).cut (grid0.coords t) (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2) := by
  simp only [flushed5, outsAt0_C m c t h0 h1]

-- no `blocks5`: window 5's index map revisits a block index, or its points could not be enumerated here;
-- the final array is still the frame's `arrAt`, to read with Lib/Pipeline/Value.lean's lemmas by hand

/-- An index that no flushing point's block covers keeps output window 5's array contents at region entry. -/
theorem entry5 (c : Dev nD) (i : S2x16x2x8192x128.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v0) = (dats m 0 c).arrAt 5 cfg0.N :=
  (h c).1 5

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post5 m r h c,
      kept_main_arg0 m r h c,
      kept_main_arg1 m r h c,
      kept_main_arg2 m r h c,
      kept_main_arg3 m r h c,
      kept_main_arg4 m r h c⟩)
    (run_main m ρ)

/-! ## Carried scratch 0: what each point leaves in it, and its fold -/

/-- What point `n` leaves in carried scratch 0, over what the point before left in it (`acc`): the case the conditions'
    closed forms select at `n`, the frame's own term for it (`sout0_κ_0`; anything else the case takes of the point
    before, another carried scratch or an output it reads back, stays `outsAt0`'s at `n - 1`); a case at the points ≡ 0 (mod 8)
    stores the scratch whole without reading what it held, and `acc` does not enter there (nor where no point meets the
    conditions: `acc`, never read). -/
def scAt0_0 (c : Dev nD) (n : ℕ) (hb : n < cfg0.N) (acc : Vec F S1024x2048 .f32) : Vec F S1024x2048 .f32 :=
  if h0 : n % 8 = 0 then
    if h1 : n % 8 = 7 then
      acc
    else
      sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N))
  else
    if h1 : n % 8 = 7 then
      sout0_C_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc
    else
      sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc

/-- WHAT CARRIED SCRATCH 0 HOLDS after point `t`: the fold of its run up to `t`, from the reset at the run's first point
    `8·(t / 8)` (Lib/Pipeline/Value.lean `Pipeline.eq_accAt_of_mod`, by the frame's `outsAt0_κ`; without enumerating the points). -/
theorem soutsAt0_0_eq (c : Dev nD) (t : Fin cfg0.N) :
    (outsAt0 m c t.val t.isLt).2 = Pipeline.accAt (fun n h => scAt0_0 m c n h (VS0_0.read (Elt F) VS0_0.junk)) (scAt0_0 m c) (8 * (t.val / 8)) (t.val % 8)
      (by have h1 := t.isLt; have h2 := Nat.div_add_mod t.val 8; omega) :=
  Pipeline.eq_accAt_of_mod (fun n h => (outsAt0 m c n h).2) 8 (fun n h => scAt0_0 m c n h (VS0_0.read (Elt F) VS0_0.junk)) (scAt0_0 m c)
    (fun n h hn => by
      have hN := lt_of_lt_of_eq h (show cfg0.N = 256 from N_0)
      by_cases h0 : n % 8 = 0 <;> by_cases h1 : n % 8 = 7
      all_goals first | (exfalso; omega) | (rw [outsAt0_A m c ⟨n, h⟩ h0 h1]; dsimp only; unfold scAt0_0; rw [dif_pos h0, dif_neg h1] <;> try rfl) | (rw [outsAt0_B m c ⟨n, h⟩ h0 h1]; dsimp only; unfold scAt0_0; rw [dif_neg h0, dif_neg h1] <;> try rfl) | (rw [outsAt0_C m c ⟨n, h⟩ h0 h1]; dsimp only; unfold scAt0_0; rw [dif_neg h0, dif_pos h1] <;> try rfl))
    (fun n h hn => by
      have hN := lt_of_lt_of_eq h (show cfg0.N = 256 from N_0)
      by_cases h0 : (n + 1) % 8 = 0 <;> by_cases h1 : (n + 1) % 8 = 7
      all_goals first | (exfalso; omega) | (rw [outsAt0_A m c ⟨n + 1, h⟩ h0 h1]; dsimp only; unfold scAt0_0; rw [dif_pos h0, dif_neg h1] <;> try rfl) | (rw [outsAt0_B m c ⟨n + 1, h⟩ h0 h1]; dsimp only; unfold scAt0_0; rw [dif_neg h0, dif_neg h1] <;> try rfl) | (rw [outsAt0_C m c ⟨n + 1, h⟩ h0 h1]; dsimp only; unfold scAt0_0; rw [dif_neg h0, dif_pos h1] <;> try rfl))
    (by decide) t.val t.isLt _

/-! ## The carried state as one fold: the named outputs and the carried scratch, from the first point -/

/-- What the fold starts from: NOTHING NAMED, each named output's and carried scratch's buffer read at junk. No case
    computes from it: the first point's case stores what it names before reading; only an output that case leaves
    idle keeps its junk component. -/
def junk0 : Vec F S1x1x2x8192x128 .f32 × Vec F S1024x2048 .f32 :=
  ((VO0_5.read (Elt F) VO0_5.junk, VS0_0.read (Elt F) VS0_0.junk) : Vec F S1x1x2x8192x128 .f32 × Vec F S1024x2048 .f32)

/-- THE STEP: what point `n` leaves in the named outputs and the carried scratch (`outsAt0`'s tuple), over what the
    point before left (`acc`) — `outsAt0`'s own successor arm: the case the closed forms select at `n`, its named
    terms at the point's memrefs and input blocks; whatever the case reads back, takes by name or carries idle is read
    off `acc`. An assignment of the conditions no point meets is no case (`False.elim`). -/
def stAt0 (c : Dev nD) (n : ℕ) (hb : n < cfg0.N) (acc : Vec F S1x1x2x8192x128 .f32 × Vec F S1024x2048 .f32) : Vec F S1x1x2x8192x128 .f32 × Vec F S1024x2048 .f32 :=
  if h0 : n % 8 = 0 then
    if h1 : n % 8 = 7 then
      False.elim (by have hN : n < 256 := lt_of_lt_of_eq hb (show cfg0.N = 256 from N_0); omega)
    else
      (out0_A_5 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)), sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)))
  else
    if h1 : n % 8 = 7 then
      (out0_C_5 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc.2, sout0_C_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc.2)
    else
      (out0_B_5 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc.2, sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc.2)

/-- `stAt0` at a point of case A: that case's contents. -/
theorem stAt0_A (c : Dev nD) (t : Fin cfg0.N) (acc : Vec F S1x1x2x8192x128 .f32 × Vec F S1024x2048 .f32) (h0 : t.val % 8 = 0) (h1 : ¬t.val % 8 = 7) :
    stAt0 m c t.val t.isLt acc = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t)) :=
  (dif_pos h0).trans ((dif_neg h1).trans rfl)

/-- `stAt0` at a point of case B: that case's contents, over `acc`. -/
theorem stAt0_B (c : Dev nD) (t : Fin cfg0.N) (acc : Vec F S1x1x2x8192x128 .f32 × Vec F S1024x2048 .f32) (h0 : ¬t.val % 8 = 0) (h1 : ¬t.val % 8 = 7) :
    stAt0 m c t.val t.isLt acc = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) acc.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) acc.2) :=
  (dif_neg h0).trans ((dif_neg h1).trans rfl)

/-- `stAt0` at a point of case C: that case's contents, over `acc`. -/
theorem stAt0_C (c : Dev nD) (t : Fin cfg0.N) (acc : Vec F S1x1x2x8192x128 .f32 × Vec F S1024x2048 .f32) (h0 : ¬t.val % 8 = 0) (h1 : t.val % 8 = 7) :
    stAt0 m c t.val t.isLt acc = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) acc.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) acc.2) :=
  (dif_neg h0).trans ((dif_pos h1).trans rfl)

/-- The recursion's successor step is `stAt0`, by definition. -/
theorem outsAt0_succ (c : Dev nD) (n : ℕ) (hn : n + 1 < cfg0.N) :
    outsAt0 m c (n + 1) hn = stAt0 m c (n + 1) hn (outsAt0 m c n (Nat.lt_of_succ_lt hn)) := rfl

/-- At the first point the recursion is `stAt0` from `junk0`: its case (case A) reads nothing back. -/
theorem outsAt0_zero (c : Dev nD) (hn : 0 < cfg0.N) : outsAt0 m c 0 hn = stAt0 m c 0 hn junk0 := by
  rw [stAt0_A m c ⟨0, hn⟩ _ (Nat.zero_mod _) (fun h => by (try dsimp only at h); omega)]
  rfl

/-- WHAT THE NAMED OUTPUTS AND THE CARRIED SCRATCH HOLD after point `n`: the fold of `stAt0` from the first point,
    started at `junk0` (Lib/Pipeline/Value.lean `Pipeline.accAt`; by `eq_accAt_of_mod` at one run spanning the grid,
    without enumerating the points). -/
theorem outsAt0_sweep (c : Dev nD) (n : ℕ) (hn : n < cfg0.N) :
    outsAt0 m c n hn = Pipeline.accAt (fun n h => stAt0 m c n h junk0) (stAt0 m c) 0 n (by omega) := by
  have hN := lt_of_lt_of_eq hn (show cfg0.N = 256 from N_0)
  have e := Pipeline.eq_accAt_of_mod (fun n h => outsAt0 m c n h) 256 (fun n h => stAt0 m c n h junk0) (stAt0 m c)
    (fun n h _ => by
      have hN := lt_of_lt_of_eq h (show cfg0.N = 256 from N_0)
      obtain rfl : n = 0 := by omega
      exact outsAt0_zero m c h)
    (fun n h _ => outsAt0_succ m c n h)
    (by decide) n hn (by have := Nat.div_add_mod n 256; omega)
  have hd : n / 256 = 0 := Nat.div_eq_of_lt hN
  have hm : n % 256 = n := Nat.mod_eq_of_lt hN
  simpa only [hd, hm, Nat.mul_zero] using e

/-! ## Accumulated: each named output's array, the carried state's fold read at the window's flushing points -/

/-- Two folds from the first point of equal length are one (the bound's proof does not enter). -/
theorem fold0_congr (c : Dev nD) : ∀ (j : ℕ) (h : 0 + j < cfg0.N) (j' : ℕ) (h' : 0 + j' < cfg0.N), j = j' →
    Pipeline.accAt (fun n h => stAt0 m c n h junk0) (stAt0 m c) 0 j h = Pipeline.accAt (fun n h => stAt0 m c n h junk0) (stAt0 m c) 0 j' h' := by
  intro j h j' h' hj; subst hj; rfl

/-! ## Output window 5 -/

/-- The block of the array that holds index `i`, numbered in the order the points write the blocks back (one every 8 points),
    `i`'s place in it, and the point that writes it back (the last of its 8). -/
abbrev run5Of (i : S2x16x2x8192x128.Idx) : ℕ := 1 * ((i 0).val / 1 - 0) + 2 * ((i 1).val / 1 - 0) + 32 * ((i 2).val / 2 - 0) + 32 * ((i 3).val / 8192 - 0) + 32 * ((i 4).val / 128 - 0)
set_option backward.proofsInPublic true in
/-- The place of an output entry in its block. -/
abbrev loc5Of (i : S2x16x2x8192x128.Idx) : S1x1x2x8192x128.Idx := fun a => match a with
  | ⟨0, _⟩ => ⟨(i 0).val % 1, Nat.mod_lt _ (by decide)⟩
  | ⟨1, _⟩ => ⟨(i 1).val % 1, Nat.mod_lt _ (by decide)⟩
  | ⟨2, _⟩ => ⟨(i 2).val % 2, Nat.mod_lt _ (by decide)⟩
  | ⟨3, _⟩ => ⟨(i 3).val % 8192, Nat.mod_lt _ (by decide)⟩
  | ⟨4, _⟩ => ⟨(i 4).val % 128, Nat.mod_lt _ (by decide)⟩
/-- The point that writes an output entry's block out. -/
abbrev pt5Of (i : S2x16x2x8192x128.Idx) : ℕ := 8 * run5Of i + 7

/-- WHAT THE ARRAY ENDS HOLDING at index `i` inside the box the flushing blocks fill: output 5's component of the carried
    state's fold at the point that writes `i`'s block back, at `i`'s place in the block. `G5` states the array's contents
    only inside the box. -/
def G5 (c : Dev nD) : Buf (Elt F) ((c : Thread nD τ).loc main_v0) := fun i =>
  if h : pt5Of i < cfg0.N then
    (Pipeline.accAt (fun n h => stAt0 m c n h junk0) (stAt0 m c) 0 (pt5Of i) (by omega)).1 (loc5Of i)
  else V m c (Pipeline.arrRef spec0 5) i

/-- The printed index map, decided over the grid: output window 5's block indices stay in the box, and the block number
    read off them is the point's (`t / 8`). -/
theorem idx_facts5 : ∀ t : Fin cfg0.N, 0 ≤ win0_5.index t (0 : Fin 5) ∧ win0_5.index t (0 : Fin 5) ≤ 1
    ∧ 0 ≤ win0_5.index t (1 : Fin 5) ∧ win0_5.index t (1 : Fin 5) ≤ 15
    ∧ 0 ≤ win0_5.index t (2 : Fin 5) ∧ win0_5.index t (2 : Fin 5) ≤ 0
    ∧ 0 ≤ win0_5.index t (3 : Fin 5) ∧ win0_5.index t (3 : Fin 5) ≤ 0
    ∧ 0 ≤ win0_5.index t (4 : Fin 5) ∧ win0_5.index t (4 : Fin 5) ≤ 0
    ∧ 1 * (win0_5.index t (0 : Fin 5) - 0) + 2 * (win0_5.index t (1 : Fin 5) - 0) + 32 * (win0_5.index t (2 : Fin 5) - 0) + 32 * (win0_5.index t (3 : Fin 5) - 0) + 32 * (win0_5.index t (4 : Fin 5) - 0) = t.val / 8 :=
  (by decide +kernel : ∀ t : Fin grid0.N, _)

/-- Every block of the box is SOME flushing point's: `onto5Pt`, the point that writes back the block at place `q` of the box (the last point of its run). -/
abbrev onto5Pt (q0 : Fin 2) (q1 : Fin 16) (q2 : Fin 1) (q3 : Fin 1) (q4 : Fin 1) : Fin grid0.N :=
  ⟨8 * (1 * q0.val + 2 * q1.val + 32 * q2.val + 32 * q3.val + 32 * q4.val) + 7, lt_of_lt_of_eq (by omega) N_0.symm⟩
/-- Every output block is written out at some point. -/
theorem idx_onto5 : ∀ (q0 : Fin 2) (q1 : Fin 16) (q2 : Fin 1) (q3 : Fin 1) (q4 : Fin 1), ∃ t : Fin cfg0.N, (cfg0.win 5).flush t = true ∧ win0_5.index t = ![q0.val + 0, q1.val + 0, q2.val + 0, q3.val + 0, q4.val + 0] :=
  fun q0 q1 q2 q3 q4 => ⟨onto5Pt q0 q1 q2 q3 q4, (by decide +kernel : ∀ (q0 : Fin 2) (q1 : Fin 16) (q2 : Fin 1) (q3 : Fin 1) (q4 : Fin 1), win0_5.flush (onto5Pt q0 q1 q2 q3 q4) = true ∧ win0_5.index (onto5Pt q0 q1 q2 q3 q4) = ![q0.val + 0, q1.val + 0, q2.val + 0, q3.val + 0, q4.val + 0]) q0 q1 q2 q3 q4⟩

/-- WHAT A FLUSHING POINT `t` WRITES BACK is block `t` of `G5`: output 5's component of the fold up to `t`. -/
theorem flushed5_eq (c : Dev nD) (t : Fin cfg0.N) (hf : (cfg0.win 5).flush t = true) :
    (dats m 0 c).flushed 5 t = ((cfg0.win 5).blk t).view.read (Elt F) (G5 m c) := by
  show (cfg0.win 5).cut (grid0.coords t) ((dats m 0 c).after 5 t) = _
  rw [after0_5, outsAt0_sweep]
  have hm : t.val % 8 = 7 := (flush0_5 t).mp hf
  obtain ⟨e0, e1, e2, e3, e4, e5⟩ := idx_facts5 t
  funext y
  have hy0 : (y 0).val < 1 := (y 0).isLt
  have hy1 : (y 1).val < 1 := (y 1).isLt
  have hy2 : (y 2).val < 2 := (y 2).isLt
  have hy3 : (y 3).val < 8192 := (y 3).isLt
  have hy4 : (y 4).val < 128 := (y 4).isLt
  have hb0 : (((cfg0.win 5).blk t).view.emb y 0).val = win0_5.index t (0 : Fin 5) * 1 + 1 * (y 0).val := rfl
  have hb1 : (((cfg0.win 5).blk t).view.emb y 1).val = win0_5.index t (1 : Fin 5) * 1 + 1 * (y 1).val := rfl
  have hb2 : (((cfg0.win 5).blk t).view.emb y 2).val = win0_5.index t (2 : Fin 5) * 2 + 1 * (y 2).val := rfl
  have hb3 : (((cfg0.win 5).blk t).view.emb y 3).val = win0_5.index t (3 : Fin 5) * 8192 + 1 * (y 3).val := rfl
  have hb4 : (((cfg0.win 5).blk t).view.emb y 4).val = win0_5.index t (4 : Fin 5) * 128 + 1 * (y 4).val := rfl
  have hr : run5Of (((cfg0.win 5).blk t).view.emb y) = t.val / 8 := by
    show 1 * ((((cfg0.win 5).blk t).view.emb y 0).val / 1 - 0) + 2 * ((((cfg0.win 5).blk t).view.emb y 1).val / 1 - 0) + 32 * ((((cfg0.win 5).blk t).view.emb y 2).val / 2 - 0) + 32 * ((((cfg0.win 5).blk t).view.emb y 3).val / 8192 - 0) + 32 * ((((cfg0.win 5).blk t).view.emb y 4).val / 128 - 0) = _
    rw [hb0, hb1, hb2, hb3, hb4]
    rw [show (win0_5.index t (0 : Fin 5) * 1 + 1 * (y 0).val) / 1 = win0_5.index t (0 : Fin 5) from by omega]; rw [show (win0_5.index t (1 : Fin 5) * 1 + 1 * (y 1).val) / 1 = win0_5.index t (1 : Fin 5) from by omega]; rw [show (win0_5.index t (2 : Fin 5) * 2 + 1 * (y 2).val) / 2 = win0_5.index t (2 : Fin 5) from by omega]; rw [show (win0_5.index t (3 : Fin 5) * 8192 + 1 * (y 3).val) / 8192 = win0_5.index t (3 : Fin 5) from by omega]; rw [show (win0_5.index t (4 : Fin 5) * 128 + 1 * (y 4).val) / 128 = win0_5.index t (4 : Fin 5) from by omega]
    omega
  have hl : loc5Of (((cfg0.win 5).blk t).view.emb y) = (cfg0.win 5).xinj (grid0.coords t) y := by
    funext a; apply Fin.ext
    match a with
    | ⟨0, _⟩ => show (((cfg0.win 5).blk t).view.emb y 0).val % 1 = (y 0).val; rw [hb0]; omega
    | ⟨1, _⟩ => show (((cfg0.win 5).blk t).view.emb y 1).val % 1 = (y 1).val; rw [hb1]; omega
    | ⟨2, _⟩ => show (((cfg0.win 5).blk t).view.emb y 2).val % 2 = (y 2).val; rw [hb2]; omega
    | ⟨3, _⟩ => show (((cfg0.win 5).blk t).view.emb y 3).val % 8192 = (y 3).val; rw [hb3]; omega
    | ⟨4, _⟩ => show (((cfg0.win 5).blk t).view.emb y 4).val % 128 = (y 4).val; rw [hb4]; omega
  have hp : pt5Of (((cfg0.win 5).blk t).view.emb y) = t.val := by
    show 8 * run5Of (((cfg0.win 5).blk t).view.emb y) + 7 = _
    rw [hr]; have := Nat.div_add_mod t.val 8; omega
  show (Pipeline.accAt (fun n h => stAt0 m c n h junk0) (stAt0 m c) 0 t.val _).1 ((cfg0.win 5).xinj (grid0.coords t) y) = G5 m c (((cfg0.win 5).blk t).view.emb y)
  unfold G5
  rw [dif_pos (by rw [hp]; exact t.isLt), hl, fold0_congr m c _ _ _ _ hp.symm]

/-- An index of the array is in point `t`'s block iff each coordinate is in the block's range on its axis. -/
theorem mem_blk5 (t : Fin cfg0.N) (i : S2x16x2x8192x128.Idx) :
    i ∈ ((cfg0.win 5).blk t).view.set ↔ ∀ a : Fin 5, win0_5.index t a * S1x1x2x8192x128.size a ≤ (i a).val ∧ (i a).val < win0_5.index t a * S1x1x2x8192x128.size a + S1x1x2x8192x128.size a := by
  show i ∈ ((View.whole main_v0).slice (win0_5.rect t)).set ↔ _
  rw [View.set_slice_whole, Rect.mem_set_unit]
  exact Iff.rfl

/-- THE COVERED INDICES: in some flushing point's block iff inside the box those blocks fill. -/
theorem covered_iff5 (i : S2x16x2x8192x128.Idx) :
    (∃ t : Fin cfg0.N, (cfg0.win 5).flush t = true ∧ i ∈ ((cfg0.win 5).blk t).view.set) ↔ 0 ≤ (i 0).val ∧ (i 0).val < 2 ∧ 0 ≤ (i 1).val ∧ (i 1).val < 16 ∧ 0 ≤ (i 2).val ∧ (i 2).val < 2 ∧ 0 ≤ (i 3).val ∧ (i 3).val < 8192 ∧ 0 ≤ (i 4).val ∧ (i 4).val < 128 := by
  constructor
  · rintro ⟨t, -, hi⟩
    rw [mem_blk5] at hi
    have b0 : win0_5.index t (0 : Fin 5) * 1 ≤ (i 0).val ∧ (i 0).val < win0_5.index t (0 : Fin 5) * 1 + 1 := hi 0
    have b1 : win0_5.index t (1 : Fin 5) * 1 ≤ (i 1).val ∧ (i 1).val < win0_5.index t (1 : Fin 5) * 1 + 1 := hi 1
    have b2 : win0_5.index t (2 : Fin 5) * 2 ≤ (i 2).val ∧ (i 2).val < win0_5.index t (2 : Fin 5) * 2 + 2 := hi 2
    have b3 : win0_5.index t (3 : Fin 5) * 8192 ≤ (i 3).val ∧ (i 3).val < win0_5.index t (3 : Fin 5) * 8192 + 8192 := hi 3
    have b4 : win0_5.index t (4 : Fin 5) * 128 ≤ (i 4).val ∧ (i 4).val < win0_5.index t (4 : Fin 5) * 128 + 128 := hi 4
    obtain ⟨e0, e1, e2, e3, e4, e5⟩ := idx_facts5 t
    omega
  · intro h
    have hi0 : (i 0).val < 2 := (i 0).isLt
    have hi1 : (i 1).val < 16 := (i 1).isLt
    have hi2 : (i 2).val < 2 := (i 2).isLt
    have hi3 : (i 3).val < 8192 := (i 3).isLt
    have hi4 : (i 4).val < 128 := (i 4).isLt
    obtain ⟨t, hft, ht⟩ := idx_onto5 ⟨(i 0).val / 1 - 0, by omega⟩ ⟨(i 1).val / 1 - 0, by omega⟩ ⟨(i 2).val / 2 - 0, by omega⟩ ⟨(i 3).val / 8192 - 0, by omega⟩ ⟨(i 4).val / 128 - 0, by omega⟩
    have q0 : win0_5.index t (0 : Fin 5) = (i 0).val / 1 - 0 + 0 := congrFun ht 0
    have q1 : win0_5.index t (1 : Fin 5) = (i 1).val / 1 - 0 + 0 := congrFun ht 1
    have q2 : win0_5.index t (2 : Fin 5) = (i 2).val / 2 - 0 + 0 := congrFun ht 2
    have q3 : win0_5.index t (3 : Fin 5) = (i 3).val / 8192 - 0 + 0 := congrFun ht 3
    have q4 : win0_5.index t (4 : Fin 5) = (i 4).val / 128 - 0 + 0 := congrFun ht 4
    refine ⟨t, hft, ?_⟩
    rw [mem_blk5]
    intro a
    match a with
    | ⟨0, _⟩ => show win0_5.index t (0 : Fin 5) * 1 ≤ (i 0).val ∧ (i 0).val < win0_5.index t (0 : Fin 5) * 1 + 1; omega
    | ⟨1, _⟩ => show win0_5.index t (1 : Fin 5) * 1 ≤ (i 1).val ∧ (i 1).val < win0_5.index t (1 : Fin 5) * 1 + 1; omega
    | ⟨2, _⟩ => show win0_5.index t (2 : Fin 5) * 2 ≤ (i 2).val ∧ (i 2).val < win0_5.index t (2 : Fin 5) * 2 + 2; omega
    | ⟨3, _⟩ => show win0_5.index t (3 : Fin 5) * 8192 ≤ (i 3).val ∧ (i 3).val < win0_5.index t (3 : Fin 5) * 8192 + 8192; omega
    | ⟨4, _⟩ => show win0_5.index t (4 : Fin 5) * 128 ≤ (i 4).val ∧ (i 4).val < win0_5.index t (4 : Fin 5) * 128 + 128; omega

/-- THE ARRAY after the run: `G5` (the flushing blocks tile it). -/
theorem final5 (c : Dev nD) : (dats m 0 c).arrAt 5 cfg0.N = G5 m c :=
  (dats m 0 c).arrAt_eq_of_cover 5 _ (fun t hf => flushed5_eq m c t hf) (fun i => (covered_iff5 i).2 (by
    have h0 : (i 0).val < 2 := (i 0).isLt; have h1 : (i 1).val < 16 := (i 1).isLt; have h2 : (i 2).val < 2 := (i 2).isLt; have h3 : (i 3).val < 8192 := (i 3).isLt; have h4 : (i 4).val < 128 := (i 4).isLt; omega))

/-! ## The run, read -/

/-- The frame run re-posted: each output array at the fold the runs leave in it, the arguments unchanged. -/
theorem run : θ_run defs (onTc (τ := τ) (main (F := F))) ⟨m, fun _ => 0, ρ⟩ fun r => ∀ c : Dev nD,
      r.2.mem ((c : Thread nD τ).loc main_v0) = G5 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(post5 m r h c).trans (final5 m c),
      kept_main_arg0 m r h c,
      kept_main_arg1 m r h c,
      kept_main_arg2 m r h c,
      kept_main_arg3 m r h c,
      kept_main_arg4 m r h c⟩)
    (run_main m ρ)

end Cert.KernelIdeal.FfnValue

end
-- ==== Proof.FfnAcc.lean ====
/- The expert feed-forward's accumulator: what one column block adds to it. -/
module

public import proofs.«01_k».proof.Proof.FfnIdealValue
public import Idealize.ShloMosaic.Lib.Pointwise
public import Idealize.ShloMosaic.Lib.Pipeline.ValueKit
public import Idealize.ShloMosaic.Lib.Pipeline.ReadBack

@[expose] public section

set_option maxRecDepth 16384

noncomputable section

namespace Cert.KernelIdeal.FfnAcc

open Cert.KernelIdeal Cert.KernelIdeal.Gen Cert.KernelIdeal.FfnIdeal Idealize.ShloMosaic Idealize.ShloMosaic.TcCoe Idealize.SL.Sem
open Idealize.ShloMosaic.Pipeline (Dat)

variable (m : (ℓ : Loc nD τ sig) → Buf (Elt Ideal) ℓ)

/-- What one column block adds to the accumulator: its middle activations times its rows of the down projection. -/
def part (x0 : Vec Ideal S1x1x1024x2048 .bf16) (x2 x3 : Vec Ideal S1x2048x256 .f32) (x4 : Vec Ideal S1x256x2048 .f32) : FVec Ideal S1024x2048 .f32 :=
  fun j => ∑ k : Fin 256, k0_pay25 (F := Ideal) x0 x2 x3 (ix2 (j 0) k) * x4 (ix3 0 k (j 1))

/-- The four column quarters a column block's pass stores into the accumulator, over contents `xs`. -/
def quarters (x0 : Vec Ideal S1x1x1024x2048 .bf16) (x2 x3 : Vec Ideal S1x2048x256 .f32) (x4 : Vec Ideal S1x256x2048 .f32) (xs : Vec Ideal S1024x2048 .f32) :
    List (View.Piece (Elt Ideal) S1024x2048 .f32) :=
  [⟨Rect.unit ![0, 1536] ![1024, 512] inb_S1024x2048_S1024x512_0_1536, k0_pay4 (k0_pay25 x0 x2 x3) (k0_pay26 x4) (View.ld xs (Rect.unit ![0, 1536] ![1024, 512] inb_S1024x2048_S1024x512_0_1536))⟩,
   ⟨Rect.unit ![0, 1024] ![1024, 512] inb_S1024x2048_S1024x512_0_1024, k0_pay3 (k0_pay25 x0 x2 x3) (k0_pay26 x4) (View.ld xs (Rect.unit ![0, 1024] ![1024, 512] inb_S1024x2048_S1024x512_0_1024))⟩,
   ⟨Rect.unit ![0, 512] ![1024, 512] inb_S1024x2048_S1024x512_0_512, k0_pay2 (k0_pay25 x0 x2 x3) (k0_pay26 x4) (View.ld xs (Rect.unit ![0, 512] ![1024, 512] inb_S1024x2048_S1024x512_0_512))⟩,
   ⟨Rect.unit ![0, 0] ![1024, 512] inb_S1024x2048_S1024x512_0_0, k0_pay1 (k0_pay27 x0 x2 x3 x4 (View.ld xs (Rect.unit ![0, 0] ![1024, 512] inb_S1024x2048_S1024x512_0_0)))⟩]

/-- Where a quarter's entry lies in the accumulator. -/
theorem quarter_at (o : ℕ) (inb : ∀ a, (![0, o] : Fin 2 → ℕ) a + (![1024, 512] : Fin 2 → ℕ) a ≤ S1024x2048.size a) (x : (⟨2, ![1024, 512]⟩ : Shape).Idx) :
    (Rect.unit (s := S1024x2048) ![0, o] ![1024, 512] inb).emb x = ix2 (x 0) ⟨o + (x 1).val, by have h := inb 1; have h1 : (x 1).val < 512 := (x 1).isLt; change o + 512 ≤ 2048 at h; omega⟩ := by
  funext a
  refine Fin.ext ?_
  rw [Rect.emb_apply]
  match a with
  | ⟨0, _⟩ => show 0 + 1 * (x 0).val = (x 0).val; omega
  | ⟨1, _⟩ => show o + 1 * (x 1).val = o + (x 1).val; omega

/-- Each quarter holds, in its place, the previous contents plus the column block's part. -/
theorem quarters_pieces (x0 : Vec Ideal S1x1x1024x2048 .bf16) (x2 x3 : Vec Ideal S1x2048x256 .f32) (x4 : Vec Ideal S1x256x2048 .f32) (xs : Vec Ideal S1024x2048 .f32) :
    View.PiecesOf (fun j => xs j + part x0 x2 x3 x4 j) (quarters x0 x2 x3 x4 xs) := by
  refine ⟨fun x => ?_, fun x => ?_, fun x => ?_, fun x => ?_, trivial⟩
  · pointwise! [k0_pay4, k0_pay26, part]
    rw [quarter_at 1536]
    rfl
  · pointwise! [k0_pay3, k0_pay26, part]
    rw [quarter_at 1024]
    rfl
  · pointwise! [k0_pay2, k0_pay26, part]
    rw [quarter_at 512]
    rfl
  · pointwise! [k0_pay1, k0_pay26, k0_pay27, part]
    rw [quarter_at 0]
    simp only [Nat.zero_add]
    rfl

/-- The quarters cover the accumulator, whatever was stored before. -/
theorem quarters_cover (x0 : Vec Ideal S1x1x1024x2048 .bf16) (x2 x3 : Vec Ideal S1x2048x256 .f32) (x4 : Vec Ideal S1x256x2048 .f32) (xs : Vec Ideal S1024x2048 .f32)
    (y : S1024x2048.Idx) : ∃ p ∈ quarters x0 x2 x3 x4 xs, y ∈ p.1.set :=
  View.cover_of_tiled_head _ _ _ rfl y

/-- The quarters read back over any earlier stores: the previous contents plus the column block's part. -/
theorem quarters_read (x0 : Vec Ideal S1x1x1024x2048 .bf16) (x2 x3 : Vec Ideal S1x2048x256 .f32) (x4 : Vec Ideal S1x256x2048 .f32) (xs : Vec Ideal S1024x2048 .f32)
    (L : List (View.Piece (Elt Ideal) S1024x2048 .f32)) (y : S1024x2048.Idx) :
    View.canon (quarters x0 x2 x3 x4 xs ++ L) y = xs y + part x0 x2 x3 x4 y :=
  View.canon_append_of_piecesOf _ L _ (quarters_pieces x0 x2 x3 x4 xs) y (quarters_cover x0 x2 x3 x4 xs y)

/-- At an inner column block the accumulator gains the block's part. -/
theorem sout_B (c : Dev nD) (t : Fin cfg0.N) (h0 : ¬t.val % 8 = 0) (h1 : ¬t.val % 8 = 7) (j : S1024x2048.Idx) :
    (outsAt0 m c t.val t.isLt).2 j = (outsAt0 m c (t.val - 1) (Nat.lt_of_le_of_lt (Nat.sub_le _ _) t.isLt)).2 j
      + part (iblk m c 0 t) (iblk m c 2 t) (iblk m c 3 t) (iblk m c 4 t) j := by
  rw [outsAt0_B m c t h0 h1]
  dsimp only
  generalize (outsAt0 m c (t.val - 1) (Nat.lt_of_le_of_lt (Nat.sub_le _ _) t.isLt)).2 = xs
  generalize iblk m c 0 t = x0
  generalize iblk m c 1 t = x1
  generalize iblk m c 2 t = x2
  generalize iblk m c 3 t = x3
  generalize iblk m c 4 t = x4
  frame_out
  rw [show View.read (Elt Ideal) (View.whole cc0_scratch0) ((Memref.isWhole_whole cc0_scratch0).unread xs) = xs from
    (Memref.isWhole_whole cc0_scratch0).read_unread xs]
  exact quarters_read x0 x2 x3 x4 xs [] j

/-- At the last column block the accumulator gains the block's part. -/
theorem sout_C (c : Dev nD) (t : Fin cfg0.N) (h0 : ¬t.val % 8 = 0) (h1 : t.val % 8 = 7) (j : S1024x2048.Idx) :
    (outsAt0 m c t.val t.isLt).2 j = (outsAt0 m c (t.val - 1) (Nat.lt_of_le_of_lt (Nat.sub_le _ _) t.isLt)).2 j
      + part (iblk m c 0 t) (iblk m c 2 t) (iblk m c 3 t) (iblk m c 4 t) j := by
  rw [outsAt0_C m c t h0 h1]
  dsimp only
  generalize (outsAt0 m c (t.val - 1) (Nat.lt_of_le_of_lt (Nat.sub_le _ _) t.isLt)).2 = xs
  generalize iblk m c 0 t = x0
  generalize iblk m c 1 t = x1
  generalize iblk m c 2 t = x2
  generalize iblk m c 3 t = x3
  generalize iblk m c 4 t = x4
  frame_out
  rw [show View.read (Elt Ideal) (View.whole cc0_scratch0) ((Memref.isWhole_whole cc0_scratch0).unread xs) = xs from
    (Memref.isWhole_whole cc0_scratch0).read_unread xs]
  exact quarters_read x0 x2 x3 x4 xs [] j

/-- At the first column block the accumulator is the block's part, over a zero fill. -/
theorem sout_A (c : Dev nD) (t : Fin cfg0.N) (h0 : t.val % 8 = 0) (h1 : ¬t.val % 8 = 7) (j : S1024x2048.Idx) :
    (outsAt0 m c t.val t.isLt).2 j = 0 + part (iblk m c 0 t) (iblk m c 2 t) (iblk m c 3 t) (iblk m c 4 t) j := by
  rw [outsAt0_A m c t h0 h1]
  dsimp only
  generalize iblk m c 0 t = x0
  generalize iblk m c 1 t = x1
  generalize iblk m c 2 t = x2
  generalize iblk m c 3 t = x3
  generalize iblk m c 4 t = x4
  frame_out
  simp (disch := decide) only [↓View.readCov_skip, ↓View.readCov_fill]
  refine (quarters_read x0 x2 x3 x4 (k0_pay24 (F := Ideal)) _ j).trans ?_
  pointwise [k0_pay24]

/-- What the last column block's point writes back: half `y2`, row `8 r + s`, lane `l` is the accumulator's row `r`, column tile `8 y2 + s`, lane `l`, scaled by the row's gate. -/
def scaled (x1 : Vec Ideal S1x1x1024x1 .f32) (acc : FVec Ideal S1024x2048 .f32) : FVec Ideal S1x1x2x8192x128 .f32 :=
  fun y => acc (ix2 ⟨(y 3).val / 8, by have h3 : (y 3).val < 8192 := (y 3).isLt; omega⟩ ⟨(8 * (y 2).val + (y 3).val % 8) * 128 + (y 4).val, by
      have h2 : (y 2).val < 2 := (y 2).isLt
      have h4 : (y 4).val < 128 := (y 4).isLt
      omega⟩)
    * x1 (ix4 0 0 ⟨(y 3).val / 8, by have h3 : (y 3).val < 8192 := (y 3).isLt; omega⟩ 0)

/-- A slab's entry of the scaled block: the accumulator's column tile of the slab's number. -/
theorem scaled_slab (x1 : Vec Ideal S1x1x1024x1 .f32) (acc : FVec Ideal S1024x2048 .f32) (c : Fin 16) (x : (slab c).shape.Idx) (r : Fin 1024) (l : Fin 128)
    (hr : r.val = (x 3).val) (hl : l.val = (x 4).val) :
    scaled x1 acc ((slab c).emb x) = acc (ix2 r ⟨128 * c.val + l.val, by omega⟩) * x1 (ix4 0 0 r 0) := by
  have h2 : ((slab c).emb x 2).val = c.val / 8 := by
    rw [Rect.emb_apply]
    have h : (x 2).val < 1 := (x 2).isLt
    show c.val / 8 + 1 * (x 2).val = _
    omega
  have h3 : ((slab c).emb x 3).val = c.val % 8 + 8 * r.val := by
    rw [Rect.emb_apply, hr]; rfl
  have h4 : ((slab c).emb x 4).val = l.val := by
    rw [Rect.emb_apply, hl]
    show 0 + 1 * (x 4).val = _
    omega
  unfold scaled
  have e1 : (⟨((slab c).emb x 3).val / 8, by rw [h3]; omega⟩ : Fin 1024) = r := Fin.ext (by show ((slab c).emb x 3).val / 8 = _; rw [h3]; omega)
  have e2 : (8 * ((slab c).emb x 2).val + ((slab c).emb x 3).val % 8) * 128 + ((slab c).emb x 4).val = 128 * c.val + l.val := by
    rw [h2, h3, h4]; omega
  simp only [e1, e2]

/-- At the last column block the point writes back the finished accumulator, scaled and laid out in slabs. -/
theorem out_C (c : Dev nD) (t : Fin cfg0.N) (h0 : ¬t.val % 8 = 0) (h1 : t.val % 8 = 7) (j : S1x1x2x8192x128.Idx) :
    (outsAt0 m c t.val t.isLt).1 j = scaled (iblk m c 1 t) (fun i => (outsAt0 m c (t.val - 1) (Nat.lt_of_le_of_lt (Nat.sub_le _ _) t.isLt)).2 i
      + part (iblk m c 0 t) (iblk m c 2 t) (iblk m c 3 t) (iblk m c 4 t) i) j := by
  rw [outsAt0_C m c t h0 h1]
  dsimp only
  generalize (outsAt0 m c (t.val - 1) (Nat.lt_of_le_of_lt (Nat.sub_le _ _) t.isLt)).2 = xs
  generalize iblk m c 0 t = x0
  generalize iblk m c 1 t = x1
  generalize iblk m c 2 t = x2
  generalize iblk m c 3 t = x3
  generalize iblk m c 4 t = x4
  frame_out
  rw [show View.read (Elt Ideal) (View.whole cc0_scratch0) ((Memref.isWhole_whole cc0_scratch0).unread xs) = xs from
    (Memref.isWhole_whole cc0_scratch0).read_unread xs]
  have hq : ∀ B : LoadRect S1024x2048, (View.whole cc0_scratch0).readCov (quarters x0 x2 x3 x4 xs) B = fun j => xs (B.idx j) + part x0 x2 x3 x4 (B.idx j) := by
    intro B
    rw [View.readCov_eq_canon']
    funext j
    exact quarters_read x0 x2 x3 x4 xs [] _
  unfold quarters at hq
  simp only [hq]
  generalize hacc : (fun i => xs i + part x0 x2 x3 x4 i) = acc
  replace hacc : ∀ i, xs i + part x0 x2 x3 x4 i = acc i := fun i => congrFun hacc i
  simp only [hacc]
  refine View.canon_apply_of_pieces (Val := Elt Ideal) (e := .f32) (scaled x1 acc) _ (View.PiecesOf.mem ?_) j (slab_cover _ ?_ j)
  · refine ⟨fun x => Eq.trans ?_ (scaled_slab x1 acc 15 x (x 3) (x 4) rfl rfl).symm,
    fun x => Eq.trans ?_ (scaled_slab x1 acc 14 x (x 3) (x 4) rfl rfl).symm,
    fun x => Eq.trans ?_ (scaled_slab x1 acc 13 x (x 3) (x 4) rfl rfl).symm,
    fun x => Eq.trans ?_ (scaled_slab x1 acc 12 x (x 3) (x 4) rfl rfl).symm,
    fun x => Eq.trans ?_ (scaled_slab x1 acc 11 x (x 3) (x 4) rfl rfl).symm,
    fun x => Eq.trans ?_ (scaled_slab x1 acc 10 x (x 3) (x 4) rfl rfl).symm,
    fun x => Eq.trans ?_ (scaled_slab x1 acc 9 x (x 3) (x 4) rfl rfl).symm,
    fun x => Eq.trans ?_ (scaled_slab x1 acc 8 x (x 3) (x 4) rfl rfl).symm,
    fun x => Eq.trans ?_ (scaled_slab x1 acc 7 x (x 3) (x 4) rfl rfl).symm,
    fun x => Eq.trans ?_ (scaled_slab x1 acc 6 x (x 3) (x 4) rfl rfl).symm,
    fun x => Eq.trans ?_ (scaled_slab x1 acc 5 x (x 3) (x 4) rfl rfl).symm,
    fun x => Eq.trans ?_ (scaled_slab x1 acc 4 x (x 3) (x 4) rfl rfl).symm,
    fun x => Eq.trans ?_ (scaled_slab x1 acc 3 x (x 3) (x 4) rfl rfl).symm,
    fun x => Eq.trans ?_ (scaled_slab x1 acc 2 x (x 3) (x 4) rfl rfl).symm,
    fun x => Eq.trans ?_ (scaled_slab x1 acc 1 x (x 3) (x 4) rfl rfl).symm,
    fun x => Eq.trans ?_ (scaled_slab x1 acc 0 x (x 3) (x 4) rfl rfl).symm, trivial⟩
    all_goals
      pointwise! [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23]
  · rfl

end Cert.KernelIdeal.FfnAcc

end
-- ==== Proof.FfnAlgebra.lean ====
/- The expert feed-forward: the run's result array is the reference's closed form. -/
module

public import proofs.«01_k».proof.Proof.FfnAcc
public import proofs.«01_k».proof.Proof.Gen.ReferenceIdeal.Run

@[expose] public section

set_option maxRecDepth 16384

noncomputable section

namespace Cert.ReferenceIdeal.Ffn

open Cert.ReferenceIdeal Cert.ReferenceIdeal.Gen Idealize.ShloMosaic

/-- The reference's result over its five arguments: each expert's SwiGLU feed-forward of its tokens, scaled by the gates, in slab order. -/
def REF (a0 : Vec Ideal S2x16x1024x2048 .bf16) (a1 : Vec Ideal S2x16x1024x1 .f32) (a2 a3 a4 : Vec Ideal S16x2048x2048 .f32) : Vec Ideal S2x16x2x8192x128 .f32 :=
  shapeCast _ (transpose S2x16x2x1024x8x128 [0, 1, 3, 2, 4, 5] (shapeCast _ (mulf (F := Ideal) (transpose S2x16x1024x2048 [2, 0, 3, 1] (Host.dotGeneral (φ₁ := .f32) (φ₂ := .f32) dot_S16x2048x2048_S2x16x1024x2048_S16x2048x2x1024_1_3_2_02_0_1 none a4 (mulf (mulf (transpose S2x16x1024x2048 [2, 0, 3, 1] (Host.dotGeneral (φ₁ := .f32) (φ₂ := .f32) dot_S16x2048x2048_S2x16x1024x2048_S16x2048x2x1024_1_3_2_02_0_1 none a2 (extf .f32 a0 bitsLt_bf16_f32)) transposes_S16x2048x2x1024_S2x16x1024x2048_2_0_3_1) (Host.divf (broadcastInDim S2x16x1024x2048 ![] bcast_S_S2x16x1024x2048 (constant S_ .f32 0x3F800000#32)) (addf (broadcastInDim S2x16x1024x2048 ![] bcast_S_S2x16x1024x2048 (constant S_ .f32 0x3F800000#32)) (Host.exp (Host.negf (transpose S2x16x1024x2048 [2, 0, 3, 1] (Host.dotGeneral (φ₁ := .f32) (φ₂ := .f32) dot_S16x2048x2048_S2x16x1024x2048_S16x2048x2x1024_1_3_2_02_0_1 none a2 (extf .f32 a0 bitsLt_bf16_f32)) transposes_S16x2048x2x1024_S2x16x1024x2048_2_0_3_1)))))) (transpose S2x16x1024x2048 [2, 0, 3, 1] (Host.dotGeneral (φ₁ := .f32) (φ₂ := .f32) dot_S16x2048x2048_S2x16x1024x2048_S16x2048x2x1024_1_3_2_02_0_1 none a3 (extf .f32 a0 bitsLt_bf16_f32)) transposes_S16x2048x2x1024_S2x16x1024x2048_2_0_3_1))) transposes_S16x2048x2x1024_S2x16x1024x2048_2_0_3_1) (broadcastInDim S2x16x1024x2048 ![0, 1, 2, 3] bcast_S2x16x1024x1_S2x16x1024x2048_0_1_2_3 a1)) shapeCasts_S2x16x1024x2048_S2x16x1024x2x8x128) transposes_S2x16x1024x2x8x128_S2x16x2x1024x8x128_0_1_3_2_4_5) shapeCasts_S2x16x2x1024x8x128_S2x16x2x8192x128

/-- The gate or up projection of token `r` of expert `e` in batch `b`, at hidden unit `n`. -/
def proj (a0 : Vec Ideal S2x16x1024x2048 .bf16) (w : Vec Ideal S16x2048x2048 .f32) (b : Fin 2) (e : Fin 16) (r : Fin 1024) (n : Fin 2048) : EReal :=
  ∑ k : Fin 2048, w (ix3 e k n) * a0 (ix4 b e r k)

/-- The middle activation: `g · (1 / (1 + exp (−g))) · u`. -/
def mid (a0 : Vec Ideal S2x16x1024x2048 .bf16) (a2 a3 : Vec Ideal S16x2048x2048 .f32) (b : Fin 2) (e : Fin 16) (r : Fin 1024) (n : Fin 2048) : EReal :=
  proj a0 a2 b e r n * Ideal.div 1 (1 + Ideal.exp (-proj a0 a2 b e r n)) * proj a0 a3 b e r n

/-- An entry of the feed-forward reference in the combine's order: the weighted down projection of its token, times its gate. -/
theorem href (a0 : Vec Ideal S2x16x1024x2048 .bf16) (a1 : Vec Ideal S2x16x1024x1 .f32) (a2 a3 a4 : Vec Ideal S16x2048x2048 .f32)
    (b : Fin 2) (e : Fin 16) (h : Fin 2) (q : Fin 8192) (l : Fin 128) (r : Fin 1024) (n : Fin 2048) (hr : r.val = q.val / 8) (hn : n.val = (8 * h.val + q.val % 8) * 128 + l.val) :
    REF a0 a1 a2 a3 a4 (ix5 b e h q l) = (∑ k : Fin 2048, a4 (ix3 e k n) * mid a0 a2 a3 b e r k) * a1 (ix4 b e r 0) := by
  pointwise [REF, mid, proj]
  all_goals blk_point []

end Cert.ReferenceIdeal.Ffn

namespace Cert.KernelIdeal.FfnAcc

open Cert.KernelIdeal Cert.KernelIdeal.Gen Cert.KernelIdeal.FfnIdeal Idealize.ShloMosaic Idealize.ShloMosaic.TcCoe Idealize.SL.Sem
open Idealize.ShloMosaic.Pipeline (Dat)

/-- The middle activation of a column block, entry by entry. -/
theorem hmid (x0 : Vec Ideal S1x1x1024x2048 .bf16) (x2 x3 : Vec Ideal S1x2048x256 .f32) (r : Fin 1024) (k : Fin 256) :
    k0_pay25 (F := Ideal) x0 x2 x3 (ix2 r k) = (∑ x : Fin 2048, x2 (ix3 0 x k) * x0 (ix4 0 0 r x))
      * Ideal.div 1 (1 + Ideal.exp (-(∑ x : Fin 2048, x2 (ix3 0 x k) * x0 (ix4 0 0 r x)))) * ∑ x : Fin 2048, x3 (ix3 0 x k) * x0 (ix4 0 0 r x) := by
  pointwise [k0_pay25]
  simp only [zero_sub, mul_comm (x2 _), mul_comm (x3 _)]

variable (m : (ℓ : Loc nD τ sig) → Buf (Elt Ideal) ℓ)

/-- Every window's block index at a point: expert t / 16, batch t mod 16 / 8, column block t mod 8. -/
theorem idx : ∀ t : Fin cfg0.N, win0_0.index t = ![t.val % 16 / 8, t.val / 16, 0, 0] ∧ win0_1.index t = ![t.val % 16 / 8, t.val / 16, 0, 0]
    ∧ win0_2.index t = ![t.val / 16, 0, t.val % 8] ∧ win0_3.index t = ![t.val / 16, 0, t.val % 8] ∧ win0_4.index t = ![t.val / 16, t.val % 8, 0]
    ∧ win0_5.index t = ![t.val % 16 / 8, t.val / 16, 0, 0, 0] :=
  (by decide +kernel : ∀ t : Fin grid0.N, _)

/-- The accumulator when its block is written back: the sum of the eight column blocks' parts. -/
theorem acc_sum (c : Dev nD) (t : Fin cfg0.N) (hr : t.val % 8 = 8 - 1) (i : S1024x2048.Idx) :
    (outsAt0 m c t.val t.isLt).2 i = 0 + ∑ s : Fin 8,
      part (iblk m c 0 ⟨8 * (t.val / 8) + s.val, Pipeline.run_point_lt_of_flush t hr s⟩) (iblk m c 2 ⟨8 * (t.val / 8) + s.val, Pipeline.run_point_lt_of_flush t hr s⟩)
        (iblk m c 3 ⟨8 * (t.val / 8) + s.val, Pipeline.run_point_lt_of_flush t hr s⟩) (iblk m c 4 ⟨8 * (t.val / 8) + s.val, Pipeline.run_point_lt_of_flush t hr s⟩) i :=
  Pipeline.eq_sum_fin_of_reset_step_apply_of_flush (fun n h => (outsAt0 m c n h).2) 8 (fun _ => 0)
    (fun p i => part (iblk m c 0 p) (iblk m c 2 p) (iblk m c 3 p) (iblk m c 4 p) i)
    (fun t h i => sout_A m c t h (by omega) i)
    (fun t h i => by
      by_cases h1 : t.val % 8 = 7
      · exact sout_C m c t h h1 i
      · exact sout_B m c t h h1 i) t hr i

/-- The kernel's result array after the run is the reference's closed form. -/
theorem final (c : Dev nD) : (dats m 0 c).arrAt 5 cfg0.N
    = Cert.ReferenceIdeal.Ffn.REF (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 5 _ (by decide +kernel) fun t hf y => ?_
  have h7 : t.val % 8 = 7 := (flush0_5 t).mp hf
  blk_simp
  rw [after0_5]
  refine (out_C m c t (by omega) h7 y).trans ?_
  have e : (fun i => (outsAt0 m c (t.val - 1) (Nat.lt_of_le_of_lt (Nat.sub_le _ _) t.isLt)).2 i + part (iblk m c 0 t) (iblk m c 2 t) (iblk m c 3 t) (iblk m c 4 t) i)
      = (outsAt0 m c t.val t.isLt).2 := funext fun i => (sout_C m c t (by omega) h7 i).symm
  rw [e]
  unfold scaled
  rw [acc_sum m c t h7, zero_add]
  have ht : t.val < 256 := lt_of_lt_of_eq t.isLt N_0
  have h2 : (y 2).val < 2 := (y 2).isLt
  have h3 : (y 3).val < 8192 := (y 3).isLt
  have h4 : (y 4).val < 128 := (y 4).isLt
  have ey : ((cfg0.win 5).blk t).view.emb y = ix5 (⟨t.val % 16 / 8, by omega⟩ : Fin 2) (⟨t.val / 16, by omega⟩ : Fin 16) (⟨(y 2).val, h2⟩ : Fin 2) (⟨(y 3).val, h3⟩ : Fin 8192) (⟨(y 4).val, h4⟩ : Fin 128) := by
    blk_ext [idx t]
  rw [ey]
  rw [Cert.ReferenceIdeal.Ffn.href _ _ _ _ _ _ _ ⟨(y 2).val, h2⟩ ⟨(y 3).val, h3⟩ ⟨(y 4).val, h4⟩ ⟨(y 3).val / 8, by omega⟩ ⟨(8 * (y 2).val + (y 3).val % 8) * 128 + (y 4).val, by omega⟩ rfl rfl]
  refine congrArg₂ (· * ·) ?_ ?_
  · show (_ : EReal) = _
    refine Fin.sum_mul_add_congr fun s k hl => ?_
    refine (congrArg₂ (· * ·) (hmid _ _ _ _ _) rfl).trans ?_
    simp only [Cert.ReferenceIdeal.Ffn.mid, Cert.ReferenceIdeal.Ffn.proj]
    blk_point [iblk, V, idx ⟨_, Pipeline.run_point_lt_of_flush t h7 s⟩]
  · blk_point [iblk, V, idx t]

end Cert.KernelIdeal.FfnAcc

end
-- ==== Proof.MlReal.lean ====
/- The mLSTM recurrence over the reals: what the state and the outputs are in closed form, and that one chunk of any
   length, in any order of its rows, carries them on whatever stabiliser it subtracts. -/
module

public import Idealize.ShloMosaic.PureOps
public import Idealize.ShloMosaic.Lib.Pointwise

@[expose] public section

noncomputable section

namespace Cert.Ml

open Finset

variable (q k : ℕ → Fin 256 → ℝ) (i f : ℕ → ℝ)

/-- The forget gates' logarithms summed before position `n`. -/
def cum (n : ℕ) : ℝ := ∑ r ∈ range n, f r

/-- The weight position `s` has when `n` positions are done: its input gate, forgotten since. -/
def wt (n s : ℕ) : ℝ := Real.exp (cum f n - cum f (s + 1) + i s)

/-- The state after `n` positions in key direction `d`, for a value `g` at each position. -/
def state (g : ℕ → ℝ) (n : ℕ) (d : Fin 256) : ℝ := ∑ s ∈ range n, wt i f n s * g s * k s d

/-- What position `p`'s query reads of the state after it, for a value `g` at each position. -/
def read (g : ℕ → ℝ) (p : ℕ) : ℝ := ∑ s ∈ range (p + 1), wt i f (p + 1) s * g s * ∑ d, q p d * k s d

/-- The output at position `p`: what the query reads of the values, over what it reads of ones, at least one. -/
def out (g : ℕ → ℝ) (p : ℕ) : ℝ := read q k i f g p / max |read q k i f (fun _ => 1) p| 1

/-- A weight at a later time is the weight now, forgotten in between. -/
theorem wt_shift (n m s : ℕ) : wt i f m s = Real.exp (cum f m - cum f n) * wt i f n s := by
  rw [wt, wt, ← Real.exp_add]
  congr 1
  ring

/-- Sums over a chunk's rows in any order are sums over its positions. -/
theorem sum_rows {T : ℕ} (σ : Fin T ≃ Fin T) (h : ℕ → ℝ) : ∑ s : Fin T, h (σ s).val = ∑ s ∈ range T, h s := by
  rw [Equiv.sum_comp σ (fun s : Fin T => h s.val), Fin.sum_univ_eq_sum_range h T]

/-- A chunk's rows not later than row `t`, in any order, are the positions up to its. -/
theorem sum_rows_le {T : ℕ} (σ : Fin T ≃ Fin T) (t : Fin T) (h : ℕ → ℝ) :
    (∑ s : Fin T, if σ s ≤ σ t then h (σ s).val else 0) = ∑ s ∈ range ((σ t).val + 1), h s := by
  have e := sum_rows σ (fun n => if n ≤ (σ t).val then h n else 0)
  refine (Finset.sum_congr rfl fun s _ => ?_).trans (e.trans ?_)
  · rfl
  · rw [← Finset.sum_filter]
    refine Finset.sum_congr ?_ fun _ _ => rfl
    ext n
    have := (σ t).isLt
    simp only [mem_filter, mem_range]
    omega

variable {T : ℕ} (σ : Fin T ≃ Fin T) (P : ℕ)

/-- What a chunk computes for row `t` from the stabilised state is the closed form, stabilised by `μ`. -/
theorem read_chunk (g : ℕ → ℝ) (M μ : ℝ) (t : Fin T) :
    (∑ s : Fin T, (if σ s ≤ σ t then (∑ d, q (P + (σ t).val) d * k (P + (σ s).val) d)
        * Real.exp ((cum f (P + (σ t).val + 1) - cum f P) - (cum f (P + (σ s).val + 1) - cum f P) + i (P + (σ s).val) - μ) else 0)
          * g (P + (σ s).val))
      + Real.exp ((cum f (P + (σ t).val + 1) - cum f P) + M - μ) * ∑ d, q (P + (σ t).val) d * (Real.exp (-M) * state k i f g P d)
    = Real.exp (-μ) * read q k i f g (P + (σ t).val) := by
  have e1 : (∑ s : Fin T, (if σ s ≤ σ t then (∑ d, q (P + (σ t).val) d * k (P + (σ s).val) d)
        * Real.exp ((cum f (P + (σ t).val + 1) - cum f P) - (cum f (P + (σ s).val + 1) - cum f P) + i (P + (σ s).val) - μ) else 0)
          * g (P + (σ s).val))
      = ∑ s ∈ range ((σ t).val + 1), Real.exp (-μ) * (wt i f (P + (σ t).val + 1) (P + s) * g (P + s) * ∑ d, q (P + (σ t).val) d * k (P + s) d) := by
    rw [← sum_rows_le σ t]
    refine Finset.sum_congr rfl fun s _ => ?_
    split_ifs
    · rw [show (cum f (P + (σ t).val + 1) - cum f P) - (cum f (P + (σ s).val + 1) - cum f P) + i (P + (σ s).val) - μ
          = -μ + (cum f (P + (σ t).val + 1) - cum f (P + (σ s).val + 1) + i (P + (σ s).val)) by ring, Real.exp_add, wt]
      ring
    · rw [zero_mul]
  have e2 : Real.exp ((cum f (P + (σ t).val + 1) - cum f P) + M - μ) * ∑ d, q (P + (σ t).val) d * (Real.exp (-M) * state k i f g P d)
      = ∑ s ∈ range P, Real.exp (-μ) * (wt i f (P + (σ t).val + 1) s * g s * ∑ d, q (P + (σ t).val) d * k s d) := by
    rw [show (cum f (P + (σ t).val + 1) - cum f P) + M - μ = -μ + (cum f (P + (σ t).val + 1) - cum f P) + M by ring, Real.exp_add, Real.exp_add]
    have c : Real.exp M * Real.exp (-M) = 1 := by rw [← Real.exp_add, add_neg_cancel, Real.exp_zero]
    simp only [state, Finset.mul_sum]
    rw [Finset.sum_comm]
    refine Finset.sum_congr rfl fun s _ => Finset.sum_congr rfl fun d _ => ?_
    rw [wt_shift i f P (P + (σ t).val + 1) s]
    linear_combination (Real.exp (-μ) * Real.exp (cum f (P + (σ t).val + 1) - cum f P) * (q (P + (σ t).val) d * wt i f P s * g s * k s d)) * c
  rw [e1, e2, read, Finset.mul_sum, add_comm]
  exact (Finset.sum_range_add (fun s => Real.exp (-μ) * (wt i f (P + (σ t).val + 1) s * g s * ∑ d, q (P + (σ t).val) d * k s d)) P ((σ t).val + 1)).symm

/-- What a chunk leaves of the stabilised state is the closed form after it, stabilised by `μ`. -/
theorem state_chunk (g : ℕ → ℝ) (M μ : ℝ) (d : Fin 256) :
    Real.exp ((cum f (P + T) - cum f P) + M - μ) * (Real.exp (-M) * state k i f g P d)
      + ∑ s : Fin T, g (P + (σ s).val) * Real.exp ((cum f (P + T) - cum f P) - (cum f (P + (σ s).val + 1) - cum f P) + i (P + (σ s).val) - μ)
          * k (P + (σ s).val) d
    = Real.exp (-μ) * state k i f g (P + T) d := by
  have c : Real.exp M * Real.exp (-M) = 1 := by rw [← Real.exp_add, add_neg_cancel, Real.exp_zero]
  have e1 : Real.exp ((cum f (P + T) - cum f P) + M - μ) * (Real.exp (-M) * state k i f g P d)
      = ∑ s ∈ range P, Real.exp (-μ) * (wt i f (P + T) s * g s * k s d) := by
    rw [show (cum f (P + T) - cum f P) + M - μ = -μ + (cum f (P + T) - cum f P) + M by ring, Real.exp_add, Real.exp_add, state, Finset.mul_sum, Finset.mul_sum]
    refine Finset.sum_congr rfl fun s _ => ?_
    rw [wt_shift i f P (P + T) s]
    linear_combination (Real.exp (-μ) * Real.exp (cum f (P + T) - cum f P) * (wt i f P s * g s * k s d)) * c
  have e2 : (∑ s : Fin T, g (P + (σ s).val) * Real.exp ((cum f (P + T) - cum f P) - (cum f (P + (σ s).val + 1) - cum f P) + i (P + (σ s).val) - μ)
          * k (P + (σ s).val) d) = ∑ s ∈ range T, Real.exp (-μ) * (wt i f (P + T) (P + s) * g (P + s) * k (P + s) d) := by
    rw [← sum_rows σ]
    refine Finset.sum_congr rfl fun s _ => ?_
    rw [show (cum f (P + T) - cum f P) - (cum f (P + (σ s).val + 1) - cum f P) + i (P + (σ s).val) - μ
          = -μ + (cum f (P + T) - cum f (P + (σ s).val + 1) + i (P + (σ s).val)) by ring, Real.exp_add, wt]
    ring
  rw [e1, e2, state, Finset.sum_range_add, mul_add, Finset.mul_sum, Finset.mul_sum]

/-- The stabiliser leaves the quotient. -/
theorem quot_stab (a b μ : ℝ) : Real.exp (-μ) * a / max |Real.exp (-μ) * b| (Real.exp (-μ)) = a / max |b| 1 := by
  have h : 0 < Real.exp (-μ) := Real.exp_pos _
  have e : max (Real.exp (-μ) * |b|) (Real.exp (-μ)) = Real.exp (-μ) * max |b| 1 := by rw [mul_max_of_nonneg _ _ h.le, mul_one]
  rw [abs_mul, abs_of_pos h, e]
  exact mul_div_mul_left _ _ h.ne'

end Cert.Ml

end
-- ==== Proof.MlChain.lean ====
/- One head's chunk of the mLSTM scan: what the kernel computes for it, as functions of what it reads, and their
   entries at real numbers. -/
module

public import proofs.«01_k».proof.Proof.MlReal
public import proofs.«01_k».proof.Proof.Gen.Kernel2Ideal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Ml

open Idealize.ShloMosaic

/-- A sum of reals is real. -/
theorem coe_sum {ι : Type*} [Fintype ι] (f : ι → ℝ) : (∑ x, ((f x : ℝ) : EReal)) = ((∑ x, f x : ℝ) : EReal) := by
  classical
  refine Finset.induction_on (Finset.univ : Finset ι) (by simp) ?_
  intro a s h e
  rw [Finset.sum_insert h, Finset.sum_insert h, e, EReal.coe_add]

/-- The largest of numbers below infinity is below infinity. -/
theorem fold_ne_top {ι : Type*} [Fintype ι] (b : EReal) (hb : b ≠ ⊤) (f : ι → EReal) (h : ∀ x, f x ≠ ⊤) : (Finset.univ : Finset ι).fold max b f ≠ ⊤ := by
  classical
  refine Finset.induction_on (Finset.univ : Finset ι) (by simpa using hb) ?_
  intro a s hs e
  rw [Finset.fold_insert hs]
  rcases max_choice (f a) (s.fold max b f) with h' | h' <;> rw [h']
  · exact h a
  · exact e

/-- The larger of a real and a number below infinity is real. -/
theorem max_real (r : ℝ) (x : EReal) (h : x ≠ ⊤) : ∃ y : ℝ, max (r : EReal) x = (y : EReal) := by
  induction x using EReal.rec with
  | bot => exact ⟨r, by simp⟩
  | coe x => exact ⟨max r x, (EReal.coe_strictMono.monotone.map_max (a := r) (b := x)).symm⟩
  | top => exact absurd rfl h

/-- Quotients of reals. -/
theorem div_real (a b : ℝ) (h : b ≠ 0) : Ideal.div (a : EReal) (b : EReal) = ((a / b : ℝ) : EReal) := by
  rw [Ideal.div_coe h, ← EReal.coe_mul, mul_one_div]

/-- The pattern the masks and the largest start from is below everything. -/
theorem ninf : Ideal.ofBits FTy.f32 4286578688#32 = ⊥ := by simp [Ideal.ofBits, Ideal.ieee]

/-- Absolute values of reals. -/
theorem abs_real (x : ℝ) : FloatOps.absf (F := Ideal) (φ := .f32) (x : EReal) = ((|x| : ℝ) : EReal) := by
  rw [Ideal.absf_def, ← EReal.coe_neg, ← EReal.coe_strictMono.monotone.map_max]
  rfl

end Cert.Ml

namespace Cert.Kernel2Ideal.Chain

open Cert.Kernel2Ideal Cert.Kernel2Ideal.Gen Idealize.ShloMosaic Idealize.ShloMosaic.TcCoe Cert.Ml

variable (mask : IVec S256x256 1) (q k v : FVec Ideal S256x256 .bf16) (ic fc bc : FVec Ideal S256x1 .f32) (ir br : FVec Ideal S1x256 .f32)
  (c : FVec Ideal S256x256 .f32) (n : FVec Ideal S1x256 .f32) (s : FVec Ideal S1x1 .f32)

/-- The masked logarithms of the weights within the chunk. -/
def logw : FVec Ideal S256x256 .f32 :=
  select mask (addf (subf (broadcastTo S256x256 bc broadcasts_S256x1_S256x256) (broadcastTo S256x256 br broadcasts_S1x256_S256x256))
    (broadcastTo S256x256 ir broadcasts_S1x256_S256x256)) (broadcast S256x256 (Scalar.ofBits .f32 0xFF800000#32))

/-- The logarithm of the weight the state has at each row. -/
def inter : FVec Ideal S256x1 .f32 := addf bc (broadcastTo S256x1 s broadcasts_S1x1_S256x1)

/-- The stabiliser of each row. -/
def stab : FVec Ideal S256x1 .f32 :=
  maximumf (inter bc s) (shapeCast S256x1 (multiReduction .maximumf [1] S256 (logw mask bc ir br) 0xFF800000#32 reduces_S256x256_S256 (.inl rfl) rfl) shapeCasts_S256_S256x1)

/-- The state's weight at each row. -/
def sint : FVec Ideal S256x1 .f32 := exp (subf (inter bc s) (stab mask bc ir br s))

/-- The weighted products of queries and keys. -/
def scor : FVec Ideal S256x256 .f32 :=
  mulf (matmul dot_S256x256_S256x256_S256x256_1_1_0_0_n_n none q k (constant S256x256 .f32 0x00000000#32))
    (exp (subf (logw mask bc ir br) (broadcastTo S256x256 (stab mask bc ir br s) broadcasts_S256x1_S256x256)))

/-- The numerators. -/
def numer : FVec Ideal S256x256 .f32 :=
  addf (matmul dot_S256x256_S256x256_S256x256_1_0_0_1_n_n none (truncf .bf16 (scor mask q k bc ir br s) bitsLt_bf16_f32) v (constant S256x256 .f32 0x00000000#32))
    (mulf (broadcastTo S256x256 (sint mask bc ir br s) broadcasts_S256x1_S256x256)
      (matmul dot_S256x256_S256x256_S256x256_1_1_0_0_n_n none q (truncf .bf16 c bitsLt_bf16_f32) (constant S256x256 .f32 0x00000000#32)))

/-- The sizes of the denominators. -/
def denom : FVec Ideal S256x1 .f32 :=
  absf (addf (shapeCast S256x1 (multiReduction .add [1] S256 (scor mask q k bc ir br s) 0x00000000#32 reduces_S256x256_S256 (.inl rfl) rfl) shapeCasts_S256_S256x1)
    (mulf (sint mask bc ir br s) (shapeCast S256x1 (multiReduction .add [1] S256
      (mulf (extf .f32 q bitsLt_bf16_f32) (broadcastTo S256x256 n broadcasts_S1x256_S256x256)) 0x00000000#32 reduces_S256x256_S256 (.inl rfl) rfl) shapeCasts_S256_S256x1)))

/-- The chunk's outputs. -/
def outs : FVec Ideal S256x256 .f32 :=
  divf (numer mask q k v bc ir br c s) (broadcastTo S256x256 (maximumf (denom mask q k bc ir br n s)
    (exp (subf (broadcast S256x1 (Scalar.ofBits .f32 0x00000000#32)) (stab mask bc ir br s)))) broadcasts_S256x1_S256x256)

/-- The chunk's forget gates' logarithms summed. -/
def tot : FVec Ideal S1x1 .f32 := shapeCast S1x1 (multiReduction .add [0] S1 fc 0x00000000#32 reduces_S256x1_S1 (.inl rfl) rfl) shapeCasts_S1_S1x1

/-- The logarithms of the rows' weights at the chunk's end. -/
def dend : FVec Ideal S256x1 .f32 := addf (subf (broadcastTo S256x1 (tot fc) broadcasts_S1x1_S256x1) bc) ic

/-- The next stabiliser. -/
def snew : FVec Ideal S1x1 .f32 :=
  maximumf (addf (tot fc) s) (shapeCast S1x1 (multiReduction .maximumf [0] S1 (dend ic fc bc) 0xFF800000#32 reduces_S256x1_S1 (.inl rfl) rfl) shapeCasts_S1_S1x1)

/-- The rows' weights in the next state. -/
def wend : FVec Ideal S256x1 .f32 := exp (subf (dend ic fc bc) (broadcastTo S256x1 (snew ic fc bc s) broadcasts_S1x1_S256x1))

/-- The last state's weight in the next. -/
def dec : FVec Ideal S1x1 .f32 := exp (subf (addf (tot fc) s) (snew ic fc bc s))

/-- The next state. -/
def cnew : FVec Ideal S256x256 .f32 :=
  addf (mulf (broadcastTo S256x256 (dec ic fc bc s) broadcasts_S1x1_S256x256) c)
    (matmul dot_S256x256_S256x256_S256x256_0_0_1_1_n_n none
      (truncf .bf16 (mulf (extf .f32 v bitsLt_bf16_f32) (broadcastTo S256x256 (wend ic fc bc s) broadcasts_S256x1_S256x256)) bitsLt_bf16_f32) k (constant S256x256 .f32 0x00000000#32))

/-- The next normaliser. -/
def nnew : FVec Ideal S1x256 .f32 :=
  addf (mulf (broadcastTo S1x256 (dec ic fc bc s) broadcasts_S1x1_S1x256) n)
    (shapeCast S1x256 (multiReduction .add [0] S256 (mulf (extf .f32 k bitsLt_bf16_f32) (broadcastTo S256x256 (wend ic fc bc s) broadcasts_S256x1_S256x256)) 0x00000000#32 reduces_S256x256_S256_2 (.inl rfl) rfl) shapeCasts_S256_S1x256)

/-- What a chunk reads, in closed form: its rows, in the order `σ`, are the positions after `P`. -/
structure Reads (σ : Fin 256 ≃ Fin 256) (P : ℕ) (qf kf vf : ℕ → Fin 256 → ℝ) (i f : ℕ → ℝ) : Prop where
  mask : ∀ a b, mask (ix2 a b) = if σ b ≤ σ a then 1#1 else 0#1
  q : ∀ a d, q (ix2 a d) = (qf (P + (σ a).val) d : EReal)
  k : ∀ a d, k (ix2 a d) = (kf (P + (σ a).val) d : EReal)
  v : ∀ a d, v (ix2 a d) = (vf (P + (σ a).val) d : EReal)
  ic : ∀ a, ic (ix2 a 0) = (i (P + (σ a).val) : EReal)
  ir : ∀ a, ir (ix2 0 a) = (i (P + (σ a).val) : EReal)
  fc : ∀ a, fc (ix2 a 0) = (f (P + (σ a).val) : EReal)
  bc : ∀ a, bc (ix2 a 0) = ((cum f (P + (σ a).val + 1) - cum f P : ℝ) : EReal)
  br : ∀ a, br (ix2 0 a) = ((cum f (P + (σ a).val + 1) - cum f P : ℝ) : EReal)

/-- The state after `P` positions, in closed form: stabilised by some real. -/
def Holds (kf vf : ℕ → Fin 256 → ℝ) (i f : ℕ → ℝ) (P : ℕ) : Prop :=
  ∃ M : ℝ, s (ix2 0 0) = (M : EReal)
    ∧ (∀ a b, c (ix2 a b) = ((Real.exp (-M) * state kf i f (fun p => vf p a) P b : ℝ) : EReal))
    ∧ ∀ b, n (ix2 0 b) = ((Real.exp (-M) * state kf i f (fun _ => 1) P b : ℝ) : EReal)

variable {mask q k v ic fc bc ir br c n s} {σ : Fin 256 ≃ Fin 256} {P : ℕ} {qf kf vf : ℕ → Fin 256 → ℝ} {i f : ℕ → ℝ}

/-- The masked logarithms of the weights, in closed form. -/
theorem logw_apply (h : Reads mask q k v ic fc bc ir br σ P qf kf vf i f) (a b : Fin 256) :
    logw mask bc ir br (ix2 a b) = if σ b ≤ σ a then
      (((cum f (P + (σ a).val + 1) - cum f P) - (cum f (P + (σ b).val + 1) - cum f P) + i (P + (σ b).val) : ℝ) : EReal) else ⊥ := by
  pointwise! [logw]
  rw [h.mask, h.bc, h.br, h.ir, ninf]
  by_cases hr : σ b ≤ σ a
  · rw [if_pos hr, if_pos hr]
    simp only [← EReal.coe_sub, ← EReal.coe_add]
    rfl
  · rw [if_neg hr, if_neg hr]
    rfl

/-- Every row's stabiliser is real. -/
theorem stab_real (h : Reads mask q k v ic fc bc ir br σ P qf kf vf i f) {M : ℝ} (hs : s (ix2 0 0) = (M : EReal)) (a : Fin 256) :
    ∃ μ : ℝ, stab mask bc ir br s (ix2 a 0) = (μ : EReal) := by
  pointwise! [stab, inter]
  rw [h.bc, hs, ← EReal.coe_add]
  refine max_real _ _ (fold_ne_top _ (by rw [ninf]; exact bot_ne_top) _ fun x => ?_)
  rw [logw_apply h]
  split_ifs
  · exact EReal.coe_ne_top _
  · exact bot_ne_top

/-- The weighted products of queries and keys, in closed form. -/
theorem scor_apply (h : Reads mask q k v ic fc bc ir br σ P qf kf vf i f) {μ : ℝ} {a : Fin 256} (hμ : stab mask bc ir br s (ix2 a 0) = (μ : EReal)) (b : Fin 256) :
    scor mask q k bc ir br s (ix2 a b) = ((if σ b ≤ σ a then (∑ d, qf (P + (σ a).val) d * kf (P + (σ b).val) d)
      * Real.exp ((cum f (P + (σ a).val + 1) - cum f P) - (cum f (P + (σ b).val + 1) - cum f P) + i (P + (σ b).val) - μ) else 0 : ℝ) : EReal) := by
  pointwise! [scor]
  rw [hμ, logw_apply h]
  simp only [h.q, h.k, ← EReal.coe_mul, coe_sum]
  split_ifs
  · rw [← EReal.coe_sub, Ideal.exp_coe, ← EReal.coe_mul]
  · rw [EReal.bot_sub, show Ideal.exp ⊥ = 0 from rfl, mul_zero]
    rfl

/-- The state's weight at a row, in closed form. -/
theorem sint_apply (h : Reads mask q k v ic fc bc ir br σ P qf kf vf i f) {M : ℝ} (hs : s (ix2 0 0) = (M : EReal)) {μ : ℝ} {a : Fin 256}
    (hμ : stab mask bc ir br s (ix2 a 0) = (μ : EReal)) :
    sint mask bc ir br s (ix2 a 0) = (Real.exp ((cum f (P + (σ a).val + 1) - cum f P) + M - μ) : EReal) := by
  pointwise! [sint, inter]
  rw [hμ, h.bc, hs, ← EReal.coe_add, ← EReal.coe_sub, Ideal.exp_coe]

/-- A chunk's outputs are the closed form's. -/
theorem outs_closed (h : Reads mask q k v ic fc bc ir br σ P qf kf vf i f) (hc : Holds c n s kf vf i f P) (a b : Fin 256) :
    outs mask q k v bc ir br c n s (ix2 a b) = (out qf kf i f (fun p => vf p b) (P + (σ a).val) : EReal) := by
  obtain ⟨M, hs, hC, hN⟩ := hc
  obtain ⟨μ, hμ⟩ := stab_real h hs a
  pointwise! [outs, numer, denom]
  simp only [hμ, scor_apply h hμ, sint_apply h hs hμ, h.q, h.v, hC, hN, ← EReal.coe_mul, coe_sum, ← EReal.coe_add]
  have e1 := read_chunk qf kf i f σ P (fun p => vf p b) M μ a
  have e2 := read_chunk qf kf i f σ P (fun _ => 1) M μ a
  simp only [mul_one] at e2
  rw [e1, e2, zero_sub, ← EReal.coe_neg, Ideal.exp_coe]
  rw [show FloatOps.absf (F := Ideal) (φ := .f32) ((Real.exp (-μ) * Ml.read qf kf i f (fun _ => 1) (P + (σ a).val) : ℝ) : EReal)
    = ((|Real.exp (-μ) * Ml.read qf kf i f (fun _ => 1) (P + (σ a).val)| : ℝ) : EReal) from abs_real _]
  rw [← EReal.coe_strictMono.monotone.map_max, div_real _ _ (lt_of_lt_of_le (Real.exp_pos _) (le_max_right _ _)).ne', quot_stab]
  rfl

/-- The forget gates' logarithms over a chunk sum to what they add. -/
theorem sum_gates (h : Reads mask q k v ic fc bc ir br σ P qf kf vf i f) : ∑ x, fc (ix2 x 0) = ((cum f (P + 256) - cum f P : ℝ) : EReal) := by
  simp only [h.fc, coe_sum]
  rw [sum_rows σ (fun n => f (P + n)), cum, cum, Finset.sum_range_add, add_sub_cancel_left]

/-- A chunk's next state is the closed form's. -/
theorem step_closed (h : Reads mask q k v ic fc bc ir br σ P qf kf vf i f) (hc : Holds c n s kf vf i f P) :
    Holds (cnew k v ic fc bc c s) (nnew k ic fc bc n s) (snew ic fc bc s) kf vf i f (P + 256) := by
  obtain ⟨M, hs, hC, hN⟩ := hc
  have h1 : ∃ μ : ℝ, snew ic fc bc s (ix2 0 0) = (μ : EReal) := by
    pointwise! [snew, dend, tot]
    rw [sum_gates h, hs, ← EReal.coe_add]
    refine max_real _ _ (fold_ne_top _ (by rw [ninf]; exact bot_ne_top) _ fun x => ?_)
    rw [h.bc, h.ic, ← EReal.coe_sub, ← EReal.coe_add]
    exact EReal.coe_ne_top _
  obtain ⟨μ, hμ⟩ := h1
  refine ⟨μ, hμ, fun a b => ?_, fun b => ?_⟩
  · pointwise! [cnew, dec, wend, dend, tot]
    simp only [sum_gates h, hμ, hs, h.bc, h.ic, h.k, h.v, hC, ← EReal.coe_add, ← EReal.coe_sub, Ideal.exp_coe, ← EReal.coe_mul, coe_sum]
    rw [← state_chunk kf i f σ P (fun p => vf p a) M μ b]
  · pointwise! [nnew, dec, wend, dend, tot]
    simp only [sum_gates h, hμ, hs, h.bc, h.ic, h.k, h.v, hN, ← EReal.coe_add, ← EReal.coe_sub, Ideal.exp_coe, ← EReal.coe_mul, coe_sum]
    rw [← state_chunk kf i f σ P (fun _ => 1) M μ b]
    congr 2
    exact Finset.sum_congr rfl fun x _ => by ring

end Cert.Kernel2Ideal.Chain

end
-- ==== Proof.MlAcc.lean ====
/- The mLSTM scan's state and outputs at a grid point: what one point's chunk makes of the blocks it reads and the
   state the point before it left. -/
module

public import proofs.«01_k».proof.Proof.MlChain

@[expose] public section

set_option maxRecDepth 16384

noncomputable section

namespace Cert.Kernel2Ideal.Acc

open Cert.Kernel2Ideal Cert.Kernel2Ideal.Gen Cert.Kernel2Ideal.Chain Idealize.ShloMosaic Idealize.ShloMosaic.TcCoe Idealize.SL.Sem Cert.Ml
open Idealize.ShloMosaic.Pipeline (Dat)

variable (m : (ℓ : Loc nD τ sig) → Buf (Elt Ideal) ℓ)

/-- What one direction's chains of a grid point read. -/
structure Ins where
  mask : IVec S256x256 1
  u : FVec Ideal S256x256 .bf16
  w : FVec Ideal S256x256 .bf16
  q : Vec Ideal S1x256x1024 .bf16
  k : Vec Ideal S1x256x1024 .bf16
  v : Vec Ideal S1x256x1024 .bf16
  g : Vec Ideal S1x256x128 .f32
  t : Vec Ideal S1x16x256 .f32
  b : Vec Ideal S1x16 .f32
  bt : Vec Ideal S16x1 .f32

/-- The rows' and columns' numbers. -/
def rowN : IVec S256x256 32 := iota .tc S256x256 32 [0] iota_S256x256_d0_w32
/-- The columns' numbers. -/
def colN : IVec S256x256 32 := iota .tc S256x256 32 [1] iota_S256x256_d1_w32

/-- What the forward chains read. -/
def fwd (q k v : Vec Ideal S1x256x1024 .bf16) (g : Vec Ideal S1x256x128 .f32) (t : Vec Ideal S1x16x256 .f32) (b : Vec Ideal S1x16 .f32) (bt : Vec Ideal S16x1 .f32) : Ins :=
  ⟨cmpi .sge rowN colN, k0_pay7, k0_pay8, q, k, v, g, t, b, bt⟩

/-- What the backward chains read. -/
def bwd (q k v : Vec Ideal S1x256x1024 .bf16) (g : Vec Ideal S1x256x128 .f32) (t : Vec Ideal S1x16x256 .f32) (b : Vec Ideal S1x16 .f32) (bt : Vec Ideal S16x1 .f32) : Ins :=
  ⟨cmpi .sge colN rowN, k0_pay8, k0_pay7, q, k, v, g, t, b, bt⟩

/-- Which of the two a chain reads. -/
def ins (F B : Ins) (a : Fin 8) : Ins := (![F, F, F, F, B, B, B, B] : Fin 8 → Ins) a

/-- A head's columns lie in the block. -/
theorem inbq (a : Fin 8) : ∀ x, (![0, 0, 256 * (a.val % 4)] : Fin 3 → ℕ) x + (![1, 256, 256] : Fin 3 → ℕ) x ≤ S1x256x1024.size x := by
  revert a; decide
/-- A head's state matrix lies in the scratch. -/
theorem inbc (a : Fin 8) : ∀ x, (![a.val, 0, 0] : Fin 3 → ℕ) x + (![1, 256, 256] : Fin 3 → ℕ) x ≤ S8x256x256.size x := by
  revert a; decide
/-- A head's normaliser lies in the scratch. -/
theorem inbn (a : Fin 8) : ∀ x, (![a.val, 0, 0] : Fin 3 → ℕ) x + (![1, 1, 256] : Fin 3 → ℕ) x ≤ S8x1x256.size x := by
  revert a; decide
/-- A head's stabiliser lies in the scratch. -/
theorem inbs (a : Fin 8) : ∀ x, (![a.val, 0, 0] : Fin 3 → ℕ) x + (![1, 1, 1] : Fin 3 → ℕ) x ≤ S8x1x1.size x := by
  revert a; decide
/-- A column of the gates is a slice of them. -/
theorem slcol (o : ℕ) (h : o < 16) : S256x16.Slices ![0, o] S256x1 := by
  revert h; revert o; decide
/-- A row of the transposed gates is a slice of them. -/
theorem slrow (o : ℕ) (h : o < 16) : S16x256.Slices ![o, 0] S1x256 := by
  revert h; revert o; decide

/-- Where a chain's input gate lies. -/
def ig (a : Fin 8) : ℕ := 8 * (a.val / 4) + a.val % 4
/-- Where a chain's forget gate lies. -/
def fg (a : Fin 8) : ℕ := 8 * (a.val / 4) + 4 + a.val % 4
/-- A head's input gate column is one of the sixteen. -/
theorem ig_lt (a : Fin 8) : ig a < 16 := by have := a.isLt; unfold ig; omega
/-- A head's forget gate column is one of the sixteen. -/
theorem fg_lt (a : Fin 8) : fg a < 16 := by have := a.isLt; unfold fg; omega

/-- A chain's columns of a block of queries, keys or values. -/
def mat (x : Vec Ideal S1x256x1024 .bf16) (a : Fin 8) : FVec Ideal S256x256 .bf16 :=
  shapeCast S256x256 (View.ld x (Rect.unit ![0, 0, 256 * (a.val % 4)] ![1, 256, 256] (inbq a))) shapeCasts_S1x256x256_S256x256

/-- The gates with their bias, a row for each position. -/
def gates (X : Ins) : FVec Ideal S256x16 .f32 :=
  k0_pay121 (View.ld X.g (Rect.unit ![0, 0, 0] ![1, 256, 16] inb_S1x256x128_S1x256x16_0_0_0)) X.b

/-- The gates with their bias, a column for each position. -/
def gatesT (X : Ins) : FVec Ideal S16x256 .f32 := k0_pay10 X.t X.bt

/-- A column of a table of gates. -/
def colAt (x : FVec Ideal S256x16 .f32) (o : ℕ) (h : o < 16) : FVec Ideal S256x1 .f32 := extractStridedSlice S256x1 ![0, o] x (slcol o h)
/-- A row of a table of gates. -/
def rowAt (x : FVec Ideal S16x256 .f32) (o : ℕ) (h : o < 16) : FVec Ideal S1x256 .f32 := extractStridedSlice S1x256 ![o, 0] x (slrow o h)

/-- A chain's state. -/
def cAt (x : Vec Ideal S8x256x256 .f32) (a : Fin 8) : FVec Ideal S256x256 .f32 :=
  shapeCast S256x256 (View.ld x (Rect.unit ![a.val, 0, 0] ![1, 256, 256] (inbc a))) shapeCasts_S1x256x256_S256x256
/-- A chain's normaliser. -/
def nAt (x : Vec Ideal S8x1x256 .f32) (a : Fin 8) : FVec Ideal S1x256 .f32 :=
  shapeCast S1x256 (View.ld x (Rect.unit ![a.val, 0, 0] ![1, 1, 256] (inbn a))) shapeCasts_S1x1x256_S1x256
/-- A chain's stabiliser. -/
def sAt (x : Vec Ideal S8x1x1 .f32) (a : Fin 8) : FVec Ideal S1x1 .f32 :=
  shapeCast S1x1 (View.ld x (Rect.unit ![a.val, 0, 0] ![1, 1, 1] (inbs a))) shapeCasts_S1x1x1_S1x1

variable (F B : Ins) (xc : Vec Ideal S8x256x256 .f32) (xn : Vec Ideal S8x1x256 .f32) (xs : Vec Ideal S8x1x1 .f32)

/-- A chain's next state. -/
def nextC (a : Fin 8) : FVec Ideal S256x256 .f32 :=
  cnew (mat (ins F B a).k a) (mat (ins F B a).v a) (colAt (gates (ins F B a)) (ig a) (ig_lt a)) (colAt (k0_pay125 (gates (ins F B a))) (fg a) (fg_lt a))
    (colAt (k0_pay126 (ins F B a).u (gates (ins F B a))) (fg a) (fg_lt a)) (cAt xc a) (sAt xs a)
/-- A chain's next normaliser. -/
def nextN (a : Fin 8) : FVec Ideal S1x256 .f32 :=
  nnew (mat (ins F B a).k a) (colAt (gates (ins F B a)) (ig a) (ig_lt a)) (colAt (k0_pay125 (gates (ins F B a))) (fg a) (fg_lt a))
    (colAt (k0_pay126 (ins F B a).u (gates (ins F B a))) (fg a) (fg_lt a)) (nAt xn a) (sAt xs a)
/-- A chain's next stabiliser. -/
def nextS (a : Fin 8) : FVec Ideal S1x1 .f32 :=
  snew (colAt (gates (ins F B a)) (ig a) (ig_lt a)) (colAt (k0_pay125 (gates (ins F B a))) (fg a) (fg_lt a))
    (colAt (k0_pay126 (ins F B a).u (gates (ins F B a))) (fg a) (fg_lt a)) (sAt xs a)
/-- A chain's outputs. -/
def outsAt (a : Fin 8) : FVec Ideal S256x256 .f32 :=
  outs (ins F B a).mask (mat (ins F B a).q a) (mat (ins F B a).k a) (mat (ins F B a).v a)
    (colAt (k0_pay126 (ins F B a).u (gates (ins F B a))) (fg a) (fg_lt a)) (rowAt (gatesT (ins F B a)) (ig a) (ig_lt a))
    (rowAt (k0_pay14 (ins F B a).w (gatesT (ins F B a)) k0_pay12) (fg a) (fg_lt a)) (cAt xc a) (nAt xn a) (sAt xs a)

/-- The chains' next states as the scratch holds them. -/
def packC (f : Fin 8 → FVec Ideal S256x256 .f32) : Vec Ideal S8x256x256 .f32 := fun j => f (j 0) (ix2 (j 1) (j 2))
/-- The chains' next normalisers as the scratch holds them. -/
def packN (f : Fin 8 → FVec Ideal S1x256 .f32) : Vec Ideal S8x1x256 .f32 := fun j => f (j 0) (ix2 0 (j 2))
/-- The chains' next stabilisers as the scratch holds them. -/
def packS (f : Fin 8 → FVec Ideal S1x1 .f32) : Vec Ideal S8x1x1 .f32 := fun j => f (j 0) (ix2 0 0)

/-- A state matrix stored for a head is what the head's part of the scratch holds. -/
theorem piece_C (f : Fin 8 → FVec Ideal S256x256 .f32) (a : Fin 8) (x : S1x256x256.Idx) :
    shapeCast S1x256x256 (f a) shapeCasts_S256x256_S1x256x256 x = packC f ((Rect.unit (s := S8x256x256) ![a.val, 0, 0] ![1, 256, 256] (inbc a)).emb x) := by
  have h0 : (x 0).val < 1 := (x 0).isLt
  have e : (Rect.unit (s := S8x256x256) ![a.val, 0, 0] ![1, 256, 256] (inbc a)).emb x = ix3 a (x 1) (x 2) := by
    funext i
    refine Fin.ext ?_
    rw [Rect.emb_apply]
    match i with
    | ⟨0, _⟩ => show a.val + 1 * (x 0).val = a.val; omega
    | ⟨1, _⟩ => show 0 + 1 * (x 1).val = (x 1).val; omega
    | ⟨2, _⟩ => show 0 + 1 * (x 2).val = (x 2).val; omega
  rw [e]
  pointwise! [packC]

/-- A normaliser stored for a head is what the head's part of the scratch holds. -/
theorem piece_N (f : Fin 8 → FVec Ideal S1x256 .f32) (a : Fin 8) (x : S1x1x256.Idx) :
    shapeCast S1x1x256 (f a) shapeCasts_S1x256_S1x1x256 x = packN f ((Rect.unit (s := S8x1x256) ![a.val, 0, 0] ![1, 1, 256] (inbn a)).emb x) := by
  have h0 : (x 0).val < 1 := (x 0).isLt
  have e : (Rect.unit (s := S8x1x256) ![a.val, 0, 0] ![1, 1, 256] (inbn a)).emb x = ix3 a (x 1) (x 2) := by
    funext i
    refine Fin.ext ?_
    rw [Rect.emb_apply]
    match i with
    | ⟨0, _⟩ => show a.val + 1 * (x 0).val = a.val; omega
    | ⟨1, _⟩ => show 0 + 1 * (x 1).val = (x 1).val; omega
    | ⟨2, _⟩ => show 0 + 1 * (x 2).val = (x 2).val; omega
  rw [e]
  pointwise! [packN]

/-- A stabiliser stored for a head is what the head's part of the scratch holds. -/
theorem piece_S (f : Fin 8 → FVec Ideal S1x1 .f32) (a : Fin 8) (x : S1x1x1.Idx) :
    shapeCast S1x1x1 (f a) shapeCasts_S1x1_S1x1x1 x = packS f ((Rect.unit (s := S8x1x1) ![a.val, 0, 0] ![1, 1, 1] (inbs a)).emb x) := by
  have h0 : (x 0).val < 1 := (x 0).isLt
  have e : (Rect.unit (s := S8x1x1) ![a.val, 0, 0] ![1, 1, 1] (inbs a)).emb x = ix3 a (x 1) (x 2) := by
    funext i
    refine Fin.ext ?_
    rw [Rect.emb_apply]
    match i with
    | ⟨0, _⟩ => show a.val + 1 * (x 0).val = a.val; omega
    | ⟨1, _⟩ => show 0 + 1 * (x 1).val = (x 1).val; omega
    | ⟨2, _⟩ => show 0 + 1 * (x 2).val = (x 2).val; omega
  rw [e]
  pointwise! [packS]

/-- A head's result columns lie in the block. -/
theorem inbo (a : Fin 4) : ∀ x, (![0, 0, 256 * a.val] : Fin 3 → ℕ) x + (![1, 256, 256] : Fin 3 → ℕ) x ≤ S1x256x1024.size x := by
  revert a; decide

/-- Four chains' outputs as an output block holds them. -/
def packO (f : Fin 4 → FVec Ideal S256x256 .f32) : Vec Ideal S1x256x1024 .bf16 :=
  fun j => f ⟨(j 2).val / 256, by have h : (j 2).val < 1024 := (j 2).isLt; omega⟩ (ix2 (j 1) ⟨(j 2).val % 256, Nat.mod_lt _ (by decide)⟩)

/-- A result stored for a head is what the head's part of the block holds. -/
theorem piece_O (f : Fin 4 → FVec Ideal S256x256 .f32) (a : Fin 4) (x : S1x256x256.Idx) :
    shapeCast S1x256x256 (truncf (F := Ideal) .bf16 (f a) bitsLt_bf16_f32) shapeCasts_S256x256_S1x256x256 x
      = packO f ((Rect.unit (s := S1x256x1024) ![0, 0, 256 * a.val] ![1, 256, 256] (inbo a)).emb x) := by
  have h0 : (x 0).val < 1 := (x 0).isLt
  have h2 : (x 2).val < 256 := (x 2).isLt
  have ha := a.isLt
  have e : (Rect.unit (s := S1x256x1024) ![0, 0, 256 * a.val] ![1, 256, 256] (inbo a)).emb x = ix3 0 (x 1) ⟨256 * a.val + (x 2).val, by omega⟩ := by
    funext i
    refine Fin.ext ?_
    rw [Rect.emb_apply]
    match i with
    | ⟨0, _⟩ => show 0 + 1 * (x 0).val = 0; omega
    | ⟨1, _⟩ => show 0 + 1 * (x 1).val = (x 1).val; omega
    | ⟨2, _⟩ => show 256 * a.val + 1 * (x 2).val = 256 * a.val + (x 2).val; omega
  rw [e]
  have e1 : (⟨(256 * a.val + (x 2).val) / 256, by omega⟩ : Fin 4) = a := Fin.ext (by show (256 * a.val + (x 2).val) / 256 = a.val; omega)
  have e2 : (⟨(256 * a.val + (x 2).val) % 256, Nat.mod_lt _ (by decide)⟩ : Fin 256) = ⟨(x 2).val, h2⟩ := Fin.ext (by show (256 * a.val + (x 2).val) % 256 = (x 2).val; omega)
  show _ = f ⟨(256 * a.val + (x 2).val) / 256, _⟩ (ix2 (x 1) ⟨(256 * a.val + (x 2).val) % 256, _⟩)
  rw [e1, e2]
  pointwise!

/-- The forward chains' outputs. -/
def outF (a : Fin 4) : FVec Ideal S256x256 .f32 := outsAt F B xc xn xs ⟨a.val, by omega⟩
/-- The backward chains' outputs. -/
def outB (a : Fin 4) : FVec Ideal S256x256 .f32 := outsAt F B xc xn xs ⟨4 + a.val, by omega⟩

/-- What the forward chains read at a grid point. -/
def fwdAt (c : Dev nD) (t : Fin cfg0.N) : Ins := fwd (iblk m c 0 t) (iblk m c 1 t) (iblk m c 2 t) (iblk m c 3 t) (iblk m c 4 t) (iblk m c 10 t) (iblk m c 11 t)
/-- What the backward chains read at a grid point. -/
def bwdAt (c : Dev nD) (t : Fin cfg0.N) : Ins := bwd (iblk m c 5 t) (iblk m c 6 t) (iblk m c 7 t) (iblk m c 8 t) (iblk m c 9 t) (iblk m c 10 t) (iblk m c 11 t)

/-- A grid point that goes on with a state: its chains' states. -/
theorem stC_B (c : Dev nD) (t : Fin cfg0.N) (h0 : ¬t.val % 33 = 0) (j : S8x256x256.Idx) :
    (outsAt0 m c t.val t.isLt).2.2.1 j = packC (nextC (fwdAt m c t) (bwdAt m c t) (outsAt0 m c (t.val - 1) (Nat.lt_of_le_of_lt (Nat.sub_le _ _) t.isLt)).2.2.1 (outsAt0 m c (t.val - 1) (Nat.lt_of_le_of_lt (Nat.sub_le _ _) t.isLt)).2.2.2.2) j := by
  rw [outsAt0_B m c t h0, fwdAt, bwdAt]
  dsimp only
  generalize (outsAt0 m c (t.val - 1) (Nat.lt_of_le_of_lt (Nat.sub_le _ _) t.isLt)).2.2.1 = xc
  generalize (outsAt0 m c (t.val - 1) (Nat.lt_of_le_of_lt (Nat.sub_le _ _) t.isLt)).2.2.2.1 = xn
  generalize (outsAt0 m c (t.val - 1) (Nat.lt_of_le_of_lt (Nat.sub_le _ _) t.isLt)).2.2.2.2 = xs
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  generalize iblk m c 11 t = x11
  frame_out
  rw [show View.read (Elt Ideal) (View.whole cc0_scratch0) ((Memref.isWhole_whole cc0_scratch0).unread xc) = xc from
    (Memref.isWhole_whole cc0_scratch0).read_unread xc]
  rw [show View.read (Elt Ideal) (View.whole cc0_scratch2) ((Memref.isWhole_whole cc0_scratch2).unread xs) = xs from
    (Memref.isWhole_whole cc0_scratch2).read_unread xs]
  have P := piece_C (nextC (fwd x0 x1 x2 x3 x4 x10 x11) (bwd x5 x6 x7 x8 x9 x10 x11) xc xs)
  refine View.canon_apply_of_pieces (Val := Elt Ideal) (e := .f32) (packC (nextC (fwd x0 x1 x2 x3 x4 x10 x11) (bwd x5 x6 x7 x8 x9 x10 x11) xc xs)) _ (View.PiecesOf.mem ?_) j ?_
  · exact ⟨fun x => P 7 x, fun x => P 6 x, fun x => P 5 x, fun x => P 4 x, fun x => P 3 x, fun x => P 2 x, fun x => P 1 x, fun x => P 0 x, trivial⟩
  · exact View.cover_of_tiled_head _ _ _ rfl j

/-- A grid point that goes on with a state: its chains' normalisers. -/
theorem stN_B (c : Dev nD) (t : Fin cfg0.N) (h0 : ¬t.val % 33 = 0) (j : S8x1x256.Idx) :
    (outsAt0 m c t.val t.isLt).2.2.2.1 j = packN (nextN (fwdAt m c t) (bwdAt m c t) (outsAt0 m c (t.val - 1) (Nat.lt_of_le_of_lt (Nat.sub_le _ _) t.isLt)).2.2.2.1 (outsAt0 m c (t.val - 1) (Nat.lt_of_le_of_lt (Nat.sub_le _ _) t.isLt)).2.2.2.2) j := by
  rw [outsAt0_B m c t h0, fwdAt, bwdAt]
  dsimp only
  generalize (outsAt0 m c (t.val - 1) (Nat.lt_of_le_of_lt (Nat.sub_le _ _) t.isLt)).2.2.1 = xc
  generalize (outsAt0 m c (t.val - 1) (Nat.lt_of_le_of_lt (Nat.sub_le _ _) t.isLt)).2.2.2.1 = xn
  generalize (outsAt0 m c (t.val - 1) (Nat.lt_of_le_of_lt (Nat.sub_le _ _) t.isLt)).2.2.2.2 = xs
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  generalize iblk m c 11 t = x11
  frame_out
  rw [show View.read (Elt Ideal) (View.whole cc0_scratch1) ((Memref.isWhole_whole cc0_scratch1).unread xn) = xn from
    (Memref.isWhole_whole cc0_scratch1).read_unread xn]
  rw [show View.read (Elt Ideal) (View.whole cc0_scratch2) ((Memref.isWhole_whole cc0_scratch2).unread xs) = xs from
    (Memref.isWhole_whole cc0_scratch2).read_unread xs]
  have P := piece_N (nextN (fwd x0 x1 x2 x3 x4 x10 x11) (bwd x5 x6 x7 x8 x9 x10 x11) xn xs)
  refine View.canon_apply_of_pieces (Val := Elt Ideal) (e := .f32) (packN (nextN (fwd x0 x1 x2 x3 x4 x10 x11) (bwd x5 x6 x7 x8 x9 x10 x11) xn xs)) _ (View.PiecesOf.mem ?_) j ?_
  · exact ⟨fun x => P 7 x, fun x => P 6 x, fun x => P 5 x, fun x => P 4 x, fun x => P 3 x, fun x => P 2 x, fun x => P 1 x, fun x => P 0 x, trivial⟩
  · exact View.cover_of_tiled_head _ _ _ rfl j

/-- A grid point that goes on with a state: its chains' stabilisers. -/
theorem stS_B (c : Dev nD) (t : Fin cfg0.N) (h0 : ¬t.val % 33 = 0) (j : S8x1x1.Idx) :
    (outsAt0 m c t.val t.isLt).2.2.2.2 j = packS (nextS (fwdAt m c t) (bwdAt m c t) (outsAt0 m c (t.val - 1) (Nat.lt_of_le_of_lt (Nat.sub_le _ _) t.isLt)).2.2.2.2) j := by
  rw [outsAt0_B m c t h0, fwdAt, bwdAt]
  dsimp only
  generalize (outsAt0 m c (t.val - 1) (Nat.lt_of_le_of_lt (Nat.sub_le _ _) t.isLt)).2.2.1 = xc
  generalize (outsAt0 m c (t.val - 1) (Nat.lt_of_le_of_lt (Nat.sub_le _ _) t.isLt)).2.2.2.1 = xn
  generalize (outsAt0 m c (t.val - 1) (Nat.lt_of_le_of_lt (Nat.sub_le _ _) t.isLt)).2.2.2.2 = xs
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  generalize iblk m c 11 t = x11
  frame_out
  rw [show View.read (Elt Ideal) (View.whole cc0_scratch2) ((Memref.isWhole_whole cc0_scratch2).unread xs) = xs from
    (Memref.isWhole_whole cc0_scratch2).read_unread xs]
  have P := piece_S (nextS (fwd x0 x1 x2 x3 x4 x10 x11) (bwd x5 x6 x7 x8 x9 x10 x11) xs)
  refine View.canon_apply_of_pieces (Val := Elt Ideal) (e := .f32) (packS (nextS (fwd x0 x1 x2 x3 x4 x10 x11) (bwd x5 x6 x7 x8 x9 x10 x11) xs)) _ (View.PiecesOf.mem ?_) j ?_
  · exact ⟨fun x => P 7 x, fun x => P 6 x, fun x => P 5 x, fun x => P 4 x, fun x => P 3 x, fun x => P 2 x, fun x => P 1 x, fun x => P 0 x, trivial⟩
  · exact View.cover_of_tiled_head _ _ _ rfl j

/-- A grid point that goes on with a state: its chains' forward outputs. -/
theorem ouF_B (c : Dev nD) (t : Fin cfg0.N) (h0 : ¬t.val % 33 = 0) (j : S1x256x1024.Idx) :
    (outsAt0 m c t.val t.isLt).1 j = packO (outF (fwdAt m c t) (bwdAt m c t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) j := by
  rw [outsAt0_B m c t h0, fwdAt, bwdAt]
  dsimp only
  generalize (outsAt0 m c (t.val - 1) (Nat.lt_of_le_of_lt (Nat.sub_le _ _) t.isLt)).2.2.1 = xc
  generalize (outsAt0 m c (t.val - 1) (Nat.lt_of_le_of_lt (Nat.sub_le _ _) t.isLt)).2.2.2.1 = xn
  generalize (outsAt0 m c (t.val - 1) (Nat.lt_of_le_of_lt (Nat.sub_le _ _) t.isLt)).2.2.2.2 = xs
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  generalize iblk m c 11 t = x11
  frame_out
  rw [show View.read (Elt Ideal) (View.whole cc0_scratch0) ((Memref.isWhole_whole cc0_scratch0).unread xc) = xc from
    (Memref.isWhole_whole cc0_scratch0).read_unread xc]
  rw [show View.read (Elt Ideal) (View.whole cc0_scratch1) ((Memref.isWhole_whole cc0_scratch1).unread xn) = xn from
    (Memref.isWhole_whole cc0_scratch1).read_unread xn]
  rw [show View.read (Elt Ideal) (View.whole cc0_scratch2) ((Memref.isWhole_whole cc0_scratch2).unread xs) = xs from
    (Memref.isWhole_whole cc0_scratch2).read_unread xs]
  have P := piece_O (outF (fwd x0 x1 x2 x3 x4 x10 x11) (bwd x5 x6 x7 x8 x9 x10 x11) xc xn xs)
  refine View.canon_apply_of_pieces (Val := Elt Ideal) (e := .bf16) (packO (outF (fwd x0 x1 x2 x3 x4 x10 x11) (bwd x5 x6 x7 x8 x9 x10 x11) xc xn xs)) _ (View.PiecesOf.mem ?_) j ?_
  · exact ⟨fun x => P 3 x, fun x => P 2 x, fun x => P 1 x, fun x => P 0 x, trivial⟩
  · exact View.cover_of_tiled_head _ _ _ rfl j

/-- A grid point that goes on with a state: its chains' backward outputs. -/
theorem ouB_B (c : Dev nD) (t : Fin cfg0.N) (h0 : ¬t.val % 33 = 0) (j : S1x256x1024.Idx) :
    (outsAt0 m c t.val t.isLt).2.1 j = packO (outB (fwdAt m c t) (bwdAt m c t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) j := by
  rw [outsAt0_B m c t h0, fwdAt, bwdAt]
  dsimp only
  generalize (outsAt0 m c (t.val - 1) (Nat.lt_of_le_of_lt (Nat.sub_le _ _) t.isLt)).2.2.1 = xc
  generalize (outsAt0 m c (t.val - 1) (Nat.lt_of_le_of_lt (Nat.sub_le _ _) t.isLt)).2.2.2.1 = xn
  generalize (outsAt0 m c (t.val - 1) (Nat.lt_of_le_of_lt (Nat.sub_le _ _) t.isLt)).2.2.2.2 = xs
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  generalize iblk m c 11 t = x11
  frame_out
  rw [show View.read (Elt Ideal) (View.whole cc0_scratch0) ((Memref.isWhole_whole cc0_scratch0).unread xc) = xc from
    (Memref.isWhole_whole cc0_scratch0).read_unread xc]
  rw [show View.read (Elt Ideal) (View.whole cc0_scratch1) ((Memref.isWhole_whole cc0_scratch1).unread xn) = xn from
    (Memref.isWhole_whole cc0_scratch1).read_unread xn]
  rw [show View.read (Elt Ideal) (View.whole cc0_scratch2) ((Memref.isWhole_whole cc0_scratch2).unread xs) = xs from
    (Memref.isWhole_whole cc0_scratch2).read_unread xs]
  have P := piece_O (outB (fwd x0 x1 x2 x3 x4 x10 x11) (bwd x5 x6 x7 x8 x9 x10 x11) xc xn xs)
  refine View.canon_apply_of_pieces (Val := Elt Ideal) (e := .bf16) (packO (outB (fwd x0 x1 x2 x3 x4 x10 x11) (bwd x5 x6 x7 x8 x9 x10 x11) xc xn xs)) _ (View.PiecesOf.mem ?_) j ?_
  · exact ⟨fun x => P 3 x, fun x => P 2 x, fun x => P 1 x, fun x => P 0 x, trivial⟩
  · exact View.cover_of_tiled_head _ _ _ rfl j

/-- A grid point that starts from zeros: its chains' states. -/
theorem stC_A (c : Dev nD) (t : Fin cfg0.N) (h0 : t.val % 33 = 0) (j : S8x256x256.Idx) :
    (outsAt0 m c t.val t.isLt).2.2.1 j = packC (nextC (fwdAt m c t) (bwdAt m c t) (k0_pay4 (F := Ideal)) (k0_pay6 (F := Ideal))) j := by
  rw [outsAt0_A m c t h0, fwdAt, bwdAt]
  dsimp only
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  generalize iblk m c 11 t = x11
  frame_out
  simp (disch := decide) only [↓View.readCov_skip, ↓View.readCov_fill]
  have P := piece_C (nextC (fwd x0 x1 x2 x3 x4 x10 x11) (bwd x5 x6 x7 x8 x9 x10 x11) (k0_pay4 (F := Ideal)) (k0_pay6 (F := Ideal)))
  refine View.canon_append_of_piecesOf (Val := Elt Ideal) (e := .f32) (packC (nextC (fwd x0 x1 x2 x3 x4 x10 x11) (bwd x5 x6 x7 x8 x9 x10 x11) (k0_pay4 (F := Ideal)) (k0_pay6 (F := Ideal)))) [_] [_, _, _, _, _, _, _, _] ?_ j ?_
  · exact ⟨fun x => P 7 x, fun x => P 6 x, fun x => P 5 x, fun x => P 4 x, fun x => P 3 x, fun x => P 2 x, fun x => P 1 x, fun x => P 0 x, trivial⟩
  · exact View.cover_of_tiled_head _ _ _ rfl j

/-- A grid point that starts from zeros: its chains' normalisers. -/
theorem stN_A (c : Dev nD) (t : Fin cfg0.N) (h0 : t.val % 33 = 0) (j : S8x1x256.Idx) :
    (outsAt0 m c t.val t.isLt).2.2.2.1 j = packN (nextN (fwdAt m c t) (bwdAt m c t) (k0_pay5 (F := Ideal)) (k0_pay6 (F := Ideal))) j := by
  rw [outsAt0_A m c t h0, fwdAt, bwdAt]
  dsimp only
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  generalize iblk m c 11 t = x11
  frame_out
  simp (disch := decide) only [↓View.readCov_skip, ↓View.readCov_fill]
  have P := piece_N (nextN (fwd x0 x1 x2 x3 x4 x10 x11) (bwd x5 x6 x7 x8 x9 x10 x11) (k0_pay5 (F := Ideal)) (k0_pay6 (F := Ideal)))
  refine View.canon_append_of_piecesOf (Val := Elt Ideal) (e := .f32) (packN (nextN (fwd x0 x1 x2 x3 x4 x10 x11) (bwd x5 x6 x7 x8 x9 x10 x11) (k0_pay5 (F := Ideal)) (k0_pay6 (F := Ideal)))) [_] [_, _, _, _, _, _, _, _] ?_ j ?_
  · exact ⟨fun x => P 7 x, fun x => P 6 x, fun x => P 5 x, fun x => P 4 x, fun x => P 3 x, fun x => P 2 x, fun x => P 1 x, fun x => P 0 x, trivial⟩
  · exact View.cover_of_tiled_head _ _ _ rfl j

/-- A grid point that starts from zeros: its chains' stabilisers. -/
theorem stS_A (c : Dev nD) (t : Fin cfg0.N) (h0 : t.val % 33 = 0) (j : S8x1x1.Idx) :
    (outsAt0 m c t.val t.isLt).2.2.2.2 j = packS (nextS (fwdAt m c t) (bwdAt m c t) (k0_pay6 (F := Ideal))) j := by
  rw [outsAt0_A m c t h0, fwdAt, bwdAt]
  dsimp only
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  generalize iblk m c 11 t = x11
  frame_out
  simp (disch := decide) only [↓View.readCov_skip, ↓View.readCov_fill]
  have P := piece_S (nextS (fwd x0 x1 x2 x3 x4 x10 x11) (bwd x5 x6 x7 x8 x9 x10 x11) (k0_pay6 (F := Ideal)))
  refine View.canon_append_of_piecesOf (Val := Elt Ideal) (e := .f32) (packS (nextS (fwd x0 x1 x2 x3 x4 x10 x11) (bwd x5 x6 x7 x8 x9 x10 x11) (k0_pay6 (F := Ideal)))) [_] [_, _, _, _, _, _, _, _] ?_ j ?_
  · exact ⟨fun x => P 7 x, fun x => P 6 x, fun x => P 5 x, fun x => P 4 x, fun x => P 3 x, fun x => P 2 x, fun x => P 1 x, fun x => P 0 x, trivial⟩
  · exact View.cover_of_tiled_head _ _ _ rfl j

/-- A grid point that starts from zeros: its chains' forward outputs. -/
theorem ouF_A (c : Dev nD) (t : Fin cfg0.N) (h0 : t.val % 33 = 0) (j : S1x256x1024.Idx) :
    (outsAt0 m c t.val t.isLt).1 j = packO (outF (fwdAt m c t) (bwdAt m c t) (k0_pay4 (F := Ideal)) (k0_pay5 (F := Ideal)) (k0_pay6 (F := Ideal))) j := by
  rw [outsAt0_A m c t h0, fwdAt, bwdAt]
  dsimp only
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  generalize iblk m c 11 t = x11
  frame_out
  simp (disch := decide) only [↓View.readCov_skip, ↓View.readCov_fill]
  have P := piece_O (outF (fwd x0 x1 x2 x3 x4 x10 x11) (bwd x5 x6 x7 x8 x9 x10 x11) (k0_pay4 (F := Ideal)) (k0_pay5 (F := Ideal)) (k0_pay6 (F := Ideal)))
  refine View.canon_apply_of_pieces (Val := Elt Ideal) (e := .bf16) (packO (outF (fwd x0 x1 x2 x3 x4 x10 x11) (bwd x5 x6 x7 x8 x9 x10 x11) (k0_pay4 (F := Ideal)) (k0_pay5 (F := Ideal)) (k0_pay6 (F := Ideal)))) _ (View.PiecesOf.mem ?_) j ?_
  · exact ⟨fun x => P 3 x, fun x => P 2 x, fun x => P 1 x, fun x => P 0 x, trivial⟩
  · exact View.cover_of_tiled_head _ _ _ rfl j

/-- A grid point that starts from zeros: its chains' backward outputs. -/
theorem ouB_A (c : Dev nD) (t : Fin cfg0.N) (h0 : t.val % 33 = 0) (j : S1x256x1024.Idx) :
    (outsAt0 m c t.val t.isLt).2.1 j = packO (outB (fwdAt m c t) (bwdAt m c t) (k0_pay4 (F := Ideal)) (k0_pay5 (F := Ideal)) (k0_pay6 (F := Ideal))) j := by
  rw [outsAt0_A m c t h0, fwdAt, bwdAt]
  dsimp only
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  generalize iblk m c 11 t = x11
  frame_out
  simp (disch := decide) only [↓View.readCov_skip, ↓View.readCov_fill]
  have P := piece_O (outB (fwd x0 x1 x2 x3 x4 x10 x11) (bwd x5 x6 x7 x8 x9 x10 x11) (k0_pay4 (F := Ideal)) (k0_pay5 (F := Ideal)) (k0_pay6 (F := Ideal)))
  refine View.canon_apply_of_pieces (Val := Elt Ideal) (e := .bf16) (packO (outB (fwd x0 x1 x2 x3 x4 x10 x11) (bwd x5 x6 x7 x8 x9 x10 x11) (k0_pay4 (F := Ideal)) (k0_pay5 (F := Ideal)) (k0_pay6 (F := Ideal)))) _ (View.PiecesOf.mem ?_) j ?_
  · exact ⟨fun x => P 3 x, fun x => P 2 x, fun x => P 1 x, fun x => P 0 x, trivial⟩
  · exact View.cover_of_tiled_head _ _ _ rfl j

end Cert.Kernel2Ideal.Acc

end
-- ==== Proof.MlReads.lean ====
/- The mLSTM scan's chains at a grid point: what their blocks hold, in closed form, and so what they leave. -/
module

public import proofs.«01_k».proof.Proof.MlAcc

@[expose] public section

set_option maxRecDepth 16384

noncomputable section

namespace Cert.Ml

/-- The logarithm of the logistic function. -/
def logsig (x : ℝ) : ℝ := min x 0 - Real.log (1 + Real.exp (-|x|))

end Cert.Ml

namespace Cert.Kernel2Ideal.Acc

open Cert.Kernel2Ideal Cert.Kernel2Ideal.Gen Cert.Kernel2Ideal.Chain Idealize.ShloMosaic Idealize.ShloMosaic.TcCoe Idealize.SL.Sem Cert.Ml
open Idealize.ShloMosaic.Pipeline (Dat)

/-- What a direction's blocks hold, in closed form: rows in the order `σ` are the positions after `P`. -/
structure Good (X : Ins) (σ : Fin 256 ≃ Fin 256) (P : ℕ) (qf kf vf : ℕ → ℕ → Fin 256 → ℝ) (gf : ℕ → ℕ → ℝ) : Prop where
  hmask : ∀ r s, X.mask (ix2 r s) = if σ s ≤ σ r then 1#1 else 0#1
  hu : ∀ r s, X.u (ix2 r s) = ((if σ s ≤ σ r then 1 else 0 : ℝ) : EReal)
  hw : ∀ r s, X.w (ix2 s r) = ((if σ s ≤ σ r then 1 else 0 : ℝ) : EReal)
  hq : ∀ (r : Fin 256) (h : ℕ) (hh : h < 4) (d : Fin 256), X.q (ix3 0 r ⟨256 * h + d.val, by omega⟩) = (qf h (P + (σ r).val) d : EReal)
  hk : ∀ (r : Fin 256) (h : ℕ) (hh : h < 4) (d : Fin 256), X.k (ix3 0 r ⟨256 * h + d.val, by omega⟩) = (kf h (P + (σ r).val) d : EReal)
  hv : ∀ (r : Fin 256) (h : ℕ) (hh : h < 4) (d : Fin 256), X.v (ix3 0 r ⟨256 * h + d.val, by omega⟩) = (vf h (P + (σ r).val) d : EReal)
  hg : ∀ (r : Fin 256) (o : ℕ) (ho : o < 16), X.g (ix3 0 r ⟨o, by omega⟩) + X.b (ix2 0 ⟨o, ho⟩) = (gf o (P + (σ r).val) : EReal)
  ht : ∀ (r : Fin 256) (o : ℕ) (ho : o < 16), X.t (ix3 0 ⟨o, ho⟩ r) + X.bt (ix2 ⟨o, ho⟩ 0) = (gf o (P + (σ r).val) : EReal)

/-- A head's matrix, entry by entry. -/
theorem mat_apply (x : Vec Ideal S1x256x1024 .bf16) (a : Fin 8) (r d : Fin 256) :
    mat x a (ix2 r d) = x (ix3 0 r ⟨256 * (a.val % 4) + d.val, by omega⟩) := by
  have h : ∀ y : Vec Ideal S1x256x256 .bf16, shapeCast S256x256 y shapeCasts_S1x256x256_S256x256 (ix2 r d) = y (ix3 0 r d) := fun y => by pointwise!
  refine (h _).trans (congrArg x ?_)
  funext i
  refine Fin.ext ?_
  match i with
  | ⟨0, _⟩ => rfl
  | ⟨1, _⟩ => show 0 + 1 * r.val = r.val; omega
  | ⟨2, _⟩ => show 256 * (a.val % 4) + 1 * d.val = 256 * (a.val % 4) + d.val; omega

/-- A head's state matrix, entry by entry. -/
theorem cAt_apply (x : Vec Ideal S8x256x256 .f32) (a : Fin 8) (r d : Fin 256) : cAt x a (ix2 r d) = x (ix3 a r d) := by
  have h : ∀ y : Vec Ideal S1x256x256 .f32, shapeCast S256x256 y shapeCasts_S1x256x256_S256x256 (ix2 r d) = y (ix3 0 r d) := fun y => by pointwise!
  refine (h _).trans (congrArg x ?_)
  funext i
  refine Fin.ext ?_
  match i with
  | ⟨0, _⟩ => show a.val + 1 * 0 = a.val; omega
  | ⟨1, _⟩ => show 0 + 1 * r.val = r.val; omega
  | ⟨2, _⟩ => show 0 + 1 * d.val = d.val; omega

/-- A head's normaliser, entry by entry. -/
theorem nAt_apply (x : Vec Ideal S8x1x256 .f32) (a : Fin 8) (d : Fin 256) : nAt x a (ix2 0 d) = x (ix3 a 0 d) := by
  have h : ∀ y : Vec Ideal S1x1x256 .f32, shapeCast S1x256 y shapeCasts_S1x1x256_S1x256 (ix2 0 d) = y (ix3 0 0 d) := fun y => by pointwise!
  refine (h _).trans (congrArg x ?_)
  funext i
  refine Fin.ext ?_
  match i with
  | ⟨0, _⟩ => show a.val + 1 * 0 = a.val; omega
  | ⟨1, _⟩ => rfl
  | ⟨2, _⟩ => show 0 + 1 * d.val = d.val; omega

/-- A head's stabiliser. -/
theorem sAt_apply (x : Vec Ideal S8x1x1 .f32) (a : Fin 8) : sAt x a (ix2 0 0) = x (ix3 a 0 0) := by
  have h : ∀ y : Vec Ideal S1x1x1 .f32, shapeCast S1x1 y shapeCasts_S1x1x1_S1x1 (ix2 0 0) = y (ix3 0 0 0) := fun y => by pointwise!
  refine (h _).trans (congrArg x ?_)
  funext i
  refine Fin.ext ?_
  match i with
  | ⟨0, _⟩ => show a.val + 1 * 0 = a.val; omega
  | ⟨1, _⟩ => rfl
  | ⟨2, _⟩ => rfl

/-- The gates of a block, their biases added, entry by entry. -/
theorem gates_apply (X : Ins) (r : Fin 256) (o : ℕ) (ho : o < 16) :
    gates X (ix2 r ⟨o, ho⟩) = X.g (ix3 0 r ⟨o, by omega⟩) + X.b (ix2 0 ⟨o, ho⟩) := by
  pointwise! [gates, k0_pay121]

/-- The transposed gates of a block, their biases added, entry by entry. -/
theorem gatesT_apply (X : Ins) (r : Fin 256) (o : ℕ) (ho : o < 16) :
    gatesT X (ix2 ⟨o, ho⟩ r) = X.t (ix3 0 ⟨o, ho⟩ r) + X.bt (ix2 ⟨o, ho⟩ 0) := by
  pointwise! [gatesT, k0_pay10]

/-- A column, entry by entry. -/
theorem colAt_apply (x : FVec Ideal S256x16 .f32) (o : ℕ) (ho : o < 16) (r : Fin 256) : colAt x o ho (ix2 r 0) = x (ix2 r ⟨o, ho⟩) := by
  pointwise! [colAt]

/-- A row, entry by entry. -/
theorem rowAt_apply (x : FVec Ideal S16x256 .f32) (o : ℕ) (ho : o < 16) (r : Fin 256) : rowAt x o ho (ix2 0 r) = x (ix2 ⟨o, ho⟩ r) := by
  pointwise! [rowAt]

/-- The logarithm of the logistic function of a real. -/
theorem logsig_real (x : ℝ) : min (x : EReal) 0 - Ideal.log (1 + Ideal.exp (0 - FloatOps.absf (F := Ideal) (φ := .f32) (x : EReal))) = (logsig x : EReal) := by
  have h : ¬(1 + Real.exp (-|x|) ≤ 0) := not_le.mpr (by positivity)
  rw [abs_real, zero_sub, ← EReal.coe_neg, Ideal.exp_coe, show (1 : EReal) = ((1 : ℝ) : EReal) from rfl, ← EReal.coe_add, Ideal.log_coe, if_neg h,
    show (0 : EReal) = ((0 : ℝ) : EReal) from rfl, ← EReal.coe_strictMono.monotone.map_min, ← EReal.coe_sub]
  rfl

/-- The kernel's logarithm of the logistic function of a real entry. -/
theorem lsig_apply (x : FVec Ideal S256x16 .f32) (j : S256x16.Idx) (y : ℝ) (h : x j = (y : EReal)) : k0_pay125 x j = (logsig y : EReal) := by
  pointwise! [k0_pay125]
  rw [h, logsig_real]

/-- A sum over a chunk's rows up to one, by a mask. -/
theorem masked_sum (σ : Fin 256 ≃ Fin 256) (f : ℕ → ℝ) (P : ℕ) (r : Fin 256) :
    (∑ s, (if σ s ≤ σ r then 1 else 0 : ℝ) * f (P + (σ s).val)) = cum f (P + (σ r).val + 1) - cum f P := by
  rw [cum, cum, show P + (σ r).val + 1 = P + ((σ r).val + 1) from rfl, Finset.sum_range_add, add_sub_cancel_left, ← sum_rows_le σ r (fun n => f (P + n))]
  exact Finset.sum_congr rfl fun s _ => by split_ifs <;> simp

/-- The running sums of a chunk's logarithmic forget gates. -/
theorem cum_apply {X : Ins} {σ : Fin 256 ≃ Fin 256} {P : ℕ} (f : ℕ → ℝ) (hu : ∀ r s, X.u (ix2 r s) = ((if σ s ≤ σ r then 1 else 0 : ℝ) : EReal))
    (x : FVec Ideal S256x16 .f32) (r : Fin 256) (o : Fin 16) (hx : ∀ s, k0_pay125 x (ix2 s o) = (f (P + (σ s).val) : EReal)) :
    k0_pay126 X.u x (ix2 r o) = ((cum f (P + (σ r).val + 1) - cum f P : ℝ) : EReal) := by
  pointwise! [k0_pay126]
  simp only [hx, hu, ← EReal.coe_sub, sub_self, ← EReal.coe_mul, coe_sum, mul_zero, Finset.sum_const_zero, ← EReal.coe_add, add_zero]
  rw [masked_sum]

/-- The running sums of a chunk's transposed logarithmic forget gates. -/
theorem cumT_apply {X : Ins} {σ : Fin 256 ≃ Fin 256} {P : ℕ} (g : ℕ → ℝ) (hw : ∀ r s, X.w (ix2 s r) = ((if σ s ≤ σ r then 1 else 0 : ℝ) : EReal))
    (x : FVec Ideal S16x256 .f32) (r : Fin 256) (o : Fin 16) (hx : ∀ s, x (ix2 o s) = (g (P + (σ s).val) : EReal)) :
    k0_pay14 X.w x k0_pay12 (ix2 o r) = ((cum (fun p => logsig (g p)) (P + (σ r).val + 1) - cum (fun p => logsig (g p)) P : ℝ) : EReal) := by
  pointwise! [k0_pay14, k0_pay12]
  simp only [hx, logsig_real, hw, ← EReal.coe_sub, sub_self, ← EReal.coe_mul, coe_sum, zero_mul, Finset.sum_const_zero, ← EReal.coe_add, add_zero]
  rw [← masked_sum σ (fun p => logsig (g p)) P r]
  exact congrArg _ (Finset.sum_congr rfl fun s _ => mul_comm _ _)

/-- The order of rows and columns as the masks compare it. -/
theorem sge_apply (r s : Fin 256) : IntOp.cmpi .sge (BitVec.ofNat 32 r.val) (BitVec.ofNat 32 s.val) = if s ≤ r then 1#1 else 0#1 := by
  have hr : r.val < 2 ^ (32 - 1) := lt_trans r.isLt (by norm_num)
  have hs : s.val < 2 ^ (32 - 1) := lt_trans s.isLt (by norm_num)
  by_cases h : s ≤ r
  · rw [if_pos h]
    exact (WordCmp.cmpi_sge_ofNat_eq_one_iff hr hs).mpr h
  · rw [if_neg h]
    exact (WordCmp.cmpi_sge_ofNat_eq_zero_iff hr hs).mpr h

/-- The forward mask is one where the column is not after the row. -/
theorem mask_fwd (r s : Fin 256) : cmpi .sge rowN colN (ix2 r s) = if s ≤ r then 1#1 else 0#1 := by
  pointwise! [rowN, colN]
  exact sge_apply r s

/-- The backward mask is one where the row is not after the column. -/
theorem mask_bwd (r s : Fin 256) : cmpi .sge colN rowN (ix2 r s) = if r ≤ s then 1#1 else 0#1 := by
  pointwise! [rowN, colN]
  exact sge_apply s r

/-- The lower triangle of ones. -/
theorem low_apply (r s : Fin 256) : k0_pay7 (F := Ideal) (ix2 r s) = ((if s ≤ r then 1 else 0 : ℝ) : EReal) := by
  pointwise! [k0_pay7]
  rw [sge_apply]
  split_ifs <;> rfl

/-- The upper triangle of ones. -/
theorem upp_apply (r s : Fin 256) : k0_pay8 (F := Ideal) (ix2 r s) = ((if r ≤ s then 1 else 0 : ℝ) : EReal) := by
  pointwise! [k0_pay8]
  rw [sge_apply]
  split_ifs <;> rfl

variable {F B : Ins} {σ : Fin 256 ≃ Fin 256} {P : ℕ} {qf kf vf : ℕ → ℕ → Fin 256 → ℝ} {gf : ℕ → ℕ → ℝ}
  {xc : Vec Ideal S8x256x256 .f32} {xn : Vec Ideal S8x1x256 .f32} {xs : Vec Ideal S8x1x1 .f32}

/-- What a chain reads, in closed form. -/
theorem reads_of (a : Fin 8) (h : Good (ins F B a) σ P qf kf vf gf) :
    Reads (ins F B a).mask (mat (ins F B a).q a) (mat (ins F B a).k a) (mat (ins F B a).v a)
      (colAt (gates (ins F B a)) (ig a) (ig_lt a)) (colAt (k0_pay125 (gates (ins F B a))) (fg a) (fg_lt a))
      (colAt (k0_pay126 (ins F B a).u (gates (ins F B a))) (fg a) (fg_lt a)) (rowAt (gatesT (ins F B a)) (ig a) (ig_lt a))
      (rowAt (k0_pay14 (ins F B a).w (gatesT (ins F B a)) k0_pay12) (fg a) (fg_lt a))
      σ P (qf (a.val % 4)) (kf (a.val % 4)) (vf (a.val % 4)) (gf (ig a)) (fun p => logsig (gf (fg a) p)) := by
  have h4 : a.val % 4 < 4 := Nat.mod_lt _ (by decide)
  have hl : ∀ s, k0_pay125 (gates (ins F B a)) (ix2 s ⟨fg a, fg_lt a⟩) = (logsig (gf (fg a) (P + (σ s).val)) : EReal) :=
    fun s => lsig_apply _ _ _ ((gates_apply _ _ _ _).trans (h.hg s _ _))
  exact
    { mask := h.hmask
      q := fun r d => (mat_apply _ _ _ _).trans (h.hq r _ h4 d)
      k := fun r d => (mat_apply _ _ _ _).trans (h.hk r _ h4 d)
      v := fun r d => (mat_apply _ _ _ _).trans (h.hv r _ h4 d)
      ic := fun r => (colAt_apply _ _ _ _).trans ((gates_apply _ _ _ _).trans (h.hg r _ _))
      ir := fun r => (rowAt_apply _ _ _ _).trans ((gatesT_apply _ _ _ _).trans (h.ht r _ _))
      fc := fun r => (colAt_apply _ _ _ _).trans (hl r)
      bc := fun r => (colAt_apply _ _ _ _).trans (cum_apply (fun p => logsig (gf (fg a) p)) h.hu _ _ _ hl)
      br := fun r => (rowAt_apply _ _ _ _).trans (cumT_apply (gf (fg a)) h.hw _ _ _ fun s => (gatesT_apply _ _ _ _).trans (h.ht s _ _)) }

/-- A chain's state after `P` positions, in closed form. -/
def HoldsAt (xc : Vec Ideal S8x256x256 .f32) (xn : Vec Ideal S8x1x256 .f32) (xs : Vec Ideal S8x1x1 .f32) (a : Fin 8)
    (kf vf : ℕ → ℕ → Fin 256 → ℝ) (gf : ℕ → ℕ → ℝ) (P : ℕ) : Prop :=
  Holds (cAt xc a) (nAt xn a) (sAt xs a) (kf (a.val % 4)) (vf (a.val % 4)) (gf (ig a)) (fun p => logsig (gf (fg a) p)) P

/-- One grid point carries a chain's state on by a chunk. -/
theorem holds_next (a : Fin 8) (h : Good (ins F B a) σ P qf kf vf gf) (hc : HoldsAt xc xn xs a kf vf gf P) :
    HoldsAt (packC (nextC F B xc xs)) (packN (nextN F B xn xs)) (packS (nextS F B xs)) a kf vf gf (P + 256) := by
  obtain ⟨M, hs, hC, hN⟩ := step_closed (reads_of a h) hc
  exact ⟨M, (sAt_apply _ _).trans hs, fun x y => (cAt_apply _ _ _ _).trans (hC x y), fun y => (nAt_apply _ _ _).trans (hN y)⟩

/-- One grid point's outputs of a chain. -/
theorem outs_next (a : Fin 8) (h : Good (ins F B a) σ P qf kf vf gf) (hc : HoldsAt xc xn xs a kf vf gf P) (r d : Fin 256) :
    outsAt F B xc xn xs a (ix2 r d)
      = (out (qf (a.val % 4)) (kf (a.val % 4)) (gf (ig a)) (fun p => logsig (gf (fg a) p)) (fun p => vf (a.val % 4) p d) (P + (σ r).val) : EReal) :=
  outs_closed (reads_of a h) hc r d

/-- Zeros are the state before any position. -/
theorem holds_zero (a : Fin 8) : HoldsAt (k0_pay4 (F := Ideal)) (k0_pay5 (F := Ideal)) (k0_pay6 (F := Ideal)) a kf vf gf 0 := by
  refine ⟨0, (sAt_apply _ _).trans ?_, fun x y => (cAt_apply _ _ _ _).trans ?_, fun y => (nAt_apply _ _ _).trans ?_⟩
  · pointwise! [k0_pay6]
  · pointwise! [k0_pay4]
    simp [state]
  · pointwise! [k0_pay5]
    simp [state]

end Cert.Kernel2Ideal.Acc

end
-- ==== Proof.MlRows.lean ====
/- The mLSTM scan's two orders: which row of the arrays a position of the forward or backward scan is, and the real
   queries, keys, values and gates read along it. -/
module

public import proofs.«01_k».proof.Proof.MlReads

@[expose] public section

set_option maxRecDepth 16384

noncomputable section

namespace Cert.Ml

open Cert.Kernel2Ideal Idealize.ShloMosaic

/-- The row at a position: forward, the context's rows and then the latents'; backward, all rows from the last. -/
def rowOf (w p : ℕ) : ℕ := if w = 0 then (p + 8192) % 8448 else 8447 - p

/-- The row at a position is a row. -/
theorem rowOf_lt (w p : ℕ) : rowOf w p < 8448 := by
  unfold rowOf; split <;> omega

/-- The row at a position, as an index. -/
def rowI (w p : ℕ) : Fin 8448 := ⟨rowOf w p, rowOf_lt w p⟩

/-- The queries of head `h`. -/
def qF (a : Vec Ideal S2x8448x2048 .bf16) (w : ℕ) (b : Fin 2) (h p : ℕ) (d : Fin 256) : ℝ :=
  (a (ix3 b (rowI w p) ⟨(256 * h + d.val) % 2048, Nat.mod_lt _ (by decide)⟩)).toReal
/-- The keys of head `h`. -/
def kF (a : Vec Ideal S2x8448x2048 .bf16) (w : ℕ) (b : Fin 2) (h p : ℕ) (d : Fin 256) : ℝ :=
  (a (ix3 b (rowI w p) ⟨(1024 + 256 * h + d.val) % 2048, Nat.mod_lt _ (by decide)⟩)).toReal
/-- The values of head `h`. -/
def vF (a : Vec Ideal S2x8448x4096 .bf16) (w : ℕ) (b : Fin 2) (h p : ℕ) (d : Fin 256) : ℝ :=
  (a (ix3 b (rowI w p) ⟨(2048 + 256 * h + d.val) % 4096, Nat.mod_lt _ (by decide)⟩)).toReal
/-- The gates' pre-activations of column `o`. -/
def gF (a : Vec Ideal S2x8448x128 .f32) (e : Vec Ideal S1x16 .f32) (w : ℕ) (b : Fin 2) (o p : ℕ) : ℝ :=
  (a (ix3 b (rowI w p) ⟨o % 16, by omega⟩)).toReal + (e (ix2 0 ⟨o % 16, Nat.mod_lt _ (by decide)⟩)).toReal

/-- The scan's result of head `h` in direction `w` at a position. -/
def scanAt (a0 : Vec Ideal S2x8448x2048 .bf16) (a1 : Vec Ideal S2x8448x4096 .bf16) (a2 : Vec Ideal S2x8448x128 .f32) (a3 : Vec Ideal S1x16 .f32)
    (w : ℕ) (b : Fin 2) (h : ℕ) (d : Fin 256) (p : ℕ) : ℝ :=
  out (qF a0 w b h) (kF a0 w b h) (gF a2 a3 w b (8 * w + h)) (fun p => logsig (gF a2 a3 w b (8 * w + 4 + h) p)) (fun p => vF a1 w b h p d) p

/-- The position of a row. -/
def posOf (w r : ℕ) : ℕ := if w = 0 then (r + 256) % 8448 else 8447 - r

/-- The scan's result array in direction `w`: its heads' columns side by side. -/
def resOf (a0 : Vec Ideal S2x8448x2048 .bf16) (a1 : Vec Ideal S2x8448x4096 .bf16) (a2 : Vec Ideal S2x8448x128 .f32) (a3 : Vec Ideal S1x16 .f32)
    (w : ℕ) : S2x8448x1024.Idx → EReal :=
  fun i => (scanAt a0 a1 a2 a3 w (i 0) ((i 2).val / 256) ⟨(i 2).val % 256, Nat.mod_lt _ (by decide)⟩ (posOf w (i 1).val) : EReal)

/-- The four arrays hold real numbers: the gates' where they are read, their first sixteen columns. -/
structure Real4 (a0 : Vec Ideal S2x8448x2048 .bf16) (a1 : Vec Ideal S2x8448x4096 .bf16) (a2 : Vec Ideal S2x8448x128 .f32) (a3 : Vec Ideal S1x16 .f32) : Prop where
  h0 : ∀ b r e, a0 (ix3 b r e) = ((a0 (ix3 b r e)).toReal : EReal)
  h1 : ∀ b r (e : Fin 1024), a1 (ix3 b r ⟨2048 + e.val, by omega⟩) = ((a1 (ix3 b r ⟨2048 + e.val, by omega⟩)).toReal : EReal)
  h2 : ∀ b r (e : Fin 16), a2 (ix3 b r ⟨e.val, by omega⟩) = ((a2 (ix3 b r ⟨e.val, by omega⟩)).toReal : EReal)
  h3 : ∀ e, a3 (ix2 0 e) = ((a3 (ix2 0 e)).toReal : EReal)

variable {a0 : Vec Ideal S2x8448x2048 .bf16} {a1 : Vec Ideal S2x8448x4096 .bf16} {a2 : Vec Ideal S2x8448x128 .f32} {a3 : Vec Ideal S1x16 .f32}

/-- The queries' entries. -/
theorem Real4.q (H : Real4 a0 a1 a2 a3) (w : ℕ) (b : Fin 2) (h p : ℕ) (d : Fin 256) (r : Fin 8448) (e : Fin 2048) (hr : r.val = rowOf w p)
    (hh : h < 4) (he : e.val = 256 * h + d.val) : a0 (ix3 b r e) = (qF a0 w b h p d : EReal) := by
  obtain rfl : r = rowI w p := Fin.ext hr
  obtain rfl : e = ⟨(256 * h + d.val) % 2048, Nat.mod_lt _ (by decide)⟩ := Fin.ext (by have := d.isLt; show e.val = _ % _; omega)
  exact H.h0 _ _ _

/-- The keys' entries. -/
theorem Real4.k (H : Real4 a0 a1 a2 a3) (w : ℕ) (b : Fin 2) (h p : ℕ) (d : Fin 256) (r : Fin 8448) (e : Fin 2048) (hr : r.val = rowOf w p)
    (hh : h < 4) (he : e.val = 1024 + 256 * h + d.val) : a0 (ix3 b r e) = (kF a0 w b h p d : EReal) := by
  obtain rfl : r = rowI w p := Fin.ext hr
  obtain rfl : e = ⟨(1024 + 256 * h + d.val) % 2048, Nat.mod_lt _ (by decide)⟩ := Fin.ext (by have := d.isLt; show e.val = _ % _; omega)
  exact H.h0 _ _ _

/-- The values' entries. -/
theorem Real4.v (H : Real4 a0 a1 a2 a3) (w : ℕ) (b : Fin 2) (h p : ℕ) (d : Fin 256) (r : Fin 8448) (e : Fin 4096) (hr : r.val = rowOf w p)
    (hh : h < 4) (he : e.val = 2048 + 256 * h + d.val) : a1 (ix3 b r e) = (vF a1 w b h p d : EReal) := by
  obtain rfl : r = rowI w p := Fin.ext hr
  have hd := d.isLt
  unfold vF
  have e1 : (⟨(2048 + 256 * h + d.val) % 4096, Nat.mod_lt _ (by decide)⟩ : Fin 4096) = ⟨2048 + (⟨256 * h + d.val, by omega⟩ : Fin 1024).val, by omega⟩ :=
    Fin.ext (by show _ % _ = 2048 + (256 * h + d.val); omega)
  have e2 : e = ⟨2048 + (⟨256 * h + d.val, by omega⟩ : Fin 1024).val, by omega⟩ := Fin.ext (by show e.val = 2048 + (256 * h + d.val); omega)
  rw [e1]
  exact (congrArg (fun e => a1 (ix3 b (rowI w p) e)) e2).trans (H.h1 _ _ _)

/-- The gates' entries, with the bias. -/
theorem Real4.g (H : Real4 a0 a1 a2 a3) (w : ℕ) (b : Fin 2) (o p : ℕ) (r : Fin 8448) (e : Fin 128) (f : Fin 16) (hr : r.val = rowOf w p)
    (ho : o < 16) (he : e.val = o) (hf : f.val = o) : a2 (ix3 b r e) + a3 (ix2 0 f) = (gF a2 a3 w b o p : EReal) := by
  obtain rfl : r = rowI w p := Fin.ext hr
  unfold gF
  have e1 : (⟨o % 16, by omega⟩ : Fin 128) = e := Fin.ext (by show o % 16 = e.val; omega)
  have e2 : (⟨o % 16, Nat.mod_lt _ (by decide)⟩ : Fin 16) = f := Fin.ext (by show o % 16 = f.val; omega)
  have e3 : e = ⟨f.val, by omega⟩ := Fin.ext (by show e.val = f.val; omega)
  rw [e1, e2, EReal.coe_add, ← H.h3 f, e3, ← H.h2 b (rowI w p) f]

end Cert.Ml

end
-- ==== Proof.MlGrid.lean ====
/- The mLSTM scan over its grid: every point's blocks, the states they carry on, and the two result arrays. -/
module

public import proofs.«01_k».proof.Proof.MlRows
public import proofs.«01_k».proof.Proof.Gen.Kernel2Ideal.Value

@[expose] public section

set_option maxRecDepth 16384

noncomputable section

namespace Cert.Kernel2Ideal.Acc

open Cert.Kernel2Ideal Cert.Kernel2Ideal.Gen Cert.Kernel2Ideal.Chain Idealize.ShloMosaic Idealize.ShloMosaic.TcCoe Idealize.SL.Sem Cert.Ml
open Idealize.ShloMosaic.Pipeline (Dat)

variable (m : (ℓ : Loc nD τ sig) → Buf (Elt Ideal) ℓ)

/-- Every window's block index at a point: batch t / 33, and the chunk's rows in its direction. -/
theorem idx : ∀ t : Fin cfg0.N, win0_0.index t = ![t.val / 33, (t.val % 33 + 32) % 33, 0] ∧ win0_1.index t = ![t.val / 33, (t.val % 33 + 32) % 33, 1]
    ∧ win0_2.index t = ![t.val / 33, (t.val % 33 + 32) % 33, 2] ∧ win0_3.index t = ![t.val / 33, (t.val % 33 + 32) % 33, 0]
    ∧ win0_4.index t = ![t.val / 33, 0, (t.val % 33 + 32) % 33]
    ∧ win0_5.index t = ![t.val / 33, 32 - t.val % 33, 0] ∧ win0_6.index t = ![t.val / 33, 32 - t.val % 33, 1]
    ∧ win0_7.index t = ![t.val / 33, 32 - t.val % 33, 2] ∧ win0_8.index t = ![t.val / 33, 32 - t.val % 33, 0]
    ∧ win0_9.index t = ![t.val / 33, 0, 32 - t.val % 33] ∧ win0_10.index t = ![0, 0] ∧ win0_11.index t = ![0, 0]
    ∧ win0_12.index t = ![t.val / 33, (t.val % 33 + 32) % 33, 0] ∧ win0_13.index t = ![t.val / 33, 32 - t.val % 33, 0] :=
  (by decide +kernel : ∀ t : Fin grid0.N, _)

/-- The gates the grid reads by column: the first sixteen columns, transposed. -/
theorem gates_t (c : Dev nD) (b : Fin 2) (o : Fin 16) (r : Fin 8448) :
    V m c main_v1 (ix3 b o r) = (m ((c : Thread nD τ).loc main_arg2) : Vec Ideal S2x8448x128 .f32) (ix3 b r ⟨o.val, by omega⟩) := by
  have e : V m c main_v1 = transpose S2x16x8448 [0, 2, 1] (extractStridedSlice S2x8448x16 ![0, 0, 0] (m ((c : Thread nD τ).loc main_arg2) : Vec Ideal S2x8448x128 .f32) slices_S2x8448x128_S2x8448x16_0_0_0) transposes_S2x8448x16_S2x16x8448_0_2_1 := by
    simp only [V, hostOps0]
    after_results
  rw [e]
  pointwise!

/-- The bias the grid reads by row. -/
theorem bias_t (c : Dev nD) (o : Fin 16) :
    V m c main_v2 (ix2 o 0) = (m ((c : Thread nD τ).loc main_arg3) : Vec Ideal S1x16 .f32) (ix2 0 o) := by
  have e : V m c main_v2 = shapeCast S16x1 (m ((c : Thread nD τ).loc main_arg3) : Vec Ideal S1x16 .f32) shapeCasts_S1x16_S16x1 := by
    simp only [V, hostOps0]
    after_results
    rfl
  rw [e]
  pointwise!

/-- The four argument arrays hold real numbers. -/
abbrev RealArgs (c : Dev nD) : Prop :=
  Real4 (m ((c : Thread nD τ).loc main_arg0)) (m ((c : Thread nD τ).loc main_arg1)) (m ((c : Thread nD τ).loc main_arg2)) (m ((c : Thread nD τ).loc main_arg3))

/-- A point's batch. -/
def bat (t : Fin cfg0.N) : Fin 2 := ⟨t.val / 33, by have h : t.val < 66 := lt_of_lt_of_eq t.isLt N_0; omega⟩

/-- The order of a chunk's rows in a direction. -/
def sg (w : ℕ) : Fin 256 ≃ Fin 256 := if w = 0 then Equiv.refl _ else Fin.revPerm

variable {m} {c : Dev nD}

/-- The forward chains' blocks hold the forward positions' entries. -/
theorem good_fwd (H : RealArgs m c) (t : Fin cfg0.N) : Good (fwdAt m c t) (sg 0) (256 * (t.val % 33))
    (qF (m ((c : Thread nD τ).loc main_arg0)) 0 (bat t)) (kF (m ((c : Thread nD τ).loc main_arg0)) 0 (bat t)) (vF (m ((c : Thread nD τ).loc main_arg1)) 0 (bat t))
    (gF (m ((c : Thread nD τ).loc main_arg2)) (m ((c : Thread nD τ).loc main_arg3)) 0 (bat t)) where
  hmask r s := mask_fwd r s
  hu r s := low_apply r s
  hw r s := upp_apply s r
  hq r h hh d := by
    refine Eq.trans ?_ (H.q 0 (bat t) h _ d ⟨256 * ((t.val % 33 + 32) % 33) + r.val, by omega⟩ ⟨256 * h + d.val, by omega⟩ (by show _ = (256 * (t.val % 33) + r.val + 8192) % 8448; simp only []; omega) hh rfl)
    show iblk m c 0 t (ix3 0 r ⟨256 * h + d.val, _⟩) = _
    blk_point [iblk, V, idx t, bat]
  hk r h hh d := by
    refine Eq.trans ?_ (H.k 0 (bat t) h _ d ⟨256 * ((t.val % 33 + 32) % 33) + r.val, by omega⟩ ⟨1024 + 256 * h + d.val, by omega⟩ (by show _ = (256 * (t.val % 33) + r.val + 8192) % 8448; simp only []; omega) hh rfl)
    show iblk m c 1 t (ix3 0 r ⟨256 * h + d.val, _⟩) = _
    blk_point [iblk, V, idx t, bat]
  hv r h hh d := by
    refine Eq.trans ?_ (H.v 0 (bat t) h _ d ⟨256 * ((t.val % 33 + 32) % 33) + r.val, by omega⟩ ⟨2048 + 256 * h + d.val, by omega⟩ (by show _ = (256 * (t.val % 33) + r.val + 8192) % 8448; simp only []; omega) hh rfl)
    show iblk m c 2 t (ix3 0 r ⟨256 * h + d.val, _⟩) = _
    blk_point [iblk, V, idx t, bat]
  hg r o ho := by
    refine Eq.trans ?_ (H.g 0 (bat t) o _ ⟨256 * ((t.val % 33 + 32) % 33) + r.val, by omega⟩ ⟨o, by omega⟩ ⟨o, ho⟩ (by show _ = (256 * (t.val % 33) + r.val + 8192) % 8448; simp only []; omega) ho rfl rfl)
    refine congrArg₂ (fun x y : EReal => x + y) ?_ ?_
    · show iblk m c 3 t (ix3 0 r ⟨o, _⟩) = _
      blk_point [iblk, V, idx t, bat]
    · show iblk m c 10 t (ix2 0 ⟨o, _⟩) = _
      blk_point [iblk, V, idx t, bat]
  ht r o ho := by
    refine Eq.trans ?_ (H.g 0 (bat t) o _ ⟨256 * ((t.val % 33 + 32) % 33) + r.val, by omega⟩ ⟨o, by omega⟩ ⟨o, ho⟩ (by show _ = (256 * (t.val % 33) + r.val + 8192) % 8448; simp only []; omega) ho rfl rfl)
    refine congrArg₂ (fun x y : EReal => x + y) ((?_ : iblk m c 4 t (ix3 0 ⟨o, ho⟩ r) = _).trans (gates_t m c (bat t) ⟨o, ho⟩ _)) ((?_ : iblk m c 11 t (ix2 ⟨o, ho⟩ 0) = _).trans (bias_t m c ⟨o, ho⟩))
    · blk_point [iblk, idx t, bat]
    · blk_point [iblk, idx t, bat]

/-- The backward chains' blocks hold the backward positions' entries, last row first. -/
theorem good_bwd (H : RealArgs m c) (t : Fin cfg0.N) : Good (bwdAt m c t) (sg 1) (256 * (t.val % 33))
    (qF (m ((c : Thread nD τ).loc main_arg0)) 1 (bat t)) (kF (m ((c : Thread nD τ).loc main_arg0)) 1 (bat t)) (vF (m ((c : Thread nD τ).loc main_arg1)) 1 (bat t))
    (gF (m ((c : Thread nD τ).loc main_arg2)) (m ((c : Thread nD τ).loc main_arg3)) 1 (bat t)) where
  hmask r s := (mask_bwd r s).trans (if_congr Fin.rev_le_rev.symm rfl rfl)
  hu r s := (upp_apply r s).trans (congrArg (fun x : ℝ => (x : EReal)) (if_congr Fin.rev_le_rev.symm rfl rfl))
  hw r s := (low_apply s r).trans (congrArg (fun x : ℝ => (x : EReal)) (if_congr Fin.rev_le_rev.symm rfl rfl))
  hq r h hh d := by
    refine Eq.trans ?_ (H.q 1 (bat t) h _ d ⟨256 * (32 - t.val % 33) + r.val, by omega⟩ ⟨256 * h + d.val, by omega⟩ (by show _ = 8447 - (256 * (t.val % 33) + (256 - (r.val + 1))); simp only []; omega) hh rfl)
    show iblk m c 5 t (ix3 0 r ⟨256 * h + d.val, _⟩) = _
    blk_point [iblk, V, idx t, bat]
  hk r h hh d := by
    refine Eq.trans ?_ (H.k 1 (bat t) h _ d ⟨256 * (32 - t.val % 33) + r.val, by omega⟩ ⟨1024 + 256 * h + d.val, by omega⟩ (by show _ = 8447 - (256 * (t.val % 33) + (256 - (r.val + 1))); simp only []; omega) hh rfl)
    show iblk m c 6 t (ix3 0 r ⟨256 * h + d.val, _⟩) = _
    blk_point [iblk, V, idx t, bat]
  hv r h hh d := by
    refine Eq.trans ?_ (H.v 1 (bat t) h _ d ⟨256 * (32 - t.val % 33) + r.val, by omega⟩ ⟨2048 + 256 * h + d.val, by omega⟩ (by show _ = 8447 - (256 * (t.val % 33) + (256 - (r.val + 1))); simp only []; omega) hh rfl)
    show iblk m c 7 t (ix3 0 r ⟨256 * h + d.val, _⟩) = _
    blk_point [iblk, V, idx t, bat]
  hg r o ho := by
    refine Eq.trans ?_ (H.g 1 (bat t) o _ ⟨256 * (32 - t.val % 33) + r.val, by omega⟩ ⟨o, by omega⟩ ⟨o, ho⟩ (by show _ = 8447 - (256 * (t.val % 33) + (256 - (r.val + 1))); simp only []; omega) ho rfl rfl)
    refine congrArg₂ (fun x y : EReal => x + y) ?_ ?_
    · show iblk m c 8 t (ix3 0 r ⟨o, _⟩) = _
      blk_point [iblk, V, idx t, bat]
    · show iblk m c 10 t (ix2 0 ⟨o, _⟩) = _
      blk_point [iblk, V, idx t, bat]
  ht r o ho := by
    refine Eq.trans ?_ (H.g 1 (bat t) o _ ⟨256 * (32 - t.val % 33) + r.val, by omega⟩ ⟨o, by omega⟩ ⟨o, ho⟩ (by show _ = 8447 - (256 * (t.val % 33) + (256 - (r.val + 1))); simp only []; omega) ho rfl rfl)
    refine congrArg₂ (fun x y : EReal => x + y) ((?_ : iblk m c 9 t (ix3 0 ⟨o, ho⟩ r) = _).trans (gates_t m c (bat t) ⟨o, ho⟩ _)) ((?_ : iblk m c 11 t (ix2 ⟨o, ho⟩ 0) = _).trans (bias_t m c ⟨o, ho⟩))
    · blk_point [iblk, idx t, bat]
    · blk_point [iblk, idx t, bat]

/-- Every chain's blocks hold its direction's entries. -/
theorem good (H : RealArgs m c) (t : Fin cfg0.N) (a : Fin 8) : Good (ins (fwdAt m c t) (bwdAt m c t) a) (sg (a.val / 4)) (256 * (t.val % 33))
    (qF (m ((c : Thread nD τ).loc main_arg0)) (a.val / 4) (bat t)) (kF (m ((c : Thread nD τ).loc main_arg0)) (a.val / 4) (bat t)) (vF (m ((c : Thread nD τ).loc main_arg1)) (a.val / 4) (bat t))
    (gF (m ((c : Thread nD τ).loc main_arg2)) (m ((c : Thread nD τ).loc main_arg3)) (a.val / 4) (bat t)) := by
  have hF := good_fwd H t
  have hB := good_bwd H t
  match a with
  | 0 => exact hF
  | 1 => exact hF
  | 2 => exact hF
  | 3 => exact hF
  | 4 => exact hB
  | 5 => exact hB
  | 6 => exact hB
  | 7 => exact hB

/-- The states a point leaves are the chains' states after its chunk. -/
theorem held (H : RealArgs m c) (a : Fin 8) : ∀ (n : ℕ) (h : n < cfg0.N),
    HoldsAt (outsAt0 m c n h).2.2.1 (outsAt0 m c n h).2.2.2.1 (outsAt0 m c n h).2.2.2.2 a
      (kF (m ((c : Thread nD τ).loc main_arg0)) (a.val / 4) (bat ⟨n, h⟩)) (vF (m ((c : Thread nD τ).loc main_arg1)) (a.val / 4) (bat ⟨n, h⟩))
      (gF (m ((c : Thread nD τ).loc main_arg2)) (m ((c : Thread nD τ).loc main_arg3)) (a.val / 4) (bat ⟨n, h⟩)) (256 * (n % 33) + 256) := by
  intro n
  induction n with
  | zero =>
    intro h
    rw [show (outsAt0 m c 0 h).2.2.1 = _ from funext fun j => stC_A m c ⟨0, h⟩ rfl j, show (outsAt0 m c 0 h).2.2.2.1 = _ from funext fun j => stN_A m c ⟨0, h⟩ rfl j,
      show (outsAt0 m c 0 h).2.2.2.2 = _ from funext fun j => stS_A m c ⟨0, h⟩ rfl j]
    exact holds_next a (good H ⟨0, h⟩ a) (holds_zero a)
  | succ n ih =>
    intro h
    by_cases h0 : (n + 1) % 33 = 0
    · rw [show (outsAt0 m c (n + 1) h).2.2.1 = _ from funext fun j => stC_A m c ⟨n + 1, h⟩ h0 j, show (outsAt0 m c (n + 1) h).2.2.2.1 = _ from funext fun j => stN_A m c ⟨n + 1, h⟩ h0 j,
        show (outsAt0 m c (n + 1) h).2.2.2.2 = _ from funext fun j => stS_A m c ⟨n + 1, h⟩ h0 j]
      have hg := good H ⟨n + 1, h⟩ a
      simp only [h0] at hg ⊢
      exact holds_next a hg (holds_zero a)
    · rw [show (outsAt0 m c (n + 1) h).2.2.1 = _ from funext fun j => stC_B m c ⟨n + 1, h⟩ h0 j, show (outsAt0 m c (n + 1) h).2.2.2.1 = _ from funext fun j => stN_B m c ⟨n + 1, h⟩ h0 j,
        show (outsAt0 m c (n + 1) h).2.2.2.2 = _ from funext fun j => stS_B m c ⟨n + 1, h⟩ h0 j]
      have hp := ih (Nat.lt_of_succ_lt h)
      rw [show bat ⟨n, Nat.lt_of_succ_lt h⟩ = bat ⟨n + 1, h⟩ from Fin.ext (by show n / 33 = (n + 1) / 33; omega),
        show 256 * (n % 33) + 256 = 256 * ((n + 1) % 33) by omega] at hp
      exact holds_next a (good H ⟨n + 1, h⟩ a) hp

/-- What a chain finds at a point and what it leaves in the output blocks, in closed form. -/
theorem left (H : RealArgs m c) (t : Fin cfg0.N) :
    ∃ xc xn xs, (∀ j, (outsAt0 m c t.val t.isLt).1 j = packO (outF (fwdAt m c t) (bwdAt m c t) xc xn xs) j)
      ∧ (∀ j, (outsAt0 m c t.val t.isLt).2.1 j = packO (outB (fwdAt m c t) (bwdAt m c t) xc xn xs) j)
      ∧ ∀ (a : Fin 8) (r d : Fin 256), outsAt (fwdAt m c t) (bwdAt m c t) xc xn xs a (ix2 r d)
        = (scanAt (m ((c : Thread nD τ).loc main_arg0)) (m ((c : Thread nD τ).loc main_arg1)) (m ((c : Thread nD τ).loc main_arg2)) (m ((c : Thread nD τ).loc main_arg3))
            (a.val / 4) (bat t) (a.val % 4) d (256 * (t.val % 33) + (sg (a.val / 4) r).val) : EReal) := by
  by_cases h0 : t.val % 33 = 0
  · refine ⟨_, _, _, ouF_A m c t h0, ouB_A m c t h0, fun a r d => outs_next a (good H t a) ?_ r d⟩
    rw [h0]
    exact holds_zero a
  · refine ⟨_, _, _, ouF_B m c t h0, ouB_B m c t h0, fun a r d => outs_next a (good H t a) ?_ r d⟩
    have hp := held H a (t.val - 1) (Nat.lt_of_le_of_lt (Nat.sub_le _ _) t.isLt)
    rwa [show bat ⟨t.val - 1, Nat.lt_of_le_of_lt (Nat.sub_le _ _) t.isLt⟩ = bat t from Fin.ext (by show (t.val - 1) / 33 = t.val / 33; omega),
      show 256 * ((t.val - 1) % 33) + 256 = 256 * (t.val % 33) by omega] at hp

/-- The forward result array. -/
theorem arr12 (H : RealArgs m c) : (dats m 0 c).arrAt 12 cfg0.N =
    resOf (m ((c : Thread nD τ).loc main_arg0)) (m ((c : Thread nD τ).loc main_arg1)) (m ((c : Thread nD τ).loc main_arg2)) (m ((c : Thread nD τ).loc main_arg3)) 0 := by
  refine (dats m 0 c).arrAt_eq_of_covers 12 _ (by decide +kernel) fun t hf y => ?_
  obtain ⟨xc, xn, xs, hF, -, ho⟩ := left H t
  blk_simp
  rw [after0_12]
  have h0 : (y 0).val < 1 := (y 0).isLt
  have h1 : (y 1).val < 256 := (y 1).isLt
  have h2 : (y 2).val < 1024 := (y 2).isLt
  have ht : t.val < 66 := lt_of_lt_of_eq t.isLt N_0
  have ey : ((cfg0.win 12).blk t).view.emb y = ix3 (bat t) (⟨256 * ((t.val % 33 + 32) % 33) + (y 1).val, by omega⟩ : Fin 8448) (⟨(y 2).val, h2⟩ : Fin 1024) := by
    blk_ext [idx t, bat]
  rw [ey]
  refine (hF y).trans ((ho ⟨(y 2).val / 256, by omega⟩ ⟨(y 1).val, h1⟩ ⟨(y 2).val % 256, Nat.mod_lt _ (by decide)⟩).trans ?_)
  have e1 : (y 2).val / 256 / 4 = 0 := by omega
  have e2 : (y 2).val / 256 % 4 = (y 2).val / 256 := by omega
  have e3 : (256 * ((t.val % 33 + 32) % 33) + (y 1).val + 256) % 8448 = 256 * (t.val % 33) + (y 1).val := by omega
  dsimp only
  rw [e1, e2]
  refine congrArg (fun p => (scanAt _ _ _ _ 0 (bat t) ((y 2).val / 256) ⟨(y 2).val % 256, Nat.mod_lt _ (by decide)⟩ p : EReal)) ?_
  exact e3.symm

/-- The backward result array. -/
theorem arr13 (H : RealArgs m c) : (dats m 0 c).arrAt 13 cfg0.N =
    resOf (m ((c : Thread nD τ).loc main_arg0)) (m ((c : Thread nD τ).loc main_arg1)) (m ((c : Thread nD τ).loc main_arg2)) (m ((c : Thread nD τ).loc main_arg3)) 1 := by
  refine (dats m 0 c).arrAt_eq_of_covers 13 _ (by decide +kernel) fun t hf y => ?_
  obtain ⟨xc, xn, xs, -, hB, ho⟩ := left H t
  blk_simp
  rw [after0_13]
  have h0 : (y 0).val < 1 := (y 0).isLt
  have h1 : (y 1).val < 256 := (y 1).isLt
  have h2 : (y 2).val < 1024 := (y 2).isLt
  have ht : t.val < 66 := lt_of_lt_of_eq t.isLt N_0
  have ey : ((cfg0.win 13).blk t).view.emb y = ix3 (bat t) (⟨256 * (32 - t.val % 33) + (y 1).val, by omega⟩ : Fin 8448) (⟨(y 2).val, h2⟩ : Fin 1024) := by
    blk_ext [idx t, bat]
  rw [ey]
  refine (hB y).trans ((ho ⟨4 + (y 2).val / 256, by omega⟩ ⟨(y 1).val, h1⟩ ⟨(y 2).val % 256, Nat.mod_lt _ (by decide)⟩).trans ?_)
  have e1 : (4 + (y 2).val / 256) / 4 = 1 := by omega
  have e2 : (4 + (y 2).val / 256) % 4 = (y 2).val / 256 := by omega
  have e3 : 8447 - (256 * (32 - t.val % 33) + (y 1).val) = 256 * (t.val % 33) + (256 - ((y 1).val + 1)) := by omega
  dsimp only
  rw [e1, e2]
  refine congrArg (fun p => (scanAt _ _ _ _ 1 (bat t) ((y 2).val / 256) ⟨(y 2).val % 256, Nat.mod_lt _ (by decide)⟩ p : EReal)) ?_
  exact e3.symm

end Cert.Kernel2Ideal.Acc

end
-- ==== Proof.MixIdealFrame.lean ====
/- Kernel3Ideal: the mixer output's run and frame. The normalized rows' slabs are strided: column tile c of a block goes to rows c, c+16, c+32, … -/
module

public import proofs.«01_k».proof.Proof.Gen.Kernel3Ideal.Launch
public import proofs.«01_k».proof.Proof.Gen.Kernel3Ideal.Skeleton
public import proofs.«01_k».proof.Proof.Gen.Kernel3Ideal.Points
public import proofs.«01_k».proof.Proof.Gen.Kernel3Ideal.Frame
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

-- membership in a rectangle of production extents: the elaborator recurses once per coordinate of the long axes
set_option maxRecDepth 16384

noncomputable section

namespace Cert.Kernel3Ideal.Mix

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's accesses -/

abbrev r0_0 : Rect S256x1024 := Rect.unit (s := S256x1024) ![0, 0] S256x1024.size inb_S256x1024_S256x1024_0_0
abbrev r0_1 : Rect S1x1024 := Rect.unit (s := S1x1024) ![0, 0] S1x1024.size inb_S1x1024_S1x1024_0_0
abbrev r0_2 : Rect S1024x1024 := Rect.unit (s := S1024x1024) ![0, 0] S1024x1024.size inb_S1024x1024_S1024x1024_0_0
abbrev r0_3 : Rect S2048x2048 := Rect.unit (s := S2048x2048) ![0, 0] S2048x2048.size inb_S2048x2048_S2048x2048_0_0
abbrev r0_4 : Rect S4x2048 := Rect.unit (s := S4x2048) ![0, 0] S4x2048.size inb_S4x2048_S4x2048_0_0
abbrev r0_5 : Rect S1x8x2048 := Rect.unit (s := S1x8x2048) ![0, 0, 0] S1x8x2048.size inb_S1x8x2048_S1x8x2048_0_0_0
abbrev r0_6 : Rect S256x2048 := Rect.unit (s := S256x2048) ![0, 0] S256x2048.size inb_S256x2048_S256x2048_0_0
/-- Slab c of a block of normalized rows: rows c, c + 16, c + 32, … -/
abbrev slab (c : Fin 16) : Rect S4096x128 where
  off := ![c.val, 0]
  size := S256x128.size
  stride := ![16, 1]
  inb := by revert c; decide +kernel
  stride_pos := by decide +kernel
abbrev r0_7 : Rect S4096x128 := slab 0
abbrev r0_8 : Rect S4096x128 := slab 1
abbrev r0_9 : Rect S4096x128 := slab 2
abbrev r0_10 : Rect S4096x128 := slab 3
abbrev r0_11 : Rect S4096x128 := slab 4
abbrev r0_12 : Rect S4096x128 := slab 5
abbrev r0_13 : Rect S4096x128 := slab 6
abbrev r0_14 : Rect S4096x128 := slab 7
abbrev r0_15 : Rect S4096x128 := slab 8
abbrev r0_16 : Rect S4096x128 := slab 9
abbrev r0_17 : Rect S4096x128 := slab 10
abbrev r0_18 : Rect S4096x128 := slab 11
abbrev r0_19 : Rect S4096x128 := slab 12
abbrev r0_20 : Rect S4096x128 := slab 13
abbrev r0_21 : Rect S4096x128 := slab 14
abbrev r0_22 : Rect S4096x128 := slab 15
abbrev r0_23 : Rect S2048x256 := Rect.unit (s := S2048x256) ![0, 0] S2048x256.size inb_S2048x256_S2048x256_0_0
abbrev r0_24 : Rect S256x128 := Rect.unit (s := S256x128) ![0, 0] S256x128.size inb_S256x128_S256x128_0_0

/-! ## What the body leaves in each output window's buffer -/

def k0_pay24 (x0 : Vec F S256x1024 .f32) (x1 : Vec F S256x1024 .f32) (x2 : Vec F S256x1024 .bf16) (x3 : Vec F S256x2048 .f32) (x4 : Vec F S1x1024 .f32) (x5 : Vec F S1024x1024 .bf16) (x6 : Vec F S1x1024 .f32) (x7 : Vec F S2048x2048 .bf16) (x8 : Vec F S4x2048 .f32) (x9 : Vec F S1x8x2048 .f32) (x10 : Vec F S2048x256 .bf16) : FVec F S256x2048 .bf16 :=
  k0_pay1 (View.ld x0 r0_0) (View.ld x4 r0_1) (View.ld x1 r0_0) (View.ld x5 r0_2) (View.ld x6 r0_1) (View.ld x2 r0_0) -- `v35`
def k0_pay25 (x0 : Vec F S256x1024 .f32) (x1 : Vec F S256x1024 .f32) (x2 : Vec F S256x1024 .bf16) (x3 : Vec F S256x2048 .f32) (x4 : Vec F S1x1024 .f32) (x5 : Vec F S1024x1024 .bf16) (x6 : Vec F S1x1024 .f32) (x7 : Vec F S2048x2048 .bf16) (x8 : Vec F S4x2048 .f32) (x9 : Vec F S1x8x2048 .f32) (x10 : Vec F S2048x256 .bf16) : FVec F S256x2048 .f32 :=
  k0_pay4 (k0_pay24 x0 x1 x2 x3 x4 x5 x6 x7 x8 x9 x10) (View.ld x7 r0_3) (View.ld x8 r0_4) (View.ld x9 r0_5) (View.ld x3 r0_6) -- `v77`
def k0_pay26 (x0 : Vec F S256x1024 .f32) (x1 : Vec F S256x1024 .f32) (x2 : Vec F S256x1024 .bf16) (x3 : Vec F S256x2048 .f32) (x4 : Vec F S1x1024 .f32) (x5 : Vec F S1024x1024 .bf16) (x6 : Vec F S1x1024 .f32) (x7 : Vec F S2048x2048 .bf16) (x8 : Vec F S4x2048 .f32) (x9 : Vec F S1x8x2048 .f32) (x10 : Vec F S2048x256 .bf16) : FVec F S1x2048 .f32 :=
  k0_pay5 (View.ld x9 r0_5) -- `v78`
def k0_pay27 (x0 : Vec F S256x1024 .f32) (x1 : Vec F S256x1024 .f32) (x2 : Vec F S256x1024 .bf16) (x3 : Vec F S256x2048 .f32) (x4 : Vec F S1x1024 .f32) (x5 : Vec F S1024x1024 .bf16) (x6 : Vec F S1x1024 .f32) (x7 : Vec F S2048x2048 .bf16) (x8 : Vec F S4x2048 .f32) (x9 : Vec F S1x8x2048 .f32) (x10 : Vec F S2048x256 .bf16) : FVec F S256x2048 .f32 :=
  k0_pay6 (k0_pay25 x0 x1 x2 x3 x4 x5 x6 x7 x8 x9 x10) (k0_pay26 x0 x1 x2 x3 x4 x5 x6 x7 x8 x9 x10) -- `v80`

/-- Window 11's staging buffer after the body, from the input windows' blocks: its 1 store as pieces, LAST
    FIRST (`View.canon`; the payloads are the ones the body's stores name). -/
def out0_11 (x0 : Vec F S256x1024 .f32) (x1 : Vec F S256x1024 .f32) (x2 : Vec F S256x1024 .bf16) (x3 : Vec F S256x2048 .f32) (x4 : Vec F S1x1024 .f32) (x5 : Vec F S1024x1024 .bf16) (x6 : Vec F S1x1024 .f32) (x7 : Vec F S2048x2048 .bf16) (x8 : Vec F S4x2048 .f32) (x9 : Vec F S1x8x2048 .f32) (x10 : Vec F S2048x256 .bf16) : Vec F S256x2048 .f32 :=
  View.canon [⟨r0_6, k0_pay3 (k0_pay24 x0 x1 x2 x3 x4 x5 x6 x7 x8 x9 x10) (View.ld x7 r0_3) (View.ld x8 r0_4) (View.ld x9 r0_5) (View.ld x3 r0_6)⟩]

/-- Its stores tile the buffer (by evaluation), so they cover it. -/
theorem cover0_11 (p0 : Vec F S256x2048 .f32) (y : S256x2048.Idx) :
    ∃ pc ∈ ([⟨r0_6, p0⟩] : List (View.Piece (Elt F) S256x2048 .f32)), y ∈ pc.1.set :=
  View.cover_of_tiled [⟨r0_6, p0⟩] S256x2048.size (by rfl) y

/-- Window 12's staging buffer after the body, from the input windows' blocks: its 16 stores as pieces, LAST
    FIRST (`View.canon`; the payloads are the ones the body's stores name). -/
def out0_12 (x0 : Vec F S256x1024 .f32) (x1 : Vec F S256x1024 .f32) (x2 : Vec F S256x1024 .bf16) (x3 : Vec F S256x2048 .f32) (x4 : Vec F S1x1024 .f32) (x5 : Vec F S1024x1024 .bf16) (x6 : Vec F S1x1024 .f32) (x7 : Vec F S2048x2048 .bf16) (x8 : Vec F S4x2048 .f32) (x9 : Vec F S1x8x2048 .f32) (x10 : Vec F S2048x256 .bf16) : Vec F S4096x128 .f32 :=
  View.canon [⟨r0_22, k0_pay22 (k0_pay27 x0 x1 x2 x3 x4 x5 x6 x7 x8 x9 x10)⟩,
    ⟨r0_21, k0_pay21 (k0_pay27 x0 x1 x2 x3 x4 x5 x6 x7 x8 x9 x10)⟩,
    ⟨r0_20, k0_pay20 (k0_pay27 x0 x1 x2 x3 x4 x5 x6 x7 x8 x9 x10)⟩,
    ⟨r0_19, k0_pay19 (k0_pay27 x0 x1 x2 x3 x4 x5 x6 x7 x8 x9 x10)⟩,
    ⟨r0_18, k0_pay18 (k0_pay25 x0 x1 x2 x3 x4 x5 x6 x7 x8 x9 x10) (k0_pay26 x0 x1 x2 x3 x4 x5 x6 x7 x8 x9 x10)⟩,
    ⟨r0_17, k0_pay17 (k0_pay25 x0 x1 x2 x3 x4 x5 x6 x7 x8 x9 x10) (k0_pay26 x0 x1 x2 x3 x4 x5 x6 x7 x8 x9 x10)⟩,
    ⟨r0_16, k0_pay16 (k0_pay25 x0 x1 x2 x3 x4 x5 x6 x7 x8 x9 x10) (k0_pay26 x0 x1 x2 x3 x4 x5 x6 x7 x8 x9 x10)⟩,
    ⟨r0_15, k0_pay15 (k0_pay25 x0 x1 x2 x3 x4 x5 x6 x7 x8 x9 x10) (k0_pay26 x0 x1 x2 x3 x4 x5 x6 x7 x8 x9 x10)⟩,
    ⟨r0_14, k0_pay14 (k0_pay25 x0 x1 x2 x3 x4 x5 x6 x7 x8 x9 x10) (k0_pay26 x0 x1 x2 x3 x4 x5 x6 x7 x8 x9 x10)⟩,
    ⟨r0_13, k0_pay13 (k0_pay25 x0 x1 x2 x3 x4 x5 x6 x7 x8 x9 x10) (k0_pay26 x0 x1 x2 x3 x4 x5 x6 x7 x8 x9 x10)⟩,
    ⟨r0_12, k0_pay12 (k0_pay25 x0 x1 x2 x3 x4 x5 x6 x7 x8 x9 x10) (k0_pay26 x0 x1 x2 x3 x4 x5 x6 x7 x8 x9 x10)⟩,
    ⟨r0_11, k0_pay11 (k0_pay25 x0 x1 x2 x3 x4 x5 x6 x7 x8 x9 x10) (k0_pay26 x0 x1 x2 x3 x4 x5 x6 x7 x8 x9 x10)⟩,
    ⟨r0_10, k0_pay10 (k0_pay25 x0 x1 x2 x3 x4 x5 x6 x7 x8 x9 x10) (k0_pay26 x0 x1 x2 x3 x4 x5 x6 x7 x8 x9 x10)⟩,
    ⟨r0_9, k0_pay9 (k0_pay25 x0 x1 x2 x3 x4 x5 x6 x7 x8 x9 x10) (k0_pay26 x0 x1 x2 x3 x4 x5 x6 x7 x8 x9 x10)⟩,
    ⟨r0_8, k0_pay8 (k0_pay25 x0 x1 x2 x3 x4 x5 x6 x7 x8 x9 x10) (k0_pay26 x0 x1 x2 x3 x4 x5 x6 x7 x8 x9 x10)⟩,
    ⟨r0_7, k0_pay7 (k0_pay25 x0 x1 x2 x3 x4 x5 x6 x7 x8 x9 x10) (k0_pay26 x0 x1 x2 x3 x4 x5 x6 x7 x8 x9 x10)⟩]

/-- Pieces on the sixteen slabs cover the block: row r lies in slab r mod 16. -/
theorem slab_cover (L : List (View.Piece (Elt F) S4096x128 .f32))
    (h : L.map (fun p => p.1) = (List.finRange 16).reverse.map slab) (y : S4096x128.Idx) :
    ∃ pc ∈ L, y ∈ pc.1.set := by
  have h0 : (y 0).val < 4096 := (y 0).isLt
  have h1 : (y 1).val < 128 := (y 1).isLt
  have hm : slab ⟨(y 0).val % 16, by omega⟩ ∈ L.map (fun p => p.1) := by
    rw [h]; exact List.mem_map_of_mem (List.mem_reverse.mpr (List.mem_finRange _))
  obtain ⟨pc, hpc, e⟩ := List.mem_map.mp hm
  refine ⟨pc, hpc, ?_⟩
  rw [e]
  refine (LoadRect.mem_set _).mpr fun a => ?_
  match a with
  | ⟨0, _⟩ => exact ⟨(y 0).val / 16, (by show (y 0).val / 16 < 256; omega), (by show (y 0).val = (y 0).val % 16 + 16 * ((y 0).val / 16); omega)⟩
  | ⟨1, _⟩ => exact ⟨(y 1).val, h1, (by show (y 1).val = 0 + 1 * (y 1).val; omega)⟩

/-- Its sixteen stores cover the block. -/
theorem cover0_12 (p0 : Vec F S256x128 .f32) (p1 : Vec F S256x128 .f32) (p2 : Vec F S256x128 .f32) (p3 : Vec F S256x128 .f32) (p4 : Vec F S256x128 .f32) (p5 : Vec F S256x128 .f32) (p6 : Vec F S256x128 .f32) (p7 : Vec F S256x128 .f32) (p8 : Vec F S256x128 .f32) (p9 : Vec F S256x128 .f32) (p10 : Vec F S256x128 .f32) (p11 : Vec F S256x128 .f32) (p12 : Vec F S256x128 .f32) (p13 : Vec F S256x128 .f32) (p14 : Vec F S256x128 .f32) (p15 : Vec F S256x128 .f32) (y : S4096x128.Idx) :
    ∃ pc ∈ ([⟨r0_22, p0⟩, ⟨r0_21, p1⟩, ⟨r0_20, p2⟩, ⟨r0_19, p3⟩, ⟨r0_18, p4⟩, ⟨r0_17, p5⟩, ⟨r0_16, p6⟩, ⟨r0_15, p7⟩, ⟨r0_14, p8⟩, ⟨r0_13, p9⟩, ⟨r0_12, p10⟩, ⟨r0_11, p11⟩, ⟨r0_10, p12⟩, ⟨r0_9, p13⟩, ⟨r0_8, p14⟩, ⟨r0_7, p15⟩] : List (View.Piece (Elt F) S4096x128 .f32)), y ∈ pc.1.set :=
  slab_cover _ (by rfl) y

/-- Window 13's staging buffer after the body, from the input windows' blocks: its 1 store as pieces, LAST
    FIRST (`View.canon`; the payloads are the ones the body's stores name). -/
def out0_13 (x0 : Vec F S256x1024 .f32) (x1 : Vec F S256x1024 .f32) (x2 : Vec F S256x1024 .bf16) (x3 : Vec F S256x2048 .f32) (x4 : Vec F S1x1024 .f32) (x5 : Vec F S1024x1024 .bf16) (x6 : Vec F S1x1024 .f32) (x7 : Vec F S2048x2048 .bf16) (x8 : Vec F S4x2048 .f32) (x9 : Vec F S1x8x2048 .f32) (x10 : Vec F S2048x256 .bf16) : Vec F S256x128 .f32 :=
  View.canon [⟨r0_24, k0_pay23 (k0_pay27 x0 x1 x2 x3 x4 x5 x6 x7 x8 x9 x10) (View.ld x10 r0_23)⟩]

/-- Its stores tile the buffer (by evaluation), so they cover it. -/
theorem cover0_13 (p0 : Vec F S256x128 .f32) (y : S256x128.Idx) :
    ∃ pc ∈ ([⟨r0_24, p0⟩] : List (View.Piece (Elt F) S256x128 .f32)), y ∈ pc.1.set :=
  View.cover_of_tiled [⟨r0_24, p0⟩] S256x128.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .bf16) (harg3 : arg3.IsWhole) (arg4 : Memref sig .tc .vmem S256x2048 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S2048x2048 .bf16) (harg8 : arg8.IsWhole) (arg9 : Memref sig .tc .vmem S4x2048 .f32) (harg9 : arg9.IsWhole) (arg10 : Memref sig .tc .vmem S1x8x2048 .f32) (harg10 : arg10.IsWhole) (arg11 : Memref sig .tc .vmem S2048x256 .bf16) (harg11 : arg11.IsWhole) (arg12 : Memref sig .tc .vmem S256x2048 .f32) (harg12 : arg12.IsWhole) (arg13 : Memref sig .tc .vmem S4096x128 .f32) (harg13 : arg13.IsWhole) (arg14 : Memref sig .tc .vmem S256x128 .f32) (harg14 : arg14.IsWhole)
    (x0 : Vec F S256x1024 .f32) (x1 : Vec F S256x1024 .f32) (x2 : Vec F S256x1024 .bf16) (x3 : Vec F S256x2048 .f32) (x4 : Vec F S1x1024 .f32) (x5 : Vec F S1024x1024 .bf16) (x6 : Vec F S1x1024 .f32) (x7 : Vec F S2048x2048 .bf16) (x8 : Vec F S4x2048 .f32) (x9 : Vec F S1x8x2048 .f32) (x10 : Vec F S2048x256 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out0_11 x0 x1 x2 x3 x4 x5 x6 x7 x8 x9 x10) ∗ owns (c : Thread nD τ) arg13 fullShare (out0_12 x0 x1 x2 x3 x4 x5 x6 x7 x8 x9 x10) ∗ owns (c : Thread nD τ) arg14 fullShare (out0_13 x0 x1 x2 x3 x4 x5 x6 x7 x8 x9 x10)) -∗ K ⟨⟩))
      ⊢ wp frame (wpE (defs₀ (F := F)) Variants.none c none) E (cc0_mixer_out i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_mixer_out_eq_skeleton]; unfold cc0_mixer_out_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    refine (View.read_writes_eq_canon _ _ _ (cover0_11 _)).trans ?_
    rfl
  isplitl [H12]
  · iexists _; isplitr
    swap; · iexact H12
    ipureintro
    refine (View.read_writes_eq_canon _ _ _ (cover0_12 _ _ _ _ _ _ _ _ _ _ _ _ _ _ _ _)).trans ?_
    rfl
  iexists _; isplitr
  swap; · iexact H13
  ipureintro
  refine (View.read_writes_eq_canon _ _ _ (cover0_13 _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨12, _⟩ => out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨13, _⟩ => out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_12 (c : Dev nD) (t : Fin cfg0.N) : (dats m 0 c).after 12 t = out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel c Set.univ (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

/-- The run terminates without a fault, leaves every argument array as it was, and leaves every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.Kernel3Ideal.Mix

end
-- ==== Proof.MixRow.lean ====
/- The mixer's output, row by row: scalar formulas, and the kernel's output blocks entry by entry. -/
module

public import proofs.«01_k».proof.Proof.MixIdealFrame
public import Idealize.ShloMosaic.Lib.Pipeline.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.MixRow

open Idealize.ShloMosaic

/-- The tanh form of the GELU. -/
def gelu (y : EReal) : EReal :=
  Ideal.ofBits .f32 0x3F000000#32 * y * (1 + Ideal.tanh (Ideal.ofBits .f32 0x3F4C422A#32 * (y + Ideal.ofBits .f32 0x3D372713#32 * (y * y * y))))

/-- A row of the state-space branch, before its gate: the GELU of the scan's output plus the skip. -/
def act (ys u dk : Fin 1024 → EReal) (k : Fin 1024) : EReal := gelu (ys k + dk k * u k)

/-- The gated row: the activation times the sigmoid of its projection. -/
def glu (ys u dk : Fin 1024 → EReal) (gw : Fin 1024 → Fin 1024 → EReal) (gb : Fin 1024 → EReal) (k : Fin 1024) : EReal :=
  act ys u dk k * Ideal.div 1 (1 + Ideal.exp (-(∑ x, act ys u dk x * gw x k + gb k)))

/-- The mixer's row: the gated state-space branch, then the matrix-memory branch. -/
def cat (ys u dk : Fin 1024 → EReal) (gw : Fin 1024 → Fin 1024 → EReal) (gb ml : Fin 1024 → EReal) (k : Fin 2048) : EReal :=
  if h : k.val < 1024 then glu ys u dk gw gb ⟨k.val, h⟩ else ml ⟨k.val - 1024, by omega⟩

/-- A row's output projection. -/
def proj (f : Fin 2048 → EReal) (w : Fin 2048 → Fin 2048 → EReal) (n : Fin 2048) : EReal := ∑ x, f x * w x n

/-- The reciprocal root mean square of a row. -/
def rms (f : Fin 2048 → EReal) : EReal :=
  Ideal.rsqrt (Ideal.div (∑ x, f x * f x) (Ideal.ofBits .f32 0x45000000#32) + Ideal.ofBits .f32 0x358637BD#32)

/-- The residual row: the input plus the gated normalized projection. -/
def res (f : Fin 2048 → EReal) (w : Fin 2048 → Fin 2048 → EReal) (x g ng : Fin 2048 → EReal) (n : Fin 2048) : EReal :=
  x n + g n * (proj f w n * rms (proj f w) * ng n)

/-- The next block's input row: the normalized residual, modulated. -/
def nxt (f ng sc sh : Fin 2048 → EReal) (n : Fin 2048) : EReal := f n * rms f * ng n * (1 + sc n) + sh n

end Cert.MixRow

namespace Cert.Kernel3Ideal.Mix

open Cert.Kernel3Ideal Cert.Kernel3Ideal.Gen Idealize.ShloMosaic Idealize.ShloMosaic.TcCoe Idealize.SL.Sem Cert.MixRow

/-- The concatenated row of a block, entry by entry. -/
theorem catL (v0 v2 : Vec Ideal S256x1024 .f32) (v1 v22 : Vec Ideal S1x1024 .f32) (v20 : Vec Ideal S1024x1024 .bf16) (v34 : Vec Ideal S256x1024 .bf16) (r : Fin 256) (k : Fin 2048) :
    k0_pay1 (F := Ideal) v0 v1 v2 v20 v22 v34 (ix2 r k) = cat (fun k => v0 (ix2 r k)) (fun k => v2 (ix2 r k)) (fun k => v1 (ix2 0 k)) (fun x k => v20 (ix2 x k))
      (fun k => v22 (ix2 0 k)) (fun k => v34 (ix2 r k)) k := by
  pointwise [k0_pay1]
  simp only [cat, glu, act, gelu, zero_sub]

/-- The residual block, entry by entry, over the concatenated rows. -/
theorem resL (v35 : FVec Ideal S256x2048 .bf16) (v36 : Vec Ideal S2048x2048 .bf16) (v38 : Vec Ideal S4x2048 .f32) (v39 : Vec Ideal S1x8x2048 .f32) (v54 : Vec Ideal S256x2048 .f32) (r : Fin 256) (k : Fin 2048) :
    k0_pay3 (F := Ideal) v35 v36 v38 v39 v54 (ix2 r k)
      = res (fun k => v35 (ix2 r k)) (fun x k => v36 (ix2 x k)) (fun k => v54 (ix2 r k)) (fun k => v39 (ix3 0 0 k)) (fun k => v38 (ix2 1 k)) k := by
  pointwise [k0_pay3, k0_pay2]
  simp only [res, proj, rms]

/-- The normalized block, entry by entry, over the residual rows. -/
theorem nxtL (v35 : FVec Ideal S256x2048 .bf16) (v36 : Vec Ideal S2048x2048 .bf16) (v38 : Vec Ideal S4x2048 .f32) (v39 : Vec Ideal S1x8x2048 .f32) (v54 : Vec Ideal S256x2048 .f32) (r : Fin 256) (k : Fin 2048) :
    k0_pay6 (F := Ideal) (k0_pay4 v35 v36 v38 v39 v54) (k0_pay5 v39) (ix2 r k)
      = nxt (fun k => k0_pay3 (F := Ideal) v35 v36 v38 v39 v54 (ix2 r k)) (fun k => v38 (ix2 2 k)) (fun k => v39 (ix3 0 1 k)) (fun k => v39 (ix3 0 2 k)) k := by
  generalize hx : k0_pay3 v35 v36 v38 v39 v54 = x1
  pointwise [k0_pay6, k0_pay5, k0_pay4, k0_pay2, hx]
  simp only [nxt, rms]

variable (x0 x1 : Vec Ideal S256x1024 .f32) (x2 : Vec Ideal S256x1024 .bf16) (x3 : Vec Ideal S256x2048 .f32) (x4 : Vec Ideal S1x1024 .f32) (x5 : Vec Ideal S1024x1024 .bf16)
  (x6 : Vec Ideal S1x1024 .f32) (x7 : Vec Ideal S2048x2048 .bf16) (x8 : Vec Ideal S4x2048 .f32) (x9 : Vec Ideal S1x8x2048 .f32) (x10 : Vec Ideal S2048x256 .bf16)

/-- A block's residual row, from the input blocks. -/
def blkRes (r : Fin 256) (n : Fin 2048) : EReal :=
  res (cat (fun k => x0 (ix2 r k)) (fun k => x1 (ix2 r k)) (fun k => x4 (ix2 0 k)) (fun x k => x5 (ix2 x k)) (fun k => x6 (ix2 0 k)) (fun k => x2 (ix2 r k)))
    (fun x k => x7 (ix2 x k)) (fun k => x3 (ix2 r k)) (fun k => x9 (ix3 0 0 k)) (fun k => x8 (ix2 1 k)) n

/-- A block's normalized row, from the input blocks. -/
def blkNxt (r : Fin 256) (n : Fin 2048) : EReal :=
  nxt (blkRes x0 x1 x2 x3 x4 x5 x6 x7 x8 x9 r) (fun k => x8 (ix2 2 k)) (fun k => x9 (ix3 0 1 k)) (fun k => x9 (ix3 0 2 k)) n

/-- The residual value the body stores is the block's residual row. -/
theorem res_block (r : Fin 256) (n : Fin 2048) :
    k0_pay3 (F := Ideal) (k0_pay24 x0 x1 x2 x3 x4 x5 x6 x7 x8 x9 x10) (View.ld x7 r0_3) (View.ld x8 r0_4) (View.ld x9 r0_5) (View.ld x3 r0_6) (ix2 r n)
      = blkRes x0 x1 x2 x3 x4 x5 x6 x7 x8 x9 r n := by
  rw [resL]
  unfold k0_pay24 blkRes
  simp only [catL]
  have z2 : (![0, 0] : Fin 2 → ℕ) = fun _ => 0 := by funext a; fin_cases a <;> rfl
  have z3 : (![0, 0, 0] : Fin 3 → ℕ) = fun _ => 0 := by funext a; fin_cases a <;> rfl
  rw [View.ld_unit_zero (S := S256x1024) z2, View.ld_unit_zero (S := S256x1024) z2, View.ld_unit_zero (S := S256x1024) z2, View.ld_unit_zero (S := S1x1024) z2,
    View.ld_unit_zero (S := S1x1024) z2, View.ld_unit_zero (S := S1024x1024) z2, View.ld_unit_zero (S := S2048x2048) z2, View.ld_unit_zero (S := S4x2048) z2,
    View.ld_unit_zero (S := S1x8x2048) z3, View.ld_unit_zero (S := S256x2048) z2]

/-- The first output block: the residual rows. -/
theorem out_res (r : Fin 256) (n : Fin 2048) : out0_11 x0 x1 x2 x3 x4 x5 x6 x7 x8 x9 x10 (ix2 r n) = blkRes x0 x1 x2 x3 x4 x5 x6 x7 x8 x9 r n := by
  have z2 : (![0, 0] : Fin 2 → ℕ) = fun _ => 0 := by funext a; fin_cases a <;> rfl
  unfold out0_11
  rw [View.canon_unit_zero (S := S256x2048) z2]
  exact res_block x0 x1 x2 x3 x4 x5 x6 x7 x8 x9 x10 r n

/-- The normalized value the body slices is the block's normalized row. -/
theorem nxt_block (r : Fin 256) (n : Fin 2048) :
    k0_pay6 (F := Ideal) (k0_pay25 x0 x1 x2 x3 x4 x5 x6 x7 x8 x9 x10) (k0_pay26 x0 x1 x2 x3 x4 x5 x6 x7 x8 x9 x10) (ix2 r n)
      = blkNxt x0 x1 x2 x3 x4 x5 x6 x7 x8 x9 r n := by
  have z2 : (![0, 0] : Fin 2 → ℕ) = fun _ => 0 := by funext a; fin_cases a <;> rfl
  have z3 : (![0, 0, 0] : Fin 3 → ℕ) = fun _ => 0 := by funext a; fin_cases a <;> rfl
  unfold k0_pay25 k0_pay26 blkNxt
  rw [nxtL]
  simp only [res_block]
  rw [View.ld_unit_zero (S := S4x2048) z2, View.ld_unit_zero (S := S1x8x2048) z3]

/-- The second output block's contents: row q of slabs is row q / 16 of the block, column tile q mod 16. -/
def tiles (h : Fin 256 → Fin 2048 → EReal) : FVec Ideal S4096x128 .f32 :=
  fun y => h ⟨(y 0).val / 16, by have h0 : (y 0).val < 4096 := (y 0).isLt; omega⟩ ⟨(y 0).val % 16 * 128 + (y 1).val, by have h1 : (y 1).val < 128 := (y 1).isLt; omega⟩

/-- A slab's entry of the tiled rows. -/
theorem tiles_slab (h : Fin 256 → Fin 2048 → EReal) (c : Fin 16) (x : (slab c).shape.Idx) (r : Fin 256) (l : Fin 128) (hr : r.val = (x 0).val) (hl : l.val = (x 1).val) :
    tiles h ((slab c).emb x) = h r ⟨128 * c.val + l.val, by omega⟩ := by
  have h0 : ((slab c).emb x 0).val = c.val + 16 * r.val := by rw [Rect.emb_apply, hr]; rfl
  have h1 : ((slab c).emb x 1).val = l.val := by
    rw [Rect.emb_apply, hl]
    show 0 + 1 * (x 1).val = _
    omega
  unfold tiles
  have e1 : (⟨((slab c).emb x 0).val / 16, by rw [h0]; omega⟩ : Fin 256) = r := Fin.ext (by show ((slab c).emb x 0).val / 16 = _; rw [h0]; omega)
  have e2 : ((slab c).emb x 0).val % 16 * 128 + ((slab c).emb x 1).val = 128 * c.val + l.val := by rw [h0, h1]; omega
  simp only [e1, e2]

/-- The second output block: the normalized rows in slabs of column tiles. -/
theorem out_nxt (y : S4096x128.Idx) : out0_12 x0 x1 x2 x3 x4 x5 x6 x7 x8 x9 x10 y = tiles (blkNxt x0 x1 x2 x3 x4 x5 x6 x7 x8 x9) y := by
  have hp : blkNxt x0 x1 x2 x3 x4 x5 x6 x7 x8 x9 = fun r n =>
      k0_pay6 (F := Ideal) (k0_pay25 x0 x1 x2 x3 x4 x5 x6 x7 x8 x9 x10) (k0_pay26 x0 x1 x2 x3 x4 x5 x6 x7 x8 x9 x10) (ix2 r n) :=
    funext fun r => funext fun n => (nxt_block x0 x1 x2 x3 x4 x5 x6 x7 x8 x9 x10 r n).symm
  rw [hp]
  unfold out0_12 k0_pay27
  generalize k0_pay25 x0 x1 x2 x3 x4 x5 x6 x7 x8 x9 x10 = a
  generalize k0_pay26 x0 x1 x2 x3 x4 x5 x6 x7 x8 x9 x10 = b
  generalize hh : k0_pay6 a b = w
  refine View.canon_apply_of_pieces (Val := Elt Ideal) (e := .f32) (tiles fun r n => w (ix2 r n)) _ (View.PiecesOf.mem ?_) y (slab_cover _ ?_ y)
  · refine ⟨fun x => Eq.trans ?_ (tiles_slab _ 15 x (x 0) (x 1) rfl rfl).symm,
      fun x => Eq.trans ?_ (tiles_slab _ 14 x (x 0) (x 1) rfl rfl).symm,
      fun x => Eq.trans ?_ (tiles_slab _ 13 x (x 0) (x 1) rfl rfl).symm,
      fun x => Eq.trans ?_ (tiles_slab _ 12 x (x 0) (x 1) rfl rfl).symm,
      fun x => Eq.trans ?_ (tiles_slab _ 11 x (x 0) (x 1) rfl rfl).symm,
      fun x => Eq.trans ?_ (tiles_slab _ 10 x (x 0) (x 1) rfl rfl).symm,
      fun x => Eq.trans ?_ (tiles_slab _ 9 x (x 0) (x 1) rfl rfl).symm,
      fun x => Eq.trans ?_ (tiles_slab _ 8 x (x 0) (x 1) rfl rfl).symm,
      fun x => Eq.trans ?_ (tiles_slab _ 7 x (x 0) (x 1) rfl rfl).symm,
      fun x => Eq.trans ?_ (tiles_slab _ 6 x (x 0) (x 1) rfl rfl).symm,
      fun x => Eq.trans ?_ (tiles_slab _ 5 x (x 0) (x 1) rfl rfl).symm,
      fun x => Eq.trans ?_ (tiles_slab _ 4 x (x 0) (x 1) rfl rfl).symm,
      fun x => Eq.trans ?_ (tiles_slab _ 3 x (x 0) (x 1) rfl rfl).symm,
      fun x => Eq.trans ?_ (tiles_slab _ 2 x (x 0) (x 1) rfl rfl).symm,
      fun x => Eq.trans ?_ (tiles_slab _ 1 x (x 0) (x 1) rfl rfl).symm,
      fun x => Eq.trans ?_ (tiles_slab _ 0 x (x 0) (x 1) rfl rfl).symm, trivial⟩
    all_goals
      pointwise! [k0_pay7, k0_pay8, k0_pay9, k0_pay10, k0_pay11, k0_pay12, k0_pay13, k0_pay14, k0_pay15, k0_pay16, k0_pay17, k0_pay18, k0_pay19, k0_pay20, k0_pay21, k0_pay22, hh]
  · rfl

end Cert.Kernel3Ideal.Mix

end
-- ==== Proof.MixRef.lean ====
/- The mixer's output by the reference, in stages, each entry by entry. -/
module

public import proofs.«01_k».proof.Proof.MixRow
public import proofs.«01_k».proof.Proof.Gen.Reference3Ideal.Run

@[expose] public section

set_option maxRecDepth 16384

noncomputable section

namespace Cert.Reference3Ideal.Mix

open Cert.Reference3Ideal Cert.Reference3Ideal.Gen Idealize.ShloMosaic Cert.MixRow

/-- The state-space branch's value: the scan's output plus the skip. -/
def Y (a0 a1 : Vec Ideal S16384x1024 .f32) (a4 : Vec Ideal S1x1024 .f32) : FVec Ideal S16384x1024 .f32 :=
  addf a0 (mulf (broadcastInDim S16384x1024 ![0, 1] bcast_S1x1024_S16384x1024_0_1 a4) a1)

/-- The GELU of every entry. -/
def G (y : FVec Ideal S16384x1024 .f32) : FVec Ideal S16384x1024 .f32 :=
  mulf y (mulf (broadcastInDim S16384x1024 ![] bcast_S_S16384x1024 (constant S_ .f32 0x3F000000#32)) (addf (broadcastInDim S16384x1024 ![] bcast_S_S16384x1024 (constant S_ .f32 0x3F800000#32)) (Host.tanh (mulf (broadcastInDim S16384x1024 ![] bcast_S_S16384x1024 (constant S_ .f32 0x3F4C422A#32)) (addf y (mulf (broadcastInDim S16384x1024 ![] bcast_S_S16384x1024 (constant S_ .f32 0x3D372713#32)) (mulf (mulf y y) y)))))))

/-- The sigmoid gate on the activations. -/
def S (g : FVec Ideal S16384x1024 .f32) (a5 : Vec Ideal S1024x1024 .bf16) (a6 : Vec Ideal S1x1024 .f32) : FVec Ideal S16384x1024 .f32 :=
  mulf g (Host.divf (broadcastInDim S16384x1024 ![] bcast_S_S16384x1024 (constant S_ .f32 0x3F800000#32)) (addf (broadcastInDim S16384x1024 ![] bcast_S_S16384x1024 (constant S_ .f32 0x3F800000#32)) (Host.exp (Host.negf (addf (Host.dotGeneral dot_S16384x1024_S1024x1024_S16384x1024_1_0_0_1_n_n none g (extf .f32 a5 bitsLt_bf16_f32)) (broadcastInDim S16384x1024 ![0, 1] bcast_S1x1024_S16384x1024_0_1 a6))))))

/-- The output projection of the two branches side by side. -/
def P (s : FVec Ideal S16384x1024 .f32) (a2 : Vec Ideal S16384x1024 .bf16) (a7 : Vec Ideal S2048x2048 .bf16) : FVec Ideal S2x8192x2048 .f32 :=
  shapeCast _ (Host.dotGeneral (φ₁ := .f32) (φ₂ := .f32) dot_S16384x2048_S2048x2048_S16384x2048_1_0_0_1_n_n none (concatenate S16384x2048 1 [⟨S16384x1024, s⟩, ⟨S16384x1024, (extf .f32 a2 bitsLt_bf16_f32)⟩] concatenates_S16384x1024_S16384x1024_S16384x2048_d1) (extf .f32 a7 bitsLt_bf16_f32)) shapeCasts_S16384x2048_S2x8192x2048

/-- Rows divided by their root mean square. -/
def N (p : FVec Ideal S2x8192x2048 .f32) : FVec Ideal S2x8192x2048 .f32 :=
  mulf p (broadcastInDim S2x8192x2048 ![0, 1, 2] bcast_S2x8192x1_S2x8192x2048_0_1_2 (Host.rsqrt (addf (Host.divf (broadcastInDim S2x8192x1 ![0, 1] bcast_S2x8192_S2x8192x1_0_1 (Host.reduceAdd (mulf p p) (constant S_ .f32 0x00000000#32) reducesTo_S2x8192x2048_S2x8192_d2 h_S_)) (broadcastInDim S2x8192x1 ![] bcast_S_S2x8192x1 (constant S_ .f32 0x45000000#32))) (broadcastInDim S2x8192x1 ![] bcast_S_S2x8192x1 (constant S_ .f32 0x358637BD#32)))))

/-- The residual: the input plus the gated normalized projection. -/
def X (p : FVec Ideal S2x8192x2048 .f32) (a3 : Vec Ideal S16384x2048 .f32) (a8 : Vec Ideal S4x2048 .f32) (a9 : Vec Ideal S2x8x2048 .f32) : FVec Ideal S2x8192x2048 .f32 :=
  addf (shapeCast _ a3 shapeCasts_S16384x2048_S2x8192x2048) (mulf (broadcastInDim S2x8192x2048 ![0, 1, 2] bcast_S2x1x2048_S2x8192x2048_0_1_2 (extractStridedSlice S2x1x2048 ![0, 0, 0] a9 slices_S2x8x2048_S2x1x2048_0_0_0)) (mulf (N p) (broadcastInDim S2x8192x2048 ![0, 1, 2] bcast_S1x1x2048_S2x8192x2048_0_1_2 (broadcastInDim S1x1x2048 ![2] bcast_S2048_S1x1x2048_2 (shapeCast _ (extractStridedSlice S1x2048 ![1, 0] a8 slices_S4x2048_S1x2048_1_0) shapeCasts_S1x2048_S2048)))))

/-- The normalized and modulated residual. -/
def H (x : FVec Ideal S2x8192x2048 .f32) (a8 : Vec Ideal S4x2048 .f32) (a9 : Vec Ideal S2x8x2048 .f32) : FVec Ideal S2x8192x2048 .f32 :=
  addf (mulf (mulf (N x) (broadcastInDim S2x8192x2048 ![0, 1, 2] bcast_S1x1x2048_S2x8192x2048_0_1_2 (broadcastInDim S1x1x2048 ![2] bcast_S2048_S1x1x2048_2 (shapeCast _ (extractStridedSlice S1x2048 ![2, 0] a8 slices_S4x2048_S1x2048_2_0) shapeCasts_S1x2048_S2048)))) (broadcastInDim S2x8192x2048 ![0, 1, 2] bcast_S2x1x2048_S2x8192x2048_0_1_2 (addf (broadcastInDim S2x1x2048 ![] bcast_S_S2x1x2048 (constant S_ .f32 0x3F800000#32)) (extractStridedSlice S2x1x2048 ![0, 1, 0] a9 slices_S2x8x2048_S2x1x2048_0_1_0)))) (broadcastInDim S2x8192x2048 ![0, 1, 2] bcast_S2x1x2048_S2x8192x2048_0_1_2 (extractStridedSlice S2x1x2048 ![0, 2, 0] a9 slices_S2x8x2048_S2x1x2048_0_2_0))

variable (a0 a1 : Vec Ideal S16384x1024 .f32) (a2 : Vec Ideal S16384x1024 .bf16) (a3 : Vec Ideal S16384x2048 .f32) (a4 : Vec Ideal S1x1024 .f32) (a5 : Vec Ideal S1024x1024 .bf16)
  (a6 : Vec Ideal S1x1024 .f32) (a7 : Vec Ideal S2048x2048 .bf16) (a8 : Vec Ideal S4x2048 .f32) (a9 : Vec Ideal S2x8x2048 .f32)

/-- The residual over the arguments. -/
def XX : FVec Ideal S2x8192x2048 .f32 := X (P (S (G (Y a0 a1 a4)) a5 a6) a2 a7) a3 a8 a9

/-- The first result over the arguments. -/
def REF0 : FVec Ideal S16384x2048 .f32 := shapeCast _ (XX a0 a1 a2 a3 a4 a5 a6 a7 a8 a9) shapeCasts_S2x8192x2048_S16384x2048

/-- The second result over the arguments. -/
def REF1 : FVec Ideal S262144x128 .f32 := shapeCast _ (H (XX a0 a1 a2 a3 a4 a5 a6 a7 a8 a9) a8 a9) shapeCasts_S2x8192x2048_S262144x128

/-- An activation, entry by entry. -/
theorem G_at (R : Fin 16384) (k : Fin 1024) : G (Y a0 a1 a4) (ix2 R k) = act (fun k => a0 (ix2 R k)) (fun k => a1 (ix2 R k)) (fun k => a4 (ix2 0 k)) k := by
  pointwise [G, Y]
  simp only [act, gelu]
  rw [mul_left_comm, ← mul_assoc]

/-- A gated activation, entry by entry. -/
theorem S_at (R : Fin 16384) (k : Fin 1024) : S (G (Y a0 a1 a4)) a5 a6 (ix2 R k)
    = glu (fun k => a0 (ix2 R k)) (fun k => a1 (ix2 R k)) (fun k => a4 (ix2 0 k)) (fun x k => a5 (ix2 x k)) (fun k => a6 (ix2 0 k)) k := by
  unfold glu
  simp only [← G_at]
  generalize G (Y a0 a1 a4) = g
  pointwise [S]

/-- A row of the reference's projection is the projection of the concatenated row. -/
theorem P_at (b : Fin 2) (s : Fin 8192) (R : Fin 16384) (hR : R.val = b.val * 8192 + s.val) (n : Fin 2048) : P (S (G (Y a0 a1 a4)) a5 a6) a2 a7 (ix3 b s n)
    = proj (cat (fun k => a0 (ix2 R k)) (fun k => a1 (ix2 R k)) (fun k => a4 (ix2 0 k)) (fun x k => a5 (ix2 x k)) (fun k => a6 (ix2 0 k)) (fun k => a2 (ix2 R k))) (fun x k => a7 (ix2 x k)) n := by
  obtain ⟨R, hlt⟩ := R
  obtain rfl : R = b.val * 8192 + s.val := hR
  unfold proj cat
  simp only [← S_at]
  generalize S (G (Y a0 a1 a4)) a5 a6 = g
  pointwise [P]

/-- A normalized row, entry by entry. -/
theorem N_at (p : FVec Ideal S2x8192x2048 .f32) (b : Fin 2) (s : Fin 8192) (n : Fin 2048) : N p (ix3 b s n) = p (ix3 b s n) * rms (fun k => p (ix3 b s k)) := by
  pointwise [N]
  simp only [rms]

/-- The residual, entry by entry. -/
theorem X_at (b : Fin 2) (s : Fin 8192) (R : Fin 16384) (hR : R.val = b.val * 8192 + s.val) (n : Fin 2048) : XX a0 a1 a2 a3 a4 a5 a6 a7 a8 a9 (ix3 b s n)
    = res (cat (fun k => a0 (ix2 R k)) (fun k => a1 (ix2 R k)) (fun k => a4 (ix2 0 k)) (fun x k => a5 (ix2 x k)) (fun k => a6 (ix2 0 k)) (fun k => a2 (ix2 R k))) (fun x k => a7 (ix2 x k))
      (fun k => a3 (ix2 R k)) (fun k => a9 (ix3 b 0 k)) (fun k => a8 (ix2 1 k)) n := by
  have hn : N (P (S (G (Y a0 a1 a4)) a5 a6) a2 a7) (ix3 b s n) = _ := N_at _ b s n
  simp only [P_at a0 a1 a2 a4 a5 a6 a7 b s R hR] at hn
  unfold res
  rw [← hn]
  obtain ⟨R, hlt⟩ := R
  obtain rfl : R = b.val * 8192 + s.val := hR
  unfold XX X
  generalize N _ = p
  pointwise []

/-- The normalized residual, entry by entry, over the residual. -/
theorem H_at (x : FVec Ideal S2x8192x2048 .f32) (b : Fin 2) (s : Fin 8192) (n : Fin 2048) : H x a8 a9 (ix3 b s n)
    = nxt (fun k => x (ix3 b s k)) (fun k => a8 (ix2 2 k)) (fun k => a9 (ix3 b 1 k)) (fun k => a9 (ix3 b 2 k)) n := by
  unfold nxt
  rw [← N_at]
  unfold H
  generalize N _ = p
  pointwise []

/-- The first result, entry by entry. -/
theorem REF0_at (R : Fin 16384) (n : Fin 2048) (b : Fin 2) (s : Fin 8192) (hR : R.val = b.val * 8192 + s.val) :
    REF0 a0 a1 a2 a3 a4 a5 a6 a7 a8 a9 (ix2 R n) = XX a0 a1 a2 a3 a4 a5 a6 a7 a8 a9 (ix3 b s n) := by
  unfold REF0
  generalize XX a0 a1 a2 a3 a4 a5 a6 a7 a8 a9 = x
  pointwise []
  all_goals blk_point []

/-- The second result, entry by entry: row Q is column tile Q mod 16 of row Q / 16. -/
theorem REF1_at (Q : Fin 262144) (l : Fin 128) (b : Fin 2) (s : Fin 8192) (hQ : Q.val / 16 = b.val * 8192 + s.val) :
    REF1 a0 a1 a2 a3 a4 a5 a6 a7 a8 a9 (ix2 Q l) = H (XX a0 a1 a2 a3 a4 a5 a6 a7 a8 a9) a8 a9 (ix3 b s ⟨Q.val % 16 * 128 + l.val, by omega⟩) := by
  unfold REF1
  generalize H (XX a0 a1 a2 a3 a4 a5 a6 a7 a8 a9) a8 a9 = x
  pointwise []
  all_goals blk_point []

/-- The first returned array is the first result of the stages. -/
theorem out0_eq (m : (ℓ : Loc nD τ sig) → Buf (Elt Ideal) ℓ) (c : Dev nD) : Value.res_out0 m c
    = REF0 (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) := by
  unfold Value.res_out0 Value.res_main_v75 REF0 XX X N P S G Y
  rfl

/-- The second returned array is the second result of the stages. -/
theorem out1_eq (m : (ℓ : Loc nD τ sig) → Buf (Elt Ideal) ℓ) (c : Dev nD) : Value.res_out1 m c
    = REF1 (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) := by
  unfold Value.res_out1 Value.res_main_v76 REF1 XX H X N P S G Y
  rfl

end Cert.Reference3Ideal.Mix

end
-- ==== Proof.MixAlgebra.lean ====
/- The mixer's output: the run's two result arrays are the reference's. -/
module

public import proofs.«01_k».proof.Proof.MixRef

@[expose] public section

set_option maxRecDepth 16384

noncomputable section

namespace Cert.Kernel3Ideal.Mix

open Cert.Kernel3Ideal Cert.Kernel3Ideal.Gen Idealize.ShloMosaic Idealize.ShloMosaic.TcCoe Idealize.SL.Sem Cert.MixRow
open Idealize.ShloMosaic.Pipeline (Dat)

variable (m : (ℓ : Loc nD τ sig) → Buf (Elt Ideal) ℓ) (ρ : Dev nD → PrngReg)

/-- The run leaves the two returned arrays as the windows' folds and keeps every argument. -/
theorem run_blocks : θ_run defs (onTc (τ := τ) (main (F := Ideal))) ⟨m, fun _ => 0, ρ⟩ fun r => ∀ c : Dev nD,
      r.2.mem ((c : Thread nD τ).loc main_v0_0) = (dats m 0 c).arrAt 11 cfg0.N
      ∧ r.2.mem ((c : Thread nD τ).loc main_v0_1) = (dats m 0 c).arrAt 12 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1 11, (h c).1 12,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c))),
      ((h c).1 10).trans (((dats m 0 c).arrAt_in 10 rfl _).trans ((A_eq m c 10).trans (V_main_arg10 m c)))⟩)
    (run_main m ρ)

/-- Every window's block index at a point: row block t, batch t / 32. -/
theorem idx : ∀ t : Fin cfg0.N, win0_0.index t = ![t.val, 0] ∧ win0_1.index t = ![t.val, 0] ∧ win0_2.index t = ![t.val, 0] ∧ win0_3.index t = ![t.val, 0]
    ∧ win0_4.index t = ![0, 0] ∧ win0_5.index t = ![0, 0] ∧ win0_6.index t = ![0, 0] ∧ win0_7.index t = ![0, 0] ∧ win0_8.index t = ![0, 0]
    ∧ win0_9.index t = ![t.val / 32, 0, 0] ∧ win0_11.index t = ![t.val, 0] ∧ win0_12.index t = ![t.val, 0] :=
  (by decide +kernel : ∀ t : Fin grid0.N, _)

/-- The first result, over the launch's argument arrays. -/
abbrev R0 (c : Dev nD) : FVec Ideal S16384x2048 .f32 :=
  Cert.Reference3Ideal.Mix.REF0 (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9))

/-- The second result, over the launch's argument arrays. -/
abbrev R1 (c : Dev nD) : FVec Ideal S262144x128 .f32 :=
  Cert.Reference3Ideal.Mix.REF1 (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9))

/-- The reference's residual, over the launch's argument arrays. -/
abbrev RX (c : Dev nD) : FVec Ideal Cert.Reference3Ideal.S2x8192x2048 .f32 :=
  Cert.Reference3Ideal.Mix.XX (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9))

/-- Row `r` of point `t`'s residual block is the reference's residual at token `256 t + r`. -/
theorem blk_res (c : Dev nD) (t : Fin cfg0.N) (r : Fin 256) (b : Fin 2) (s : Fin 8192) (hb : b.val = t.val / 32) (hs : s.val = t.val % 32 * 256 + r.val) (n : Fin 2048) :
    blkRes (iblk m c 0 t) (iblk m c 1 t) (iblk m c 2 t) (iblk m c 3 t) (iblk m c 4 t) (iblk m c 5 t) (iblk m c 6 t) (iblk m c 7 t) (iblk m c 8 t) (iblk m c 9 t) r n
      = RX m c (ix3 b s n) := by
  have ht : t.val < 64 := lt_of_lt_of_eq t.isLt N_0
  refine Eq.trans ?_ (Cert.Reference3Ideal.Mix.X_at _ _ _ _ _ _ _ _ _ _ b s ⟨t.val * 256 + r.val, by omega⟩ (by show t.val * 256 + r.val = _; omega) n).symm
  have e0 : ∀ k : Fin 1024, iblk m c 0 t (ix2 r k) = m ((c : Thread nD τ).loc main_arg0) (ix2 (⟨t.val * 256 + r.val, by omega⟩ : Fin 16384) k) := fun k => by blk_point [iblk, V, idx t]
  have e1 : ∀ k : Fin 1024, iblk m c 1 t (ix2 r k) = m ((c : Thread nD τ).loc main_arg1) (ix2 (⟨t.val * 256 + r.val, by omega⟩ : Fin 16384) k) := fun k => by blk_point [iblk, V, idx t]
  have e2 : ∀ k : Fin 1024, iblk m c 2 t (ix2 r k) = m ((c : Thread nD τ).loc main_arg2) (ix2 (⟨t.val * 256 + r.val, by omega⟩ : Fin 16384) k) := fun k => by blk_point [iblk, V, idx t]
  have e3 : ∀ k : Fin 2048, iblk m c 3 t (ix2 r k) = m ((c : Thread nD τ).loc main_arg3) (ix2 (⟨t.val * 256 + r.val, by omega⟩ : Fin 16384) k) := fun k => by blk_point [iblk, V, idx t]
  have e4 : ∀ k : Fin 1024, iblk m c 4 t (ix2 0 k) = m ((c : Thread nD τ).loc main_arg4) (ix2 0 k) := fun k => by blk_point [iblk, V, idx t]
  have e5 : ∀ x k : Fin 1024, iblk m c 5 t (ix2 x k) = m ((c : Thread nD τ).loc main_arg5) (ix2 x k) := fun x k => by blk_point [iblk, V, idx t]
  have e6 : ∀ k : Fin 1024, iblk m c 6 t (ix2 0 k) = m ((c : Thread nD τ).loc main_arg6) (ix2 0 k) := fun k => by blk_point [iblk, V, idx t]
  have e7 : ∀ x k : Fin 2048, iblk m c 7 t (ix2 x k) = m ((c : Thread nD τ).loc main_arg7) (ix2 x k) := fun x k => by blk_point [iblk, V, idx t]
  have e8 : ∀ k : Fin 2048, iblk m c 8 t (ix2 1 k) = m ((c : Thread nD τ).loc main_arg8) (ix2 1 k) := fun k => by blk_point [iblk, V, idx t]
  have e9 : ∀ k : Fin 2048, iblk m c 9 t (ix3 0 0 k) = m ((c : Thread nD τ).loc main_arg9) (ix3 b 0 k) := fun k => by blk_point [iblk, V, idx t]
  unfold blkRes
  rw [funext e0, funext e1, funext e2, funext e3, funext e4, funext fun x => funext (e5 x), funext e6, funext fun x => funext (e7 x), funext e8, funext e9]

/-- Row `r` of point `t`'s normalized block is the reference's at token `256 t + r`. -/
theorem blk_nxt (c : Dev nD) (t : Fin cfg0.N) (r : Fin 256) (b : Fin 2) (s : Fin 8192) (hb : b.val = t.val / 32) (hs : s.val = t.val % 32 * 256 + r.val) (n : Fin 2048) :
    blkNxt (iblk m c 0 t) (iblk m c 1 t) (iblk m c 2 t) (iblk m c 3 t) (iblk m c 4 t) (iblk m c 5 t) (iblk m c 6 t) (iblk m c 7 t) (iblk m c 8 t) (iblk m c 9 t) r n
      = Cert.Reference3Ideal.Mix.H (RX m c) (m ((c : Thread nD τ).loc main_arg8)) (m ((c : Thread nD τ).loc main_arg9)) (ix3 b s n) := by
  have ht : t.val < 64 := lt_of_lt_of_eq t.isLt N_0
  rw [Cert.Reference3Ideal.Mix.H_at]
  have e8 : ∀ k : Fin 2048, iblk m c 8 t (ix2 2 k) = m ((c : Thread nD τ).loc main_arg8) (ix2 2 k) := fun k => by blk_point [iblk, V, idx t]
  have e9 : ∀ k : Fin 2048, iblk m c 9 t (ix3 0 1 k) = m ((c : Thread nD τ).loc main_arg9) (ix3 b 1 k) := fun k => by blk_point [iblk, V, idx t]
  have e9' : ∀ k : Fin 2048, iblk m c 9 t (ix3 0 2 k) = m ((c : Thread nD τ).loc main_arg9) (ix3 b 2 k) := fun k => by blk_point [iblk, V, idx t]
  unfold blkNxt
  rw [funext e8, funext e9, funext e9', funext (blk_res m c t r b s hb hs)]

/-- The first result array after the run is the reference's. -/
theorem final11 (c : Dev nD) : (dats m 0 c).arrAt 11 cfg0.N = R0 m c := by
  refine (dats m 0 c).arrAt_eq_of_covers 11 _ (by decide +kernel) fun t hf y => ?_
  blk_simp
  rw [after0_11]
  have ht : t.val < 64 := lt_of_lt_of_eq t.isLt N_0
  have h0 : (y 0).val < 256 := (y 0).isLt
  have h1 : (y 1).val < 2048 := (y 1).isLt
  have ey : ((cfg0.win 11).blk t).view.emb y = ix2 (⟨t.val * 256 + (y 0).val, by omega⟩ : Fin 16384) (⟨(y 1).val, h1⟩ : Fin 2048) := by
    blk_ext [idx t]
  have ey' : y = ix2 (⟨(y 0).val, h0⟩ : Fin 256) (⟨(y 1).val, h1⟩ : Fin 2048) := by blk_ext []
  rw [ey]
  refine (congrArg _ ey').trans ((out_res _ _ _ _ _ _ _ _ _ _ _ _ _).trans ?_)
  refine (blk_res m c t _ ⟨t.val / 32, by omega⟩ ⟨t.val % 32 * 256 + (y 0).val, by omega⟩ rfl rfl _).trans ?_
  exact (Cert.Reference3Ideal.Mix.REF0_at _ _ _ _ _ _ _ _ _ _ _ _ _ _ (by show t.val * 256 + (y 0).val = t.val / 32 * 8192 + (t.val % 32 * 256 + (y 0).val); omega)).symm

/-- The second result array after the run is the reference's. -/
theorem final12 (c : Dev nD) : (dats m 0 c).arrAt 12 cfg0.N = R1 m c := by
  refine (dats m 0 c).arrAt_eq_of_covers 12 _ (by decide +kernel) fun t hf y => ?_
  blk_simp
  rw [after0_12]
  have ht : t.val < 64 := lt_of_lt_of_eq t.isLt N_0
  have h0 : (y 0).val < 4096 := (y 0).isLt
  have h1 : (y 1).val < 128 := (y 1).isLt
  have ey : ((cfg0.win 12).blk t).view.emb y = ix2 (⟨t.val * 4096 + (y 0).val, by omega⟩ : Fin 262144) (⟨(y 1).val, h1⟩ : Fin 128) := by
    blk_ext [idx t]
  rw [ey]
  refine (out_nxt _ _ _ _ _ _ _ _ _ _ _ _).trans ?_
  refine (blk_nxt m c t _ ⟨t.val / 32, by omega⟩ ⟨t.val % 32 * 256 + (y 0).val / 16, by omega⟩ rfl rfl _).trans ?_
  refine Eq.trans ?_ (Cert.Reference3Ideal.Mix.REF1_at _ _ _ _ _ _ _ _ _ _ _ _ ⟨t.val / 32, by omega⟩ ⟨t.val % 32 * 256 + (y 0).val / 16, by omega⟩
    (by show (t.val * 4096 + (y 0).val) / 16 = t.val / 32 * 8192 + (t.val % 32 * 256 + (y 0).val / 16); omega)).symm
  refine congrArg (fun n => Cert.Reference3Ideal.Mix.H (RX m c) (m ((c : Thread nD τ).loc main_arg8)) (m ((c : Thread nD τ).loc main_arg9)) (ix3 _ _ n)) (Fin.ext ?_)
  show (y 0).val % 16 * 128 + (y 1).val = (t.val * 4096 + (y 0).val) % 16 * 128 + (y 1).val
  omega

end Cert.Kernel3Ideal.Mix

end
-- ==== Proof.MlFinite.lean ====
/- The scan's precondition over the extended reals: arrays whose absolute values are below infinity hold real numbers. -/
module

public import proofs.«01_k».proof.Proof.MlRows
public import proofs.«01_k».proof.Pre_finite

@[expose] public section

noncomputable section

namespace Cert.Pre_finite

open Idealize.ShloMosaic Cert.Ml

/-- An extended real whose absolute value compares below infinity is real. -/
theorem real_of_lt {φ : FTy} {x y : EReal} (hy : y = ⊤) (h : BitVec.ofBool (decide (FloatOps.absf (F := Ideal) (φ := φ) x < y)) = 1#1) : x = ((x.toReal : ℝ) : EReal) := by
  have h : max x (-x) < ⊤ := by
    rw [hy] at h
    by_contra hn
    rw [Ideal.absf_def, decide_eq_false hn] at h
    exact absurd h (by decide)
  exact (EReal.coe_toReal (fun e => by simp [e] at h) (fun e => by simp [e] at h)).symm

/-- The two formats' words of infinity. -/
theorem inf16 : Ideal.ofBits FTy.bf16 32640#16 = ⊤ := by simp [Ideal.ofBits, Ideal.ieee]
@[inherit_doc inf16] theorem inf32 : Ideal.ofBits FTy.f32 2139095040#32 = ⊤ := by simp [Ideal.ofBits, Ideal.ieee]

/-- The precondition's shapes fit. -/
theorem facts : Facts where
  bcast_S_S2x8448x2048 := by decide
  slices_S2x8448x4096_S2x8448x1024_0_0_2048 := by decide
  bcast_S_S2x8448x1024 := by decide
  slices_S2x8448x128_S2x8448x16_0_0_0 := by decide
  bcast_S_S2x8448x16 := by decide
  bcast_S_S1x16 := by decide

variable [Facts] {a0 : FVec Ideal S2x8448x2048 .bf16} {a1 : FVec Ideal S2x8448x4096 .bf16} {a2 : FVec Ideal S2x8448x128 .f32} {a3 : FVec Ideal S1x16 .f32}

/-- Arrays that meet the precondition hold real numbers. -/
theorem real4 (h0 : (fn a0 a1 a2 a3).1 = fun _ => 1#1) (h1 : (fn a0 a1 a2 a3).2.1 = fun _ => 1#1) (h2 : (fn a0 a1 a2 a3).2.2.1 = fun _ => 1#1)
    (h3 : (fn a0 a1 a2 a3).2.2.2 = fun _ => 1#1) : Real4 a0 a1 a2 a3 where
  h0 b r e := by
    have h := congrFun h0 (ix3 b r e)
    revert h
    pointwise! [fn]
    exact real_of_lt inf16
  h1 b r e := by
    have h := congrFun h1 (ix3 b r e)
    revert h
    pointwise! [fn]
    exact real_of_lt inf16
  h2 b r e := by
    have h := congrFun h2 (ix3 b r e)
    revert h
    pointwise! [fn]
    exact real_of_lt inf32
  h3 e := by
    have h := congrFun h3 (ix2 0 e)
    revert h
    pointwise! [fn]
    exact real_of_lt inf32

end Cert.Pre_finite
-- ==== Proof.MlRefCum.lean ====
/- The reference scan's running sum of a chunk's logarithmic forget gates, entry by entry. -/
module

public import proofs.«01_k».proof.Proof.MlRows
public import proofs.«01_k».proof.Proof.Gen.Reference2Ideal.Run

@[expose] public section

set_option maxRecDepth 16384

noncomputable section

namespace Cert.Reference2Ideal.Scan

open Cert.Reference2Ideal Cert.Reference2Ideal.Gen Idealize.ShloMosaic Cert.Ml

/-- A left fold of sums is the first value and the sum of the list. -/
theorem foldl_sum {ι : Type} (f : EReal → ι → EReal) (g : ι → EReal) (h : ∀ r n, f r n = r + g n) : ∀ (l : List ι) (a : EReal), l.foldl f a = a + (l.map g).sum
  | [], a => by simp
  | n :: l, a => by simp [foldl_sum f g h l, h, add_assoc]

/-- A sum over the row-major positions of a shape is the sum over its indices. -/
theorem sum_rowMajor (W : Shape) (G : W.Idx → EReal) : ((List.finRange W.numel).map fun n => G (W.rowMajor.symm n)).sum = ∑ p, G p := by
  rw [← List.ofFn_eq_map, List.sum_ofFn, Equiv.sum_comp]

/-- A window of one row of 64 entries is its last coordinate. -/
def lastIdx : (⟨3, ![1, 1, 64]⟩ : Shape).Idx ≃ Fin 64 where
  toFun p := p 2
  invFun y := ix3 0 0 y
  left_inv p := by
    funext i
    match i with
    | ⟨0, _⟩ => exact Subsingleton.elim (α := Fin 1) _ _
    | ⟨1, _⟩ => exact Subsingleton.elim (α := Fin 1) _ _
    | ⟨2, _⟩ => rfl
  right_inv y := rfl

/-- A window of 64 entries that ends at position `t` sums the entries up to `t`. -/
theorem window_sum (X : Fin 64 → EReal) (t : Fin 64) :
    (∑ y : Fin 64, if h : 63 ≤ t.val + y.val then X ⟨t.val + y.val - 63, by omega⟩ else 0) = ∑ s : Fin 64, if s ≤ t then X s else 0 := by
  refine Fintype.sum_equiv (Equiv.addRight (t + 1)) _ _ fun y => ?_
  have e : ((Equiv.addRight (t + 1)) y).val = (y.val + (t.val + 1)) % 64 := by
    show (y + (t + 1)).val = _
    rw [Fin.val_add, Fin.val_add]
    show (y.val + (t.val + 1) % 64) % 64 = _
    omega
  by_cases h : 63 ≤ t.val + y.val
  · rw [dif_pos h, if_pos (Fin.le_def.mpr (by rw [e]; omega))]
    exact congrArg X (Fin.ext (by rw [e]; show t.val + y.val - 63 = _; omega))
  · rw [dif_neg h, if_neg (fun hl => by have := Fin.le_def.mp hl; rw [e] at this; omega)]

/-- The running sum of a chunk, at an entry: the sum of the entries up to it. -/
theorem cumsum_entry (x : Vec Ideal S4x4x64 .f32) (v : Vec Ideal S_ .f32) (hv : ∀ i, v i = (0 : EReal)) (b h : Fin 4) (t : Fin 64) :
    Host.reduceWindowAdd (F := Ideal) (φ := .f32) ![1, 1, 64] ![1, 1, 1] ![0, 0, 63] ![0, 0, 0] x v reduceWindows_S4x4x64_S4x4x64_w1s1p0_0_w1s1p0_0_w64s1p63_0 h_S_ (ix3 b h t)
      = ∑ s : Fin 64, if s ≤ t then x (ix3 b h s) else 0 := by
  change Host.reduceWindow (s := S4x4x64) (t := S4x4x64) (fun a b : EReal => a + b) ![1, 1, 64] ![1, 1, 1] ![0, 0, 63] ![0, 0, 0] x (fun _ : (⟨0, ![]⟩ : Shape).Idx => v (Shape.Idx.first h_S_)) reduceWindows_S4x4x64_S4x4x64_w1s1p0_0_w1s1p0_0_w64s1p63_0 (by decide) (ix3 b h t) = _
  unfold Host.reduceWindow
  refine (foldl_sum _ (fun n => (fun p : (⟨3, ![1, 1, 64]⟩ : Shape).Idx => if h' : 63 ≤ t.val + (p 2).val then x (ix3 b h ⟨t.val + (p 2).val - 63, by have h2 : (p 2).val < 64 := (p 2).isLt; omega⟩) else (0 : EReal)) ((⟨3, ![1, 1, 64]⟩ : Shape).rowMajor.symm n)) (fun r n => ?_) _ _).trans ?_
  · refine congrArg (fun y : EReal => r + y) ?_
    have h0 : ((⟨3, ![1, 1, 64]⟩ : Shape).rowMajor.symm n 0).val < 1 := ((⟨3, ![1, 1, 64]⟩ : Shape).rowMajor.symm n 0).isLt
    have h1 : ((⟨3, ![1, 1, 64]⟩ : Shape).rowMajor.symm n 1).val < 1 := ((⟨3, ![1, 1, 64]⟩ : Shape).rowMajor.symm n 1).isLt
    have h2 : ((⟨3, ![1, 1, 64]⟩ : Shape).rowMajor.symm n 2).val < 64 := ((⟨3, ![1, 1, 64]⟩ : Shape).rowMajor.symm n 2).isLt
    by_cases h' : 63 ≤ t.val + ((⟨3, ![1, 1, 64]⟩ : Shape).rowMajor.symm n 2).val
    · refine Eq.trans ?_ (dif_pos h').symm
      refine (dif_pos ?_).trans (congrArg x (funext fun a => Fin.ext ?_))
      · intro a
        match a with
        | ⟨0, _⟩ => show 0 ≤ b.val * 1 + ((⟨3, ![1, 1, 64]⟩ : Shape).rowMajor.symm n 0).val ∧ b.val * 1 + ((⟨3, ![1, 1, 64]⟩ : Shape).rowMajor.symm n 0).val - 0 < 4; omega
        | ⟨1, _⟩ => show 0 ≤ h.val * 1 + ((⟨3, ![1, 1, 64]⟩ : Shape).rowMajor.symm n 1).val ∧ h.val * 1 + ((⟨3, ![1, 1, 64]⟩ : Shape).rowMajor.symm n 1).val - 0 < 4; omega
        | ⟨2, _⟩ => show 63 ≤ t.val * 1 + ((⟨3, ![1, 1, 64]⟩ : Shape).rowMajor.symm n 2).val ∧ t.val * 1 + ((⟨3, ![1, 1, 64]⟩ : Shape).rowMajor.symm n 2).val - 63 < 64; omega
      · match a with
        | ⟨0, _⟩ => show b.val * 1 + ((⟨3, ![1, 1, 64]⟩ : Shape).rowMajor.symm n 0).val - 0 = b.val; omega
        | ⟨1, _⟩ => show h.val * 1 + ((⟨3, ![1, 1, 64]⟩ : Shape).rowMajor.symm n 1).val - 0 = h.val; omega
        | ⟨2, _⟩ => show t.val * 1 + ((⟨3, ![1, 1, 64]⟩ : Shape).rowMajor.symm n 2).val - 63 = t.val + ((⟨3, ![1, 1, 64]⟩ : Shape).rowMajor.symm n 2).val - 63; omega
    · refine Eq.trans ?_ (dif_neg h').symm
      refine (dif_neg fun hin => h' ?_).trans (hv _)
      have := (hin ⟨2, by decide⟩).1
      change 63 ≤ t.val * 1 + ((⟨3, ![1, 1, 64]⟩ : Shape).rowMajor.symm n 2).val at this
      omega
  · refine (congrArg₂ (fun a b : EReal => a + b) (hv _) ((sum_rowMajor ⟨3, ![1, 1, 64]⟩ (fun p => if h' : 63 ≤ t.val + (p 2).val then x (ix3 b h ⟨t.val + (p 2).val - 63, by have h2 : (p 2).val < 64 := (p 2).isLt; omega⟩) else (0 : EReal))).trans (Fintype.sum_equiv lastIdx _ (fun y : Fin 64 => if h' : 63 ≤ t.val + y.val then x (ix3 b h ⟨t.val + y.val - 63, by omega⟩) else (0 : EReal)) fun p => rfl))).trans ((zero_add _).trans (window_sum (fun s => x (ix3 b h s)) t))

end Cert.Reference2Ideal.Scan

end
-- ==== Proof.MlRefStep.lean ====
/- The reference scan's step, entry by entry. -/
module

public import proofs.«01_k».proof.Proof.MlRefCum

@[expose] public section

set_option maxRecDepth 16384

noncomputable section

namespace Cert.Reference2Ideal.Scan

open Cert.Reference2Ideal Cert.Reference2Ideal.Gen Cert.Reference2Ideal.Value Idealize.ShloMosaic Idealize.ShloMosaic.TcCoe Cert.Ml
open Idealize.ShloMosaic.StableHlo

/-- The number of a chunk read as a signed word is itself. -/
theorem toInt_chunk (n : ℕ) (hn : n < 132) : (BitVec.ofNat 32 n).toInt = (n : ℤ) := WordCmp.toInt_ofNat_of_lt (by omega)

/-- A chunk cut from an array of chunks of rows. -/
theorem chunk5 (X : Vec Ideal S132x4x4x64x256 .f32) (start : Fin 5 → Int) (n : ℕ) (hn : n < 132) (h0 : start 0 = (n : ℤ)) (h1 : start 1 = 0) (h2 : start 2 = 0) (h3 : start 3 = 0) (h4 : start 4 = 0)
    (b h : Fin 4) (r : Fin 64) (d : Fin 256) :
    shapeCast S4x4x64x256 (Host.dynamicSlice S1x4x4x64x256 X start sliceFits_S132x4x4x64x256_S1x4x4x64x256) shapeCasts_S1x4x4x64x256_S4x4x64x256 (ix4 b h r d)
      = X (ix5 ⟨n, hn⟩ b h r d) := by
  have e : ∀ y : Vec Ideal S1x4x4x64x256 .f32, shapeCast S4x4x64x256 y shapeCasts_S1x4x4x64x256_S4x4x64x256 (ix4 b h r d) = y (ix5 0 b h r d) := fun y => by pointwise!
  refine (e _).trans ((Host.dynamicSlice_apply _ _ _ _).trans (congrArg X (funext fun a => Fin.ext ?_)))
  match a with
  | ⟨0, _⟩ => exact (congrArg (· + 0) (Host.clampedStart_of_le (s := S132x4x4x64x256) (t := S1x4x4x64x256) rfl start 0 n h0 (by show n + 1 ≤ 132; omega)))
  | ⟨1, _⟩ => exact (congrArg (· + b.val) (Host.clampedStart_of_le (s := S132x4x4x64x256) (t := S1x4x4x64x256) rfl start 1 0 h1 (by decide))).trans (Nat.zero_add _)
  | ⟨2, _⟩ => exact (congrArg (· + h.val) (Host.clampedStart_of_le (s := S132x4x4x64x256) (t := S1x4x4x64x256) rfl start 2 0 h2 (by decide))).trans (Nat.zero_add _)
  | ⟨3, _⟩ => exact (congrArg (· + r.val) (Host.clampedStart_of_le (s := S132x4x4x64x256) (t := S1x4x4x64x256) rfl start 3 0 h3 (by decide))).trans (Nat.zero_add _)
  | ⟨4, _⟩ => exact (congrArg (· + d.val) (Host.clampedStart_of_le (s := S132x4x4x64x256) (t := S1x4x4x64x256) rfl start 4 0 h4 (by decide))).trans (Nat.zero_add _)

/-- A chunk cut from an array of chunks of numbers. -/
theorem chunk4 (X : Vec Ideal S132x4x4x64 .f32) (start : Fin 4 → Int) (n : ℕ) (hn : n < 132) (h0 : start 0 = (n : ℤ)) (h1 : start 1 = 0) (h2 : start 2 = 0) (h3 : start 3 = 0)
    (b h : Fin 4) (r : Fin 64) :
    shapeCast S4x4x64 (Host.dynamicSlice S1x4x4x64 X start sliceFits_S132x4x4x64_S1x4x4x64) shapeCasts_S1x4x4x64_S4x4x64 (ix3 b h r)
      = X (ix4 ⟨n, hn⟩ b h r) := by
  have e : ∀ y : Vec Ideal S1x4x4x64 .f32, shapeCast S4x4x64 y shapeCasts_S1x4x4x64_S4x4x64 (ix3 b h r) = y (ix4 0 b h r) := fun y => by pointwise!
  refine (e _).trans ((Host.dynamicSlice_apply _ _ _ _).trans (congrArg X (funext fun a => Fin.ext ?_)))
  match a with
  | ⟨0, _⟩ => exact (congrArg (· + 0) (Host.clampedStart_of_le (s := S132x4x4x64) (t := S1x4x4x64) rfl start 0 n h0 (by show n + 1 ≤ 132; omega)))
  | ⟨1, _⟩ => exact (congrArg (· + b.val) (Host.clampedStart_of_le (s := S132x4x4x64) (t := S1x4x4x64) rfl start 1 0 h1 (by decide))).trans (Nat.zero_add _)
  | ⟨2, _⟩ => exact (congrArg (· + h.val) (Host.clampedStart_of_le (s := S132x4x4x64) (t := S1x4x4x64) rfl start 2 0 h2 (by decide))).trans (Nat.zero_add _)
  | ⟨3, _⟩ => exact (congrArg (· + r.val) (Host.clampedStart_of_le (s := S132x4x4x64) (t := S1x4x4x64) rfl start 3 0 h3 (by decide))).trans (Nat.zero_add _)

/-- The carried arrays of queries, keys and values. -/
abbrev cQ (V0 : Valuation τ sig (Elt Ideal)) : S132x4x4x64x256.Idx → EReal := V0 (Proc.devRef .tc main_v70_0)
@[inherit_doc cQ] abbrev cK (V0 : Valuation τ sig (Elt Ideal)) : S132x4x4x64x256.Idx → EReal := V0 (Proc.devRef .tc main_v70_1)
@[inherit_doc cQ] abbrev cV (V0 : Valuation τ sig (Elt Ideal)) : S132x4x4x64x256.Idx → EReal := V0 (Proc.devRef .tc main_v70_2)
/-- The carried arrays of input gates and of logarithmic forget gates. -/
abbrev cI (V0 : Valuation τ sig (Elt Ideal)) : S132x4x4x64.Idx → EReal := V0 (Proc.devRef .tc main_v70_3)
@[inherit_doc cI] abbrev cF (V0 : Valuation τ sig (Elt Ideal)) : S132x4x4x64.Idx → EReal := V0 (Proc.devRef .tc main_v70_4)
/-- The carried mask of past positions. -/
abbrev cM (V0 : Valuation τ sig (Elt Ideal)) : S64x64.Idx → BitVec 1 := V0 (Proc.devRef .tc main_v70_5)
/-- The carried state: its matrix, its normaliser and its stabiliser. -/
abbrev sC (V0 : Valuation τ sig (Elt Ideal)) : S4x4x256x256.Idx → EReal := V0 (Proc.devRef .tc main_v70_7)
@[inherit_doc sC] abbrev sN (V0 : Valuation τ sig (Elt Ideal)) : S4x4x256.Idx → EReal := V0 (Proc.devRef .tc main_v70_8)
@[inherit_doc sC] abbrev sM (V0 : Valuation τ sig (Elt Ideal)) : S4x4.Idx → EReal := V0 (Proc.devRef .tc main_v70_9)
/-- The carried results. -/
abbrev sH (V0 : Valuation τ sig (Elt Ideal)) : S132x4x4x64x256.Idx → EReal := V0 (Proc.devRef .tc main_v70_10)
/-- What the step computes on the way. -/
abbrev w85 (V0 : Valuation τ sig (Elt Ideal)) : S4x4x64x256.Idx → EReal := res_main_while0b_v85 V0
@[inherit_doc w85] abbrev w86 (V0 : Valuation τ sig (Elt Ideal)) : S4x4x64x256.Idx → EReal := res_main_while0b_v86 V0
@[inherit_doc w85] abbrev w87 (V0 : Valuation τ sig (Elt Ideal)) : S4x4x64x256.Idx → EReal := res_main_while0b_v87 V0
@[inherit_doc w85] abbrev w88 (V0 : Valuation τ sig (Elt Ideal)) : S4x4x64.Idx → EReal := res_main_while0b_v88 V0
@[inherit_doc w85] abbrev w90 (V0 : Valuation τ sig (Elt Ideal)) : S4x4x64.Idx → EReal := res_main_while0b_v90 V0
@[inherit_doc w85] abbrev w99 (V0 : Valuation τ sig (Elt Ideal)) : S4x4x64x64.Idx → EReal := res_main_while0b_v99 V0
@[inherit_doc w85] abbrev w102 (V0 : Valuation τ sig (Elt Ideal)) : S4x4x64.Idx → EReal := res_main_while0b_v102 V0
@[inherit_doc w85] abbrev w104 (V0 : Valuation τ sig (Elt Ideal)) : S4x4x64.Idx → EReal := res_main_while0b_v104 V0
@[inherit_doc w85] abbrev w110 (V0 : Valuation τ sig (Elt Ideal)) : S4x4x64.Idx → EReal := res_main_while0b_v110 V0
@[inherit_doc w85] abbrev w112 (V0 : Valuation τ sig (Elt Ideal)) : S4x4x64x64.Idx → EReal := res_main_while0b_v112 V0
@[inherit_doc w85] abbrev w131 (V0 : Valuation τ sig (Elt Ideal)) : S4x4.Idx → EReal := res_main_while0b_v131 V0
@[inherit_doc w85] abbrev w135 (V0 : Valuation τ sig (Elt Ideal)) : S4x4x64.Idx → EReal := res_main_while0b_v135 V0
@[inherit_doc w85] abbrev w138 (V0 : Valuation τ sig (Elt Ideal)) : S4x4.Idx → EReal := res_main_while0b_v138 V0
@[inherit_doc w85] abbrev w142 (V0 : Valuation τ sig (Elt Ideal)) : S4x4x64.Idx → EReal := res_main_while0b_v142 V0
@[inherit_doc w85] abbrev w145 (V0 : Valuation τ sig (Elt Ideal)) : S4x4.Idx → EReal := res_main_while0b_v145 V0

variable (V0 : Valuation τ sig (Elt Ideal)) {n : ℕ} (hn : n < 132)
  (hc : (V0 (Proc.devRef .tc main_v70_6) : IVec S_ 32) = fun _ => BitVec.ofNat 32 n)
include hc

/-- The chunk's queries. -/
theorem v85_apply (b h : Fin 4) (r : Fin 64) (d : Fin 256) :
    w85 V0 (ix4 b h r d) = cQ V0 (ix5 ⟨n, hn⟩ b h r d) :=
  chunk5 _ _ n hn ((congrArg (fun x : IVec S_ 32 => (x (Shape.Idx.first h_S_)).toInt) hc).trans (toInt_chunk n hn)) rfl rfl rfl rfl b h r d

/-- The chunk's keys. -/
theorem v86_apply (b h : Fin 4) (r : Fin 64) (d : Fin 256) :
    w86 V0 (ix4 b h r d) = cK V0 (ix5 ⟨n, hn⟩ b h r d) :=
  chunk5 _ _ n hn ((congrArg (fun x : IVec S_ 32 => (x (Shape.Idx.first h_S_)).toInt) hc).trans (toInt_chunk n hn)) rfl rfl rfl rfl b h r d

/-- The chunk's values. -/
theorem v87_apply (b h : Fin 4) (r : Fin 64) (d : Fin 256) :
    w87 V0 (ix4 b h r d) = cV V0 (ix5 ⟨n, hn⟩ b h r d) :=
  chunk5 _ _ n hn ((congrArg (fun x : IVec S_ 32 => (x (Shape.Idx.first h_S_)).toInt) hc).trans (toInt_chunk n hn)) rfl rfl rfl rfl b h r d

/-- The chunk's input gates. -/
theorem v88_apply (b h : Fin 4) (r : Fin 64) :
    w88 V0 (ix3 b h r) = cI V0 (ix4 ⟨n, hn⟩ b h r) :=
  chunk4 _ _ n hn ((congrArg (fun x : IVec S_ 32 => (x (Shape.Idx.first h_S_)).toInt) hc).trans (toInt_chunk n hn)) rfl rfl rfl b h r

/-- The chunk's running sums of logarithmic forget gates. -/
theorem v90_apply (b h : Fin 4) (t : Fin 64) :
    w90 V0 (ix3 b h t) = ∑ s : Fin 64, if s ≤ t then cF V0 (ix4 ⟨n, hn⟩ b h s) else (0 : EReal) := by
  refine (cumsum_entry _ _ (fun i => ?_) b h t).trans (Finset.sum_congr rfl fun s _ => if_congr Iff.rfl ?_ rfl)
  · pointwise!
  · exact chunk4 _ _ n hn ((congrArg (fun x : IVec S_ 32 => (x (Shape.Idx.first h_S_)).toInt) hc).trans (toInt_chunk n hn)) rfl rfl rfl b h s

omit hc

/-- The logarithms of the chunk's decay weights. -/
theorem v99_apply (b h : Fin 4) (t s : Fin 64) :
    w99 V0 (ix4 b h t s) = if cM V0 (ix2 t s) = 1#1
      then w90 V0 (ix3 b h t) - w90 V0 (ix3 b h s) + w88 V0 (ix3 b h s) else (⊥ : EReal) := by
  pointwise! [res_main_while0b_v99]

/-- The carried state's part of the stabilisers. -/
theorem v102_apply (b h : Fin 4) (t : Fin 64) : w102 V0 (ix3 b h t) = w90 V0 (ix3 b h t) + sM V0 (ix2 b h) := by
  pointwise! [res_main_while0b_v102]

/-- The stabilisers. -/
theorem v104_apply (b h : Fin 4) (t : Fin 64) :
    w104 V0 (ix3 b h t) = max (w102 V0 (ix3 b h t)) (Finset.fold max (Ideal.ofBits FTy.f32 4286578688#32) (fun s : Fin 64 => w99 V0 (ix4 b h t s)) Finset.univ) := by
  pointwise! [res_main_while0b_v104]
  exact congrArg (fun y : EReal => max (w102 V0 (ix3 b h t)) y) (Shape.ReducesTo.fold_fiber_r4_a3 reducesTo_S4x4x64x64_S4x4x64_d3 (ix3 b h t) max _ (w99 V0))

/-- The carried state's weights. -/
theorem v110_apply (b h : Fin 4) (t : Fin 64) : w110 V0 (ix3 b h t) = Ideal.exp (w102 V0 (ix3 b h t) - w104 V0 (ix3 b h t)) := by
  pointwise! [res_main_while0b_v110]

/-- The weighted scores. -/
theorem v112_apply (b h : Fin 4) (t s : Fin 64) :
    w112 V0 (ix4 b h t s) = (∑ d : Fin 256, w85 V0 (ix4 b h t d) * w86 V0 (ix4 b h s d)) * Ideal.exp (w99 V0 (ix4 b h t s) - w104 V0 (ix3 b h t)) := by
  pointwise! [res_main_while0b_v112]

/-- The chunk's whole sum of logarithmic forget gates. -/
theorem v131_apply (b h : Fin 4) : w131 V0 (ix2 b h) = w90 V0 (ix3 b h 63) := by
  pointwise! [res_main_while0b_v131]

/-- The logarithms of the weights into the next state. -/
theorem v135_apply (b h : Fin 4) (s : Fin 64) : w135 V0 (ix3 b h s) = w131 V0 (ix2 b h) - w90 V0 (ix3 b h s) + w88 V0 (ix3 b h s) := by
  pointwise! [res_main_while0b_v135]

/-- The next stabiliser. -/
theorem v138_apply (b h : Fin 4) :
    w138 V0 (ix2 b h) = max (w131 V0 (ix2 b h) + sM V0 (ix2 b h)) (Finset.fold max (Ideal.ofBits FTy.f32 4286578688#32) (fun s : Fin 64 => w135 V0 (ix3 b h s)) Finset.univ) := by
  pointwise! [res_main_while0b_v138]
  exact congrArg (fun y : EReal => max (w131 V0 (ix2 b h) + sM V0 (ix2 b h)) y) (Shape.ReducesTo.fold_fiber_r3_a2 reducesTo_S4x4x64_S4x4_d2 (ix2 b h) max _ (w135 V0))

/-- The weights into the next state. -/
theorem v142_apply (b h : Fin 4) (s : Fin 64) : w142 V0 (ix3 b h s) = Ideal.exp (w135 V0 (ix3 b h s) - w138 V0 (ix2 b h)) := by
  pointwise! [res_main_while0b_v142]

/-- The decay of the carried state. -/
theorem v145_apply (b h : Fin 4) : w145 V0 (ix2 b h) = Ideal.exp (w131 V0 (ix2 b h) + sM V0 (ix2 b h) - w138 V0 (ix2 b h)) := by
  pointwise! [res_main_while0b_v145]

/-- The next state's matrix. -/
theorem step7_apply (b h : Fin 4) (x y : Fin 256) :
    (step_main_v70_7 V0 : S4x4x256x256.Idx → EReal) (ix4 b h x y) = w145 V0 (ix2 b h) * sC V0 (ix4 b h x y)
      + ∑ s : Fin 64, w87 V0 (ix4 b h s x) * w142 V0 (ix3 b h s) * w86 V0 (ix4 b h s y) := by
  pointwise! [step_main_v70_7, id]

/-- The next state's normaliser. -/
theorem step8_apply (b h : Fin 4) (y : Fin 256) :
    (step_main_v70_8 V0 : S4x4x256.Idx → EReal) (ix3 b h y) = w145 V0 (ix2 b h) * sN V0 (ix3 b h y)
      + ∑ s : Fin 64, w142 V0 (ix3 b h s) * w86 V0 (ix4 b h s y) := by
  pointwise! [step_main_v70_8, id]

/-- The chunk's results. -/
def newH (V0 : Valuation τ sig (Elt Ideal)) (b h : Fin 4) (t : Fin 64) (x : Fin 256) : EReal :=
  Ideal.div ((∑ s : Fin 64, w112 V0 (ix4 b h t s) * w87 V0 (ix4 b h s x)) + w110 V0 (ix3 b h t) * ∑ d : Fin 256, w85 V0 (ix4 b h t d) * sC V0 (ix4 b h x d))
    (max (FloatOps.absf (F := Ideal) (φ := .f32) ((∑ s : Fin 64, w112 V0 (ix4 b h t s)) + w110 V0 (ix3 b h t) * ∑ d : Fin 256, sN V0 (ix3 b h d) * w85 V0 (ix4 b h t d)))
      (Ideal.exp (-w104 V0 (ix3 b h t))))

/-- A chunk written into an array of chunks of rows. -/
theorem put5 (X : Vec Ideal S132x4x4x64x256 .f32) (U : Vec Ideal S4x4x64x256 .f32) (start : Fin 5 → Int) (n : ℕ) (hn : n < 132) (h0 : start 0 = (n : ℤ)) (h1 : start 1 = 0) (h2 : start 2 = 0) (h3 : start 3 = 0) (h4 : start 4 = 0)
    (k : Fin 132) (b h : Fin 4) (r : Fin 64) (d : Fin 256) :
    Host.dynamicUpdateSlice X (broadcastInDim S1x4x4x64x256 ![1, 2, 3, 4] bcast_S4x4x64x256_S1x4x4x64x256_1_2_3_4 U) start sliceFits_S132x4x4x64x256_S1x4x4x64x256 (ix5 k b h r d)
      = if k.val = n then U (ix4 b h r d) else X (ix5 k b h r d) := by
  have c : Host.clampedStart S132x4x4x64x256 S1x4x4x64x256 rfl start = ![n, 0, 0, 0, 0] := by
    funext a
    match a with
    | ⟨0, _⟩ => exact Host.clampedStart_of_le (s := S132x4x4x64x256) (t := S1x4x4x64x256) rfl start 0 n h0 (by show n + 1 ≤ 132; omega)
    | ⟨1, _⟩ => exact Host.clampedStart_of_le (s := S132x4x4x64x256) (t := S1x4x4x64x256) rfl start 1 0 h1 (by decide)
    | ⟨2, _⟩ => exact Host.clampedStart_of_le (s := S132x4x4x64x256) (t := S1x4x4x64x256) rfl start 2 0 h2 (by decide)
    | ⟨3, _⟩ => exact Host.clampedStart_of_le (s := S132x4x4x64x256) (t := S1x4x4x64x256) rfl start 3 0 h3 (by decide)
    | ⟨4, _⟩ => exact Host.clampedStart_of_le (s := S132x4x4x64x256) (t := S1x4x4x64x256) rfl start 4 0 h4 (by decide)
  have e : ∀ j : S1x4x4x64x256.Idx, broadcastInDim S1x4x4x64x256 ![1, 2, 3, 4] bcast_S4x4x64x256_S1x4x4x64x256_1_2_3_4 U j = U (ix4 (j 1) (j 2) (j 3) (j 4)) := fun j => by
    pointwise!
  have hin : (∀ a : Fin 5, Host.clampedStart S132x4x4x64x256 S1x4x4x64x256 rfl start a ≤ (ix5 k b h r d a).val
      ∧ (ix5 k b h r d a).val < Host.clampedStart S132x4x4x64x256 S1x4x4x64x256 rfl start a + S1x4x4x64x256.size a) ↔ k.val = n := by
    rw [c]
    constructor
    · intro h'
      have h'' : n ≤ k.val ∧ k.val < n + 1 := h' 0
      omega
    · intro hk a
      match a with
      | ⟨0, _⟩ => show n ≤ k.val ∧ k.val < n + 1; omega
      | ⟨1, _⟩ => show 0 ≤ b.val ∧ b.val < 0 + 4; omega
      | ⟨2, _⟩ => show 0 ≤ h.val ∧ h.val < 0 + 4; omega
      | ⟨3, _⟩ => show 0 ≤ r.val ∧ r.val < 0 + 64; omega
      | ⟨4, _⟩ => show 0 ≤ d.val ∧ d.val < 0 + 256; omega
  refine (Host.dynamicUpdateSlice_apply _ _ _ _ _).trans ?_
  by_cases hk : k.val = n
  · refine (dif_pos (hin.mpr hk)).trans ((e _).trans (Eq.trans ?_ (if_pos hk).symm))
    refine congrArg U (funext fun a => Fin.ext ?_)
    match a with
    | ⟨0, _⟩ => exact congrArg (fun f : Fin 5 → ℕ => b.val - f 1) c
    | ⟨1, _⟩ => exact congrArg (fun f : Fin 5 → ℕ => h.val - f 2) c
    | ⟨2, _⟩ => exact congrArg (fun f : Fin 5 → ℕ => r.val - f 3) c
    | ⟨3, _⟩ => exact congrArg (fun f : Fin 5 → ℕ => d.val - f 4) c
  · exact (dif_neg fun h' => hk (hin.mp h')).trans (if_neg hk).symm

include hn hc in
/-- The results after a step: the chunk's new ones, and the others as they were. -/
theorem step10_apply (k : Fin 132) (b h : Fin 4) (t : Fin 64) (x : Fin 256) :
    (step_main_v70_10 V0 : S132x4x4x64x256.Idx → EReal) (ix5 k b h t x) = if k.val = n then newH V0 b h t x else sH V0 (ix5 k b h t x) := by
  refine (put5 _ _ _ n hn ((congrArg (fun x : IVec S_ 32 => (x (Shape.Idx.first h_S_)).toInt) hc).trans (toInt_chunk n hn)) rfl rfl rfl rfl k b h t x).trans (if_congr Iff.rfl ?_ rfl)
  pointwise! [newH]

end Cert.Reference2Ideal.Scan

end
-- ==== Proof.MlRefScan.lean ====
/- The reference scan's scan in closed form, one chunk after another. -/
module

public import proofs.«01_k».proof.Proof.MlRefStep

@[expose] public section

set_option maxRecDepth 16384

noncomputable section

namespace Cert.Reference2Ideal.Scan

open Cert.Reference2Ideal Cert.Reference2Ideal.Gen Cert.Reference2Ideal.Value Idealize.ShloMosaic Idealize.ShloMosaic.TcCoe Cert.Ml
open Idealize.ShloMosaic.StableHlo

/-- What the scan runs over, in closed form: for each of the four orders and each head, its queries, keys, values and gates by position. -/
structure Over (V0 : Valuation τ sig (Elt Ideal)) (qf kf vf : Fin 4 → Fin 4 → ℕ → Fin 256 → ℝ) (i f : Fin 4 → Fin 4 → ℕ → ℝ) : Prop where
  q : ∀ (k : Fin 132) b h (r : Fin 64) d, cQ V0 (ix5 k b h r d) = (qf b h (64 * k.val + r.val) d : EReal)
  k : ∀ (k : Fin 132) b h (r : Fin 64) d, cK V0 (ix5 k b h r d) = (kf b h (64 * k.val + r.val) d : EReal)
  v : ∀ (k : Fin 132) b h (r : Fin 64) d, cV V0 (ix5 k b h r d) = (vf b h (64 * k.val + r.val) d : EReal)
  i : ∀ (k : Fin 132) b h (r : Fin 64), cI V0 (ix4 k b h r) = (i b h (64 * k.val + r.val) : EReal)
  f : ∀ (k : Fin 132) b h (r : Fin 64), cF V0 (ix4 k b h r) = (f b h (64 * k.val + r.val) : EReal)
  mask : ∀ t s, cM V0 (ix2 t s) = if s ≤ t then 1#1 else 0#1

/-- The state and the results after `n` chunks, in closed form. -/
structure Done (V0 : Valuation τ sig (Elt Ideal)) (qf kf vf : Fin 4 → Fin 4 → ℕ → Fin 256 → ℝ) (i f : Fin 4 → Fin 4 → ℕ → ℝ) (n : ℕ) : Prop where
  ctr : (V0 (Proc.devRef .tc main_v70_6) : IVec S_ 32) = fun _ => BitVec.ofNat 32 n
  st : ∀ b h, ∃ M : ℝ, sM V0 (ix2 b h) = (M : EReal)
    ∧ (∀ x y, sC V0 (ix4 b h x y) = ((Real.exp (-M) * state (kf b h) (i b h) (f b h) (fun p => vf b h p x) (64 * n) y : ℝ) : EReal))
    ∧ ∀ y, sN V0 (ix3 b h y) = ((Real.exp (-M) * state (kf b h) (i b h) (f b h) (fun _ => 1) (64 * n) y : ℝ) : EReal)
  res : ∀ (k : Fin 132) b h (t : Fin 64) x, k.val < n →
    sH V0 (ix5 k b h t x) = (out (qf b h) (kf b h) (i b h) (f b h) (fun p => vf b h p x) (64 * k.val + t.val) : EReal)

variable {V0 : Valuation τ sig (Elt Ideal)} {qf kf vf : Fin 4 → Fin 4 → ℕ → Fin 256 → ℝ} {i f : Fin 4 → Fin 4 → ℕ → ℝ} {n : ℕ}

/-- The running sums of the logarithmic forget gates, in closed form. -/
theorem sums (o : Over V0 qf kf vf i f) (hn : n < 132) (hc : (V0 (Proc.devRef .tc main_v70_6) : IVec S_ 32) = fun _ => BitVec.ofNat 32 n) (b h : Fin 4) (t : Fin 64) :
    w90 V0 (ix3 b h t) = ((cum (f b h) (64 * n + t.val + 1) - cum (f b h) (64 * n) : ℝ) : EReal) := by
  rw [v90_apply V0 hn hc]
  have e : ∀ s : Fin 64, (if s ≤ t then cF V0 (ix4 ⟨n, hn⟩ b h s) else (0 : EReal)) = ((if s ≤ t then f b h (64 * n + s.val) else 0 : ℝ) : EReal) := fun s => by
    split_ifs
    · exact o.f _ _ _ _
    · rfl
  rw [Finset.sum_congr rfl fun s _ => e s, coe_sum]
  refine congrArg _ ((sum_rows_le (Equiv.refl (Fin 64)) t (fun s => f b h (64 * n + s))).trans ?_)
  exact eq_sub_of_add_eq' (Finset.sum_range_add (f b h) (64 * n) (t.val + 1)).symm

/-- The masked logarithms of the decay weights, in closed form. -/
theorem logs (o : Over V0 qf kf vf i f) (hn : n < 132) (hc : (V0 (Proc.devRef .tc main_v70_6) : IVec S_ 32) = fun _ => BitVec.ofNat 32 n) (b h : Fin 4) (t s : Fin 64) :
    w99 V0 (ix4 b h t s) = if s ≤ t then
      (((cum (f b h) (64 * n + t.val + 1) - cum (f b h) (64 * n)) - (cum (f b h) (64 * n + s.val + 1) - cum (f b h) (64 * n)) + i b h (64 * n + s.val) : ℝ) : EReal) else ⊥ := by
  rw [v99_apply, o.mask, sums o hn hc, sums o hn hc, v88_apply V0 hn hc, o.i]
  by_cases hr : s ≤ t
  · rw [if_pos hr, if_pos hr, if_pos rfl]
    simp only [← EReal.coe_sub, ← EReal.coe_add]
  · rw [if_neg hr, if_neg hr]
    rfl

/-- A chunk's new results are the closed form's. -/
theorem new_closed (o : Over V0 qf kf vf i f) (hn : n < 132) (hd : Done V0 qf kf vf i f n) (b h : Fin 4) (t : Fin 64) (x : Fin 256) :
    newH V0 b h t x = (out (qf b h) (kf b h) (i b h) (f b h) (fun p => vf b h p x) (64 * n + t.val) : EReal) := by
  obtain ⟨M, hs, hC, hN⟩ := hd.st b h
  have hc := hd.ctr
  have h1 : ∃ μ : ℝ, w104 V0 (ix3 b h t) = (μ : EReal) := by
    rw [v104_apply, v102_apply, sums o hn hc, hs, ← EReal.coe_add]
    refine max_real _ _ (fold_ne_top _ (by rw [ninf]; exact bot_ne_top) _ fun x => ?_)
    rw [logs o hn hc]
    split_ifs
    · exact EReal.coe_ne_top _
    · exact bot_ne_top
  obtain ⟨μ, hμ⟩ := h1
  have hw : ∀ s, w112 V0 (ix4 b h t s) = ((if s ≤ t then (∑ d, qf b h (64 * n + t.val) d * kf b h (64 * n + s.val) d)
      * Real.exp ((cum (f b h) (64 * n + t.val + 1) - cum (f b h) (64 * n)) - (cum (f b h) (64 * n + s.val + 1) - cum (f b h) (64 * n)) + i b h (64 * n + s.val) - μ) else 0 : ℝ) : EReal) := fun s => by
    rw [v112_apply, hμ, logs o hn hc]
    simp only [v85_apply V0 hn hc, v86_apply V0 hn hc, o.q, o.k, ← EReal.coe_mul, coe_sum]
    split_ifs
    · rw [← EReal.coe_sub, Ideal.exp_coe, ← EReal.coe_mul]
    · rw [EReal.bot_sub, show Ideal.exp ⊥ = 0 from rfl, mul_zero]
      rfl
  have hi : w110 V0 (ix3 b h t) = (Real.exp ((cum (f b h) (64 * n + t.val + 1) - cum (f b h) (64 * n)) + M - μ) : EReal) := by
    rw [v110_apply, hμ, v102_apply, sums o hn hc, hs, ← EReal.coe_add, ← EReal.coe_sub, Ideal.exp_coe]
  unfold newH
  simp only [hμ, hw, hi, v85_apply V0 hn hc, v87_apply V0 hn hc, o.q, o.v, hC, hN, ← EReal.coe_mul, coe_sum, ← EReal.coe_add]
  have e1 := read_chunk (qf b h) (kf b h) (i b h) (f b h) (Equiv.refl (Fin 64)) (64 * n) (fun p => vf b h p x) M μ t
  have e2 := read_chunk (qf b h) (kf b h) (i b h) (f b h) (Equiv.refl (Fin 64)) (64 * n) (fun _ => 1) M μ t
  simp only [mul_one] at e2
  simp only [mul_comm (Real.exp (-M) * state _ _ _ _ _ _) (qf b h _ _)]
  refine (congrArg₂ (fun a b : ℝ => Ideal.div (a : EReal) (max (FloatOps.absf (F := Ideal) (φ := .f32) (b : EReal)) (Ideal.exp (-(μ : EReal))))) e1 e2).trans ?_
  dsimp only [Equiv.refl_apply]
  rw [← EReal.coe_neg, Ideal.exp_coe]
  rw [show FloatOps.absf (F := Ideal) (φ := .f32) ((Real.exp (-μ) * Ml.read (qf b h) (kf b h) (i b h) (f b h) (fun _ => 1) (64 * n + t.val) : ℝ) : EReal)
    = ((|Real.exp (-μ) * Ml.read (qf b h) (kf b h) (i b h) (f b h) (fun _ => 1) (64 * n + t.val)| : ℝ) : EReal) from abs_real _]
  rw [← EReal.coe_strictMono.monotone.map_max, div_real _ _ (lt_of_lt_of_le (Real.exp_pos _) (le_max_right _ _)).ne', quot_stab]
  rfl

/-- A step leaves what it runs over. -/
theorem Over.step (o : Over V0 qf kf vf i f) : Over (STEP V0) qf kf vf i f where
  q k b h r d := (congrArg (fun x : S132x4x4x64x256.Idx → EReal => x (ix5 k b h r d)) (STEP_main_v70_0 V0)).trans (o.q k b h r d)
  k k b h r d := (congrArg (fun x : S132x4x4x64x256.Idx → EReal => x (ix5 k b h r d)) (STEP_main_v70_1 V0)).trans (o.k k b h r d)
  v k b h r d := (congrArg (fun x : S132x4x4x64x256.Idx → EReal => x (ix5 k b h r d)) (STEP_main_v70_2 V0)).trans (o.v k b h r d)
  i k b h r := (congrArg (fun x : S132x4x4x64.Idx → EReal => x (ix4 k b h r)) (STEP_main_v70_3 V0)).trans (o.i k b h r)
  f k b h r := (congrArg (fun x : S132x4x4x64.Idx → EReal => x (ix4 k b h r)) (STEP_main_v70_4 V0)).trans (o.f k b h r)
  mask t s := (congrArg (fun x : S64x64.Idx → BitVec 1 => x (ix2 t s)) (STEP_main_v70_5 V0)).trans (o.mask t s)

/-- A step does one chunk more. -/
theorem Done.step (o : Over V0 qf kf vf i f) (hn : n < 132) (hd : Done V0 qf kf vf i f n) : Done (STEP V0) qf kf vf i f (n + 1) where
  ctr := by
    have e : (STEP V0 (Proc.devRef .tc main_v70_6) : IVec S_ 32) = addi (V0 (Proc.devRef .tc main_v70_6) : IVec S_ 32) (constantI S_ 32 1#32) := STEP_main_v70_6 V0
    rw [e, hd.ctr]
    funext j
    show BitVec.ofNat 32 n + 1#32 = BitVec.ofNat 32 (n + 1)
    rw [BitVec.ofNat_add]
  st b h := by
    obtain ⟨M, hs, hC, hN⟩ := hd.st b h
    have hc := hd.ctr
    have ht : w131 V0 (ix2 b h) = ((cum (f b h) (64 * n + 64) - cum (f b h) (64 * n) : ℝ) : EReal) := by
      rw [v131_apply, sums o hn hc]
      rfl
    have hdn : ∀ s, w135 V0 (ix3 b h s) = (((cum (f b h) (64 * n + 64) - cum (f b h) (64 * n)) - (cum (f b h) (64 * n + s.val + 1) - cum (f b h) (64 * n)) + i b h (64 * n + s.val) : ℝ) : EReal) := fun s => by
      rw [v135_apply, ht, sums o hn hc, v88_apply V0 hn hc, o.i, ← EReal.coe_sub, ← EReal.coe_add]
    have h1 : ∃ μ : ℝ, w138 V0 (ix2 b h) = (μ : EReal) := by
      rw [v138_apply, ht, hs, ← EReal.coe_add]
      refine max_real _ _ (fold_ne_top _ (by rw [ninf]; exact bot_ne_top) _ fun x => ?_)
      rw [hdn]
      exact EReal.coe_ne_top _
    obtain ⟨μ, hμ⟩ := h1
    refine ⟨μ, (congrArg (fun x : S4x4.Idx → EReal => x (ix2 b h)) (STEP_main_v70_9 V0)).trans hμ, fun x y => ?_, fun y => ?_⟩
    · refine (congrArg (fun z : S4x4x256x256.Idx → EReal => z (ix4 b h x y)) (STEP_main_v70_7 V0)).trans ((step7_apply V0 b h x y).trans ?_)
      rw [v145_apply, ht, hs, hμ]
      simp only [v142_apply, hdn, hμ, v86_apply V0 hn hc, v87_apply V0 hn hc, o.k, o.v, hC, ← EReal.coe_add, ← EReal.coe_sub, Ideal.exp_coe, ← EReal.coe_mul, coe_sum]
      exact congrArg _ (state_chunk (kf b h) (i b h) (f b h) (Equiv.refl (Fin 64)) (64 * n) (fun p => vf b h p x) M μ y)
    · refine (congrArg (fun z : S4x4x256.Idx → EReal => z (ix3 b h y)) (STEP_main_v70_8 V0)).trans ((step8_apply V0 b h y).trans ?_)
      rw [v145_apply, ht, hs, hμ]
      simp only [v142_apply, hdn, hμ, v86_apply V0 hn hc, o.k, hN, ← EReal.coe_add, ← EReal.coe_sub, Ideal.exp_coe, ← EReal.coe_mul, coe_sum]
      have e := state_chunk (kf b h) (i b h) (f b h) (Equiv.refl (Fin 64)) (64 * n) (fun _ => 1) M μ y
      simp only [one_mul] at e
      exact congrArg _ e
  res k b h t x hk := by
    refine (congrArg (fun z : S132x4x4x64x256.Idx → EReal => z (ix5 k b h t x)) (STEP_main_v70_10 V0)).trans ((step10_apply V0 hn hd.ctr k b h t x).trans ?_)
    by_cases e : k.val = n
    · rw [if_pos e, new_closed o hn hd, e]
    · rw [if_neg e]
      exact hd.res k b h t x (by omega)

/-- The scan does all its chunks. -/
theorem Done.scan (o : Over V0 qf kf vf i f) (h0 : Done V0 qf kf vf i f 0) : ∀ n, n ≤ 132 → Over (STEP^[n] V0) qf kf vf i f ∧ Done (STEP^[n] V0) qf kf vf i f n
  | 0, _ => ⟨o, h0⟩
  | n + 1, hn => by
    obtain ⟨o', h'⟩ := Done.scan o h0 n (by omega)
    rw [Function.iterate_succ_apply']
    exact ⟨o'.step, h'.step o' (by omega)⟩

end Cert.Reference2Ideal.Scan

end
-- ==== Proof.MlRefEntry.lean ====
/- The reference scan at its loop's entry: what the loop carries first, of the arguments. -/
module

public import proofs.«01_k».proof.Proof.MlRefScan
public import proofs.«01_k».proof.Proof.MlRows

@[expose] public section

set_option maxRecDepth 16384

noncomputable section

namespace Cert.Reference2Ideal.Scan

open Cert.Reference2Ideal Cert.Reference2Ideal.Gen Cert.Reference2Ideal.Value Idealize.ShloMosaic Idealize.ShloMosaic.TcCoe Cert.Ml
open Idealize.ShloMosaic.StableHlo

/-- An array of heads in the scan's two orders, in chunks. -/
def ordM (x : FVec Ideal S2x4x8448x256 .f32) : FVec Ideal S132x4x4x64x256 .f32 :=
  transpose S132x4x4x64x256 [2, 0, 1, 3, 4] (shapeCast S4x4x132x64x256 (concatenate S4x4x8448x256 0 [⟨S2x4x8448x256, concatenate S2x4x8448x256 2
    [⟨S2x4x256x256, extractStridedSlice S2x4x256x256 ![0, 0, 8192, 0] x slices_S2x4x8448x256_S2x4x256x256_0_0_8192_0⟩,
      ⟨S2x4x8192x256, extractStridedSlice S2x4x8192x256 ![0, 0, 0, 0] x slices_S2x4x8448x256_S2x4x8192x256_0_0_0_0⟩]
    concatenates_S2x4x256x256_S2x4x8192x256_S2x4x8448x256_d2⟩, ⟨S2x4x8448x256, Host.reverse [2] x⟩] concatenates_S2x4x8448x256_S2x4x8448x256_S4x4x8448x256_d0)
    shapeCasts_S4x4x8448x256_S4x4x132x64x256) transposes_S4x4x132x64x256_S132x4x4x64x256_2_0_1_3_4

/-- Arrays of gates, the forward order's and the backward order's, in chunks. -/
def ordG (x y : FVec Ideal S2x4x8448 .f32) : FVec Ideal S132x4x4x64 .f32 :=
  transpose S132x4x4x64 [2, 0, 1, 3] (shapeCast S4x4x132x64 (concatenate S4x4x8448 0 [⟨S2x4x8448, concatenate S2x4x8448 2
    [⟨S2x4x256, extractStridedSlice S2x4x256 ![0, 0, 8192] x slices_S2x4x8448_S2x4x256_0_0_8192⟩,
      ⟨S2x4x8192, extractStridedSlice S2x4x8192 ![0, 0, 0] x slices_S2x4x8448_S2x4x8192_0_0_0⟩]
    concatenates_S2x4x256_S2x4x8192_S2x4x8448_d2⟩, ⟨S2x4x8448, Host.reverse [2] y⟩] concatenates_S2x4x8448_S2x4x8448_S4x4x8448_d0)
    shapeCasts_S4x4x8448_S4x4x132x64) transposes_S4x4x132x64_S132x4x4x64_2_0_1_3

/-- The heads of an array of columns. -/
def headsOf (x : FVec Ideal S2x8448x1024 .bf16) : FVec Ideal S2x4x8448x256 .f32 :=
  transpose S2x4x8448x256 [0, 2, 1, 3] (shapeCast S2x8448x4x256 (extf .f32 x bitsLt_bf16_f32) shapeCasts_S2x8448x1024_S2x8448x4x256) transposes_S2x8448x4x256_S2x4x8448x256_0_2_1_3

/-- The gates by kind and head, their biases added. -/
def gatesOf (g : FVec Ideal S2x8448x128 .f32) (e : FVec Ideal S1x16 .f32) : FVec Ideal S2x4x4x8448 .f32 :=
  transpose S2x4x4x8448 [0, 2, 3, 1] (addf (shapeCast S2x8448x4x4 (extractStridedSlice S2x8448x16 ![0, 0, 0] g slices_S2x8448x128_S2x8448x16_0_0_0) shapeCasts_S2x8448x16_S2x8448x4x4)
    (broadcastInDim S2x8448x4x4 ![0, 1, 2, 3] bcast_S1x1x4x4_S2x8448x4x4_0_1_2_3 (broadcastInDim S1x1x4x4 ![2, 3] bcast_S4x4_S1x1x4x4_2_3 (shapeCast S4x4 e shapeCasts_S1x16_S4x4))))
    transposes_S2x8448x4x4_S2x4x4x8448_0_2_3_1

/-- One kind of gates. -/
def kindOf (n : ℕ) (x : FVec Ideal S2x4x4x8448 .f32) (h : S2x4x4x8448.Slices ![0, n, 0, 0] S2x1x4x8448) : FVec Ideal S2x4x8448 .f32 :=
  shapeCast S2x4x8448 (extractStridedSlice S2x1x4x8448 ![0, n, 0, 0] x h) shapeCasts_S2x1x4x8448_S2x4x8448

/-- The logarithm of the logistic function, as the reference computes it. -/
def lsOf (x : FVec Ideal S2x4x8448 .f32) : FVec Ideal S2x4x8448 .f32 :=
  Host.negf (select (cmpf .une (subf (Host.negf x) (broadcastInDim S2x4x8448 ![] bcast_S_S2x4x8448 (constant S_ .f32 0x00000000#32))) (subf (Host.negf x) (broadcastInDim S2x4x8448 ![] bcast_S_S2x4x8448 (constant S_ .f32 0x00000000#32))))
    (addf (Host.negf x) (broadcastInDim S2x4x8448 ![] bcast_S_S2x4x8448 (constant S_ .f32 0x00000000#32)))
    (addf (maximumf (Host.negf x) (broadcastInDim S2x4x8448 ![] bcast_S_S2x4x8448 (constant S_ .f32 0x00000000#32)))
      (Host.log1p (Host.exp (Host.negf (Host.absf (subf (Host.negf x) (broadcastInDim S2x4x8448 ![] bcast_S_S2x4x8448 (constant S_ .f32 0x00000000#32)))))))))

variable (m : (b : Loc nD τ sig) → b.2.ty.Contents (Elt Ideal)) (c : Dev nD)

/-- The queries at the loop's entry. -/
theorem entry_q : entryContents preI m c (Proc.devRef .tc main_v70_0)
    = ordM (headsOf (extractStridedSlice S2x8448x1024 ![0, 0, 0] (m ((c.tc : Thread nD τ).loc main_arg0)) slices_S2x8448x2048_S2x8448x1024_0_0_0)) := by
  simp only [entryContents, afterL_cons, afterL_nil]
  after_reads_simp
  rfl

/-- The keys at the loop's entry. -/
theorem entry_k : entryContents preI m c (Proc.devRef .tc main_v70_1)
    = ordM (headsOf (extractStridedSlice S2x8448x1024 ![0, 0, 1024] (m ((c.tc : Thread nD τ).loc main_arg0)) slices_S2x8448x2048_S2x8448x1024_0_0_1024)) := by
  simp only [entryContents, afterL_cons, afterL_nil]
  after_reads_simp
  rfl

/-- The values at the loop's entry. -/
theorem entry_v : entryContents preI m c (Proc.devRef .tc main_v70_2)
    = ordM (headsOf (extractStridedSlice S2x8448x1024 ![0, 0, 2048] (m ((c.tc : Thread nD τ).loc main_arg1)) slices_S2x8448x4096_S2x8448x1024_0_0_2048)) := by
  simp only [entryContents, afterL_cons, afterL_nil]
  after_reads_simp
  rfl

/-- The gates of the two arguments. -/
abbrev gates : FVec Ideal S2x4x4x8448 .f32 := gatesOf (m ((c.tc : Thread nD τ).loc main_arg2)) (m ((c.tc : Thread nD τ).loc main_arg3))

/-- The input gates at the loop's entry. -/
theorem entry_i : entryContents preI m c (Proc.devRef .tc main_v70_3)
    = ordG (kindOf 0 (gates m c) slices_S2x4x4x8448_S2x1x4x8448_0_0_0_0) (kindOf 2 (gates m c) slices_S2x4x4x8448_S2x1x4x8448_0_2_0_0) := by
  simp only [entryContents, afterL_cons, afterL_nil]
  after_results_entrywise []

set_option maxHeartbeats 3000000 in
/-- The logarithmic forget gates at the loop's entry. -/
theorem entry_f : entryContents preI m c (Proc.devRef .tc main_v70_4)
    = ordG (lsOf (kindOf 1 (gates m c) slices_S2x4x4x8448_S2x1x4x8448_0_1_0_0)) (lsOf (kindOf 3 (gates m c) slices_S2x4x4x8448_S2x1x4x8448_0_3_0_0)) := by
  simp only [entryContents, afterL_cons, afterL_nil]
  after_results_entrywise []

/-- The state at the loop's entry: zeros. -/
theorem entry_C : sC (entryContents preI m c) = broadcastInDim S4x4x256x256 ![] bcast_S_S4x4x256x256 (constant (F := Ideal) S_ .f32 0x00000000#32) := by
  simp only [entryContents, afterL_cons, afterL_nil]
  after_reads_simp
  rfl
@[inherit_doc entry_C] theorem entry_N : sN (entryContents preI m c) = broadcastInDim S4x4x256 ![] bcast_S_S4x4x256 (constant (F := Ideal) S_ .f32 0x00000000#32) := by
  simp only [entryContents, afterL_cons, afterL_nil]
  after_reads_simp
  rfl
@[inherit_doc entry_C] theorem entry_M : sM (entryContents preI m c) = broadcastInDim S4x4 ![] bcast_S_S4x4 (constant (F := Ideal) S_ .f32 0x00000000#32) := by
  simp only [entryContents, afterL_cons, afterL_nil]
  after_reads_simp
  rfl

/-- The mask at the loop's entry. -/
theorem entry_mask : cM (entryContents preI m c) = select
    (cmpi .sge (addi (iotaInDim S64x64 32 0) (broadcastInDim S64x64 ![] bcast_S_S64x64 (constantI S_ 32 0#32))) (iotaInDim S64x64 32 1))
    (broadcastInDim S64x64 ![] bcast_S_S64x64 (constantI S_ 1 1#1)) (broadcastInDim S64x64 ![] bcast_S_S64x64 (constantI S_ 1 0#1)) := by
  simp only [entryContents, afterL_cons, afterL_nil]
  after_reads_simp
  rfl

end Cert.Reference2Ideal.Scan
-- ==== Proof.MlRefOut.lean ====
/- The reference scan's carried arrays and results entry by entry, and its results in closed form. -/
module

public import proofs.«01_k».proof.Proof.MlRefEntry
public import proofs.«01_k».proof.Proof.MlRows

@[expose] public section

set_option maxRecDepth 16384

noncomputable section

namespace Cert.Reference2Ideal.Scan

open Cert.Reference2Ideal Cert.Reference2Ideal.Gen Cert.Reference2Ideal.Value Idealize.ShloMosaic Idealize.ShloMosaic.TcCoe Cert.Ml
open Idealize.ShloMosaic.StableHlo

/-- Indices with the same coordinates are equal. -/
theorem ix3_of_val {n0 n1 n2 : ℕ} {a a' : Fin n0} {b b' : Fin n1} {c c' : Fin n2} (ha : a.val = a'.val) (hb : b.val = b'.val) (hc : c.val = c'.val) :
    ix3 a b c = ix3 a' b' c' := by
  obtain rfl := Fin.ext ha
  obtain rfl := Fin.ext hb
  obtain rfl := Fin.ext hc
  rfl

/-- Indices with the same coordinates are equal. -/
theorem ix4_of_val {n0 n1 n2 n3 : ℕ} {a a' : Fin n0} {b b' : Fin n1} {c c' : Fin n2} {d d' : Fin n3} (ha : a.val = a'.val) (hb : b.val = b'.val)
    (hc : c.val = c'.val) (hd : d.val = d'.val) : ix4 a b c d = ix4 a' b' c' d' := by
  obtain rfl := Fin.ext ha
  obtain rfl := Fin.ext hb
  obtain rfl := Fin.ext hc
  obtain rfl := Fin.ext hd
  rfl

/-- A batch of the two orders' four: the order and the batch it is of. -/
theorem batch_lt (b : Fin 4) : b.val % 2 < 2 := Nat.mod_lt _ (by decide)

/-- An array of heads in the forward order. -/
def fwdM (x : FVec Ideal S2x4x8448x256 .f32) : FVec Ideal S2x4x8448x256 .f32 := concatenate S2x4x8448x256 2
  [⟨S2x4x256x256, extractStridedSlice S2x4x256x256 ![0, 0, 8192, 0] x slices_S2x4x8448x256_S2x4x256x256_0_0_8192_0⟩,
    ⟨S2x4x8192x256, extractStridedSlice S2x4x8192x256 ![0, 0, 0, 0] x slices_S2x4x8448x256_S2x4x8192x256_0_0_0_0⟩]
  concatenates_S2x4x256x256_S2x4x8192x256_S2x4x8448x256_d2

/-- The forward order's rows of an array of heads, entry by entry. -/
theorem fwdM_apply (x : FVec Ideal S2x4x8448x256 .f32) (b : Fin 2) (h : Fin 4) (p : Fin 8448) (d : Fin 256) : fwdM x (ix4 b h p d) = x (ix4 b h (rowI 0 p) d) := by
  pointwise! [fwdM]
  have e : rowOf 0 p.val = (p.val + 8192) % 8448 := if_pos rfl
  split_ifs with h1
  · exact congrArg x (ix4_of_val rfl rfl (by show 8192 + p.val = rowOf 0 p.val; omega) rfl)
  · exact congrArg x (ix4_of_val rfl rfl (by show p.val - 256 = rowOf 0 p.val; omega) rfl)
  · exact absurd rfl ‹_›

/-- Gates in the forward order. -/
def fwdG (x : FVec Ideal S2x4x8448 .f32) : FVec Ideal S2x4x8448 .f32 := concatenate S2x4x8448 2
  [⟨S2x4x256, extractStridedSlice S2x4x256 ![0, 0, 8192] x slices_S2x4x8448_S2x4x256_0_0_8192⟩,
    ⟨S2x4x8192, extractStridedSlice S2x4x8192 ![0, 0, 0] x slices_S2x4x8448_S2x4x8192_0_0_0⟩]
  concatenates_S2x4x256_S2x4x8192_S2x4x8448_d2

/-- The forward order's gates, entry by entry. -/
theorem fwdG_apply (x : FVec Ideal S2x4x8448 .f32) (b : Fin 2) (h : Fin 4) (p : Fin 8448) : fwdG x (ix3 b h p) = x (ix3 b h (rowI 0 p)) := by
  pointwise! [fwdG]
  have e : rowOf 0 p.val = (p.val + 8192) % 8448 := if_pos rfl
  split_ifs with h1
  · exact congrArg x (ix3_of_val rfl rfl (by show 8192 + p.val = rowOf 0 p.val; omega))
  · exact congrArg x (ix3_of_val rfl rfl (by show p.val - 256 = rowOf 0 p.val; omega))
  · exact absurd rfl ‹_›

/-- The rows from the last. -/
theorem revM_apply (x : FVec Ideal S2x4x8448x256 .f32) (b : Fin 2) (h : Fin 4) (p : Fin 8448) (d : Fin 256) :
    Host.reverse [2] x (ix4 b h p d) = x (ix4 b h (rowI 1 p) d) := by
  refine (Host.reverse_apply _ _ _).trans (congrArg x (funext fun a => ?_))
  have e : rowOf 1 p.val = 8447 - p.val := if_neg (by decide)
  match a with
  | ⟨0, _⟩ => rfl
  | ⟨1, _⟩ => rfl
  | ⟨2, _⟩ => exact Fin.ext (by show 8448 - (p.val + 1) = rowOf 1 p.val; omega)
  | ⟨3, _⟩ => rfl

@[inherit_doc revM_apply] theorem revG_apply (x : FVec Ideal S2x4x8448 .f32) (b : Fin 2) (h : Fin 4) (p : Fin 8448) :
    Host.reverse [2] x (ix3 b h p) = x (ix3 b h (rowI 1 p)) := by
  refine (Host.reverse_apply _ _ _).trans (congrArg x (funext fun a => ?_))
  have e : rowOf 1 p.val = 8447 - p.val := if_neg (by decide)
  match a with
  | ⟨0, _⟩ => rfl
  | ⟨1, _⟩ => rfl
  | ⟨2, _⟩ => exact Fin.ext (by show 8448 - (p.val + 1) = rowOf 1 p.val; omega)

/-- The position of a chunk's row. -/
def at64 (k : Fin 132) (r : Fin 64) : Fin 8448 := ⟨64 * k.val + r.val, by omega⟩

/-- The two orders one after the other in the batch, cut into chunks. -/
theorem chunksM_apply (y z : FVec Ideal S2x4x8448x256 .f32) (k : Fin 132) (b h : Fin 4) (r : Fin 64) (d : Fin 256) :
    transpose S132x4x4x64x256 [2, 0, 1, 3, 4] (shapeCast S4x4x132x64x256 (concatenate S4x4x8448x256 0 [⟨S2x4x8448x256, y⟩, ⟨S2x4x8448x256, z⟩]
      concatenates_S2x4x8448x256_S2x4x8448x256_S4x4x8448x256_d0) shapeCasts_S4x4x8448x256_S4x4x132x64x256) transposes_S4x4x132x64x256_S132x4x4x64x256_2_0_1_3_4
      (ix5 k b h r d) = if b.val < 2 then y (ix4 ⟨b.val % 2, batch_lt b⟩ h (at64 k r) d) else z (ix4 ⟨b.val % 2, batch_lt b⟩ h (at64 k r) d) := by
  have e : ∀ u : FVec Ideal S4x4x8448x256 .f32, transpose S132x4x4x64x256 [2, 0, 1, 3, 4] (shapeCast S4x4x132x64x256 u shapeCasts_S4x4x8448x256_S4x4x132x64x256)
      transposes_S4x4x132x64x256_S132x4x4x64x256_2_0_1_3_4 (ix5 k b h r d) = u (ix4 b h (at64 k r) d) := fun u => by
    pointwise!
    exact congrArg u (ix4_of_val rfl rfl (by show k.val * 64 + r.val = 64 * k.val + r.val; omega) rfl)
  refine (e _).trans ((concatenate_pair_apply _ _ _ _ _).trans ?_)
  by_cases hb : b.val < 2
  · refine (dif_pos hb).trans (Eq.trans ?_ (if_pos hb).symm)
    refine congrArg y (funext fun a => ?_)
    match a with
    | ⟨0, _⟩ => exact Fin.ext (by show b.val = b.val % 2; omega)
    | ⟨1, _⟩ => rfl
    | ⟨2, _⟩ => rfl
    | ⟨3, _⟩ => rfl
  · refine (dif_neg hb).trans (Eq.trans ?_ (if_neg hb).symm)
    refine congrArg z (funext fun a => ?_)
    match a with
    | ⟨0, _⟩ => exact Fin.ext (by show b.val - 2 = b.val % 2; omega)
    | ⟨1, _⟩ => rfl
    | ⟨2, _⟩ => rfl
    | ⟨3, _⟩ => rfl

@[inherit_doc chunksM_apply] theorem chunksG_apply (y z : FVec Ideal S2x4x8448 .f32) (k : Fin 132) (b h : Fin 4) (r : Fin 64) :
    transpose S132x4x4x64 [2, 0, 1, 3] (shapeCast S4x4x132x64 (concatenate S4x4x8448 0 [⟨S2x4x8448, y⟩, ⟨S2x4x8448, z⟩]
      concatenates_S2x4x8448_S2x4x8448_S4x4x8448_d0) shapeCasts_S4x4x8448_S4x4x132x64) transposes_S4x4x132x64_S132x4x4x64_2_0_1_3
      (ix4 k b h r) = if b.val < 2 then y (ix3 ⟨b.val % 2, batch_lt b⟩ h (at64 k r)) else z (ix3 ⟨b.val % 2, batch_lt b⟩ h (at64 k r)) := by
  have e : ∀ u : FVec Ideal S4x4x8448 .f32, transpose S132x4x4x64 [2, 0, 1, 3] (shapeCast S4x4x132x64 u shapeCasts_S4x4x8448_S4x4x132x64)
      transposes_S4x4x132x64_S132x4x4x64_2_0_1_3 (ix4 k b h r) = u (ix3 b h (at64 k r)) := fun u => by
    pointwise!
    exact congrArg u (ix3_of_val rfl rfl (by show k.val * 64 + r.val = 64 * k.val + r.val; omega))
  refine (e _).trans ((concatenate_pair_apply _ _ _ _ _).trans ?_)
  by_cases hb : b.val < 2
  · refine (dif_pos hb).trans (Eq.trans ?_ (if_pos hb).symm)
    refine congrArg y (funext fun a => ?_)
    match a with
    | ⟨0, _⟩ => exact Fin.ext (by show b.val = b.val % 2; omega)
    | ⟨1, _⟩ => rfl
    | ⟨2, _⟩ => rfl
  · refine (dif_neg hb).trans (Eq.trans ?_ (if_neg hb).symm)
    refine congrArg z (funext fun a => ?_)
    match a with
    | ⟨0, _⟩ => exact Fin.ext (by show b.val - 2 = b.val % 2; omega)
    | ⟨1, _⟩ => rfl
    | ⟨2, _⟩ => rfl

/-- A batch below two is of the forward order. -/
theorem half_lo {b : Fin 4} (hb : b.val < 2) : b.val / 2 = 0 := by omega
/-- A batch from two on is of the backward order. -/
theorem half_hi {b : Fin 4} (hb : ¬b.val < 2) : b.val / 2 = 1 := by omega

/-- An array of heads in the scan's two orders, entry by entry. -/
theorem ordM_apply (x : FVec Ideal S2x4x8448x256 .f32) (k : Fin 132) (b h : Fin 4) (r : Fin 64) (d : Fin 256) :
    ordM x (ix5 k b h r d) = x (ix4 ⟨b.val % 2, batch_lt b⟩ h (rowI (b.val / 2) (64 * k.val + r.val)) d) := by
  refine (chunksM_apply (fwdM x) (Host.reverse [2] x) k b h r d).trans ?_
  by_cases hb : b.val < 2
  · rw [if_pos hb, half_lo hb, fwdM_apply]; rfl
  · rw [if_neg hb, half_hi hb, revM_apply]; rfl

@[inherit_doc ordM_apply] theorem ordG_apply (x y : FVec Ideal S2x4x8448 .f32) (k : Fin 132) (b h : Fin 4) (r : Fin 64) :
    ordG x y (ix4 k b h r) = if b.val < 2 then x (ix3 ⟨b.val % 2, batch_lt b⟩ h (rowI 0 (64 * k.val + r.val)))
      else y (ix3 ⟨b.val % 2, batch_lt b⟩ h (rowI 1 (64 * k.val + r.val))) := by
  refine (chunksG_apply (fwdG x) (Host.reverse [2] y) k b h r).trans ?_
  by_cases hb : b.val < 2
  · rw [if_pos hb, if_pos hb, fwdG_apply]; rfl
  · rw [if_neg hb, if_neg hb, revG_apply]; rfl

/-- A head is a stretch of 256 columns. -/
theorem headsOf_apply (x : FVec Ideal S2x8448x1024 .bf16) (b : Fin 2) (h : Fin 4) (r : Fin 8448) (d : Fin 256) :
    headsOf x (ix4 b h r d) = x (ix3 b r ⟨256 * h.val + d.val, by omega⟩) := by
  pointwise! [headsOf]

/-- A kind and head of gates is a column, its bias added. -/
theorem gatesOf_apply (g : FVec Ideal S2x8448x128 .f32) (e : FVec Ideal S1x16 .f32) (b : Fin 2) (o h : Fin 4) (r : Fin 8448) :
    gatesOf g e (ix4 b o h r) = g (ix3 b r ⟨o.val * 4 + h.val, by omega⟩) + e (ix2 0 ⟨o.val * 4 + h.val, by omega⟩) := by
  pointwise! [gatesOf]

/-- One kind of gates, entry by entry. -/
theorem kindOf_apply (n : ℕ) (hn : n < 4) (x : FVec Ideal S2x4x4x8448 .f32) (h : S2x4x4x8448.Slices ![0, n, 0, 0] S2x1x4x8448) (b : Fin 2) (hd : Fin 4) (r : Fin 8448) :
    kindOf n x h (ix3 b hd r) = x (ix4 b ⟨n, hn⟩ hd r) := by
  pointwise! [kindOf]

/-- The reference's logarithm of the logistic function of a real. -/
theorem lsOf_apply (x : FVec Ideal S2x4x8448 .f32) (b : Fin 2) (h : Fin 4) (r : Fin 8448) (y : ℝ) (hy : x (ix3 b h r) = (y : EReal)) :
    lsOf x (ix3 b h r) = (logsig y : EReal) := by
  have h0 : ¬(1 + Real.exp (-|y|) ≤ 0) := not_le.mpr (by positivity)
  pointwise! [lsOf]
  rw [if_neg (fun q => q rfl), hy, ← EReal.coe_neg, abs_real, abs_neg, ← EReal.coe_neg, Ideal.exp_coe, Ideal.log1p,
    show (1 : EReal) = ((1 : ℝ) : EReal) from rfl, ← EReal.coe_add, Ideal.log_coe, if_neg h0,
    show (0 : EReal) = ((0 : ℝ) : EReal) from rfl, ← EReal.coe_strictMono.monotone.map_max, ← EReal.coe_add, ← EReal.coe_neg]
  exact congrArg _ (by unfold logsig; rw [neg_add, ← min_neg_neg, neg_neg, neg_zero, sub_eq_add_neg])

/-- The mask of past positions is one where the column is not after the row. -/
theorem mask_apply : ∀ t s : Fin 64, select
    (cmpi .sge (addi (iotaInDim S64x64 32 0) (broadcastInDim S64x64 ![] bcast_S_S64x64 (constantI S_ 32 0#32))) (iotaInDim S64x64 32 1))
    (broadcastInDim S64x64 ![] bcast_S_S64x64 (constantI S_ 1 1#1)) (broadcastInDim S64x64 ![] bcast_S_S64x64 (constantI S_ 1 0#1)) (ix2 t s) = if s ≤ t then 1#1 else 0#1 := fun t s => by
  pointwise!
  revert t s
  decide +kernel

/-- The results the chunks hold, as rows. -/
theorem rows_apply (x : FVec Ideal S132x4x4x64x256 .f32) (b h : Fin 4) (p : Fin 8448) (d : Fin 256) :
    shapeCast S4x4x8448x256 (transpose S4x4x132x64x256 [1, 2, 0, 3, 4] x transposes_S132x4x4x64x256_S4x4x132x64x256_1_2_0_3_4) shapeCasts_S4x4x132x64x256_S4x4x8448x256 (ix4 b h p d)
      = x (ix5 ⟨p.val / 64, by omega⟩ b h ⟨p.val % 64, Nat.mod_lt _ (by decide)⟩ d) := by
  pointwise!

/-- The results' heads side by side. -/
theorem cols_apply (x : FVec Ideal S2x4x8448x256 .f32) (b : Fin 2) (r : Fin 8448) (e : Fin 1024) :
    truncf (F := Ideal) .bf16 (shapeCast S2x8448x1024 (transpose S2x8448x4x256 [0, 2, 1, 3] x transposes_S2x4x8448x256_S2x8448x4x256_0_2_1_3) shapeCasts_S2x8448x4x256_S2x8448x1024) bitsLt_bf16_f32 (ix3 b r e)
      = x (ix4 b ⟨e.val / 256, by omega⟩ r ⟨e.val % 256, Nat.mod_lt _ (by decide)⟩) := by
  pointwise!

/-- The forward order's rows back in their places. -/
theorem back_apply (x : FVec Ideal S2x4x8448x256 .f32) (b : Fin 2) (h : Fin 4) (r : Fin 8448) (d : Fin 256) :
    concatenate S2x4x8448x256 2 [⟨S2x4x8192x256, extractStridedSlice S2x4x8192x256 ![0, 0, 256, 0] x slices_S2x4x8448x256_S2x4x8192x256_0_0_256_0⟩,
      ⟨S2x4x256x256, extractStridedSlice S2x4x256x256 ![0, 0, 0, 0] x slices_S2x4x8448x256_S2x4x256x256_0_0_0_0⟩] concatenates_S2x4x8192x256_S2x4x256x256_S2x4x8448x256_d2 (ix4 b h r d)
      = x (ix4 b h ⟨(r.val + 256) % 8448, Nat.mod_lt _ (by decide)⟩ d) := by
  pointwise!
  split_ifs with h1
  · exact congrArg x (ix4_of_val rfl rfl (by show 256 + r.val = (r.val + 256) % 8448; omega) rfl)
  · exact congrArg x (ix4_of_val rfl rfl (by show r.val - 8192 = (r.val + 256) % 8448; omega) rfl)
  · exact absurd rfl ‹_›

variable {m : (b : Loc nD τ sig) → b.2.ty.Contents (Elt Ideal)} {c : Dev nD}

/-- The arguments are real. -/
abbrev RealArgs (m : (b : Loc nD τ sig) → b.2.ty.Contents (Elt Ideal)) (c : Dev nD) : Prop :=
  Real4 (m ((c.tc : Thread nD τ).loc main_arg0)) (m ((c.tc : Thread nD τ).loc main_arg1)) (m ((c.tc : Thread nD τ).loc main_arg2)) (m ((c.tc : Thread nD τ).loc main_arg3))

/-- The queries, keys, values and gates of the arguments in the two orders: a batch of the four is an order and a batch. -/
abbrev qA (m : (b : Loc nD τ sig) → b.2.ty.Contents (Elt Ideal)) (c : Dev nD) (b h : Fin 4) : ℕ → Fin 256 → ℝ := qF (m ((c.tc : Thread nD τ).loc main_arg0)) (b.val / 2) ⟨b.val % 2, batch_lt b⟩ h.val
@[inherit_doc qA] abbrev kA (m : (b : Loc nD τ sig) → b.2.ty.Contents (Elt Ideal)) (c : Dev nD) (b h : Fin 4) : ℕ → Fin 256 → ℝ := kF (m ((c.tc : Thread nD τ).loc main_arg0)) (b.val / 2) ⟨b.val % 2, batch_lt b⟩ h.val
@[inherit_doc qA] abbrev vA (m : (b : Loc nD τ sig) → b.2.ty.Contents (Elt Ideal)) (c : Dev nD) (b h : Fin 4) : ℕ → Fin 256 → ℝ := vF (m ((c.tc : Thread nD τ).loc main_arg1)) (b.val / 2) ⟨b.val % 2, batch_lt b⟩ h.val
@[inherit_doc qA] abbrev gA (m : (b : Loc nD τ sig) → b.2.ty.Contents (Elt Ideal)) (c : Dev nD) (b : Fin 4) (o : ℕ) : ℕ → ℝ := gF (m ((c.tc : Thread nD τ).loc main_arg2)) (m ((c.tc : Thread nD τ).loc main_arg3)) (b.val / 2) ⟨b.val % 2, batch_lt b⟩ o

/-- One kind of gates in one order is real. -/
theorem gate_real (H : RealArgs m c) (n : ℕ) (hn : n < 4) (hs : S2x4x4x8448.Slices ![0, n, 0, 0] S2x1x4x8448) (w : ℕ) (b : Fin 2) (h : Fin 4) (p o : ℕ) (ho : o = 4 * n + h.val) :
    kindOf n (gates m c) hs (ix3 b h (rowI w p)) = (gF (m ((c.tc : Thread nD τ).loc main_arg2)) (m ((c.tc : Thread nD τ).loc main_arg3)) w b o p : EReal) :=
  (kindOf_apply n hn _ _ _ _ _).trans ((gatesOf_apply _ _ _ _ _ _).trans
    (H.g w b o p _ _ _ rfl (by omega) (by show n * 4 + h.val = o; omega) (by show n * 4 + h.val = o; omega)))

/-- What the scan runs over at the loop's entry. -/
theorem over_entry (H : RealArgs m c) : Over (entryContents preI m c) (qA m c) (kA m c) (vA m c)
    (fun b h => gA m c b (8 * (b.val / 2) + h.val)) (fun b h p => logsig (gA m c b (8 * (b.val / 2) + 4 + h.val) p)) where
  q k b h r d := by
    refine (congrArg (fun x : S132x4x4x64x256.Idx → EReal => x (ix5 k b h r d)) (entry_q m c)).trans ((ordM_apply _ _ _ _ _ _).trans ((headsOf_apply _ _ _ _ _).trans ?_))
    pointwise!
    exact H.q _ _ _ _ _ _ _ rfl h.isLt (by first | rfl | (show 0 + (256 * h.val + d.val) = 256 * h.val + d.val; omega))
  k k b h r d := by
    refine (congrArg (fun x : S132x4x4x64x256.Idx → EReal => x (ix5 k b h r d)) (entry_k m c)).trans ((ordM_apply _ _ _ _ _ _).trans ((headsOf_apply _ _ _ _ _).trans ?_))
    pointwise!
    exact H.k _ _ _ _ _ _ _ rfl h.isLt (by show 1024 + (256 * h.val + d.val) = 1024 + 256 * h.val + d.val; omega)
  v k b h r d := by
    refine (congrArg (fun x : S132x4x4x64x256.Idx → EReal => x (ix5 k b h r d)) (entry_v m c)).trans ((ordM_apply _ _ _ _ _ _).trans ((headsOf_apply _ _ _ _ _).trans ?_))
    pointwise!
    exact H.v _ _ _ _ _ _ _ rfl h.isLt (by show 2048 + (256 * h.val + d.val) = 2048 + 256 * h.val + d.val; omega)
  i k b h r := by
    refine (congrArg (fun x : S132x4x4x64.Idx → EReal => x (ix4 k b h r)) (entry_i m c)).trans ((ordG_apply _ _ _ _ _ _).trans ?_)
    by_cases hb : b.val < 2
    · refine (if_pos hb).trans ((gate_real H 0 (by decide) _ 0 _ _ _ (8 * (b.val / 2) + h.val) (by omega)).trans ?_)
      rw [gA, half_lo hb]
    · refine (if_neg hb).trans ((gate_real H 2 (by decide) _ 1 _ _ _ (8 * (b.val / 2) + h.val) (by omega)).trans ?_)
      rw [gA, half_hi hb]
  f k b h r := by
    refine (congrArg (fun x : S132x4x4x64.Idx → EReal => x (ix4 k b h r)) (entry_f m c)).trans ((ordG_apply _ _ _ _ _ _).trans ?_)
    by_cases hb : b.val < 2
    · refine (if_pos hb).trans ((lsOf_apply _ _ _ _ _ (gate_real H 1 (by decide) _ 0 _ _ _ (8 * (b.val / 2) + 4 + h.val) (by omega))).trans ?_)
      rw [gA, half_lo hb]
    · refine (if_neg hb).trans ((lsOf_apply _ _ _ _ _ (gate_real H 3 (by decide) _ 1 _ _ _ (8 * (b.val / 2) + 4 + h.val) (by omega))).trans ?_)
      rw [gA, half_hi hb]
  mask t s := (congrArg (fun x : S64x64.Idx → BitVec 1 => x (ix2 t s)) (entry_mask m c)).trans (mask_apply t s)

/-- The state at the loop's entry: the sums of no positions. -/
theorem done_entry (qf kf vf : Fin 4 → Fin 4 → ℕ → Fin 256 → ℝ) (i f : Fin 4 → Fin 4 → ℕ → ℝ) : Done (entryContents preI m c) qf kf vf i f 0 where
  ctr := ctr_entry m c
  st b h := by
    refine ⟨0, ?_, fun x y => ?_, fun y => ?_⟩
    · rw [entry_M]
      pointwise!
    · rw [entry_C]
      pointwise!
      simp [state]
    · rw [entry_N]
      pointwise!
      simp [state]
  res k b h t x hk := absurd hk (Nat.not_lt_zero _)

/-- A position's result in one order after the loop. -/
theorem scan_entry (H : RealArgs m c) (b h : Fin 4) (p : Fin 8448) (d : Fin 256) :
    sH (STEP^[132] (entryContents preI m c)) (ix5 ⟨p.val / 64, by omega⟩ b h ⟨p.val % 64, Nat.mod_lt _ (by decide)⟩ d)
      = (scanAt (m ((c.tc : Thread nD τ).loc main_arg0)) (m ((c.tc : Thread nD τ).loc main_arg1)) (m ((c.tc : Thread nD τ).loc main_arg2)) (m ((c.tc : Thread nD τ).loc main_arg3))
          (b.val / 2) ⟨b.val % 2, batch_lt b⟩ h.val d p.val : EReal) := by
  refine ((Done.scan (over_entry H) (done_entry _ _ _ _ _) 132 le_rfl).2.res _ b h _ d (by show p.val / 64 < 132; omega)).trans ?_
  rw [show 64 * (⟨p.val / 64, by omega⟩ : Fin 132).val + (⟨p.val % 64, Nat.mod_lt _ (by decide)⟩ : Fin 64).val = p.val from Nat.div_add_mod _ _]
  rfl

/-- One order's batches of the four. -/
theorem lo_apply (x : FVec Ideal S4x4x8448x256 .f32) (b : Fin 2) (h : Fin 4) (r : Fin 8448) (d : Fin 256) :
    extractStridedSlice S2x4x8448x256 ![0, 0, 0, 0] x slices_S4x4x8448x256_S2x4x8448x256_0_0_0_0 (ix4 b h r d) = x (ix4 ⟨b.val, by omega⟩ h r d) := by
  pointwise!

@[inherit_doc lo_apply] theorem hi_apply (x : FVec Ideal S4x4x8448x256 .f32) (b : Fin 2) (h : Fin 4) (r : Fin 8448) (d : Fin 256) :
    extractStridedSlice S2x4x8448x256 ![2, 0, 0, 0] x slices_S4x4x8448x256_S2x4x8448x256_2_0_0_0 (ix4 b h r d) = x (ix4 ⟨2 + b.val, by omega⟩ h r d) := by
  pointwise!

/-- A result array's entry. -/
theorem resOf_apply (a0 : FVec Ideal S2x8448x2048 .bf16) (a1 : FVec Ideal S2x8448x4096 .bf16) (a2 : FVec Ideal S2x8448x128 .f32) (a3 : FVec Ideal S1x16 .f32) (w : ℕ)
    (b : Fin 2) (r : Fin 8448) (e : Fin 1024) : resOf a0 a1 a2 a3 w (ix3 b r e) = (scanAt a0 a1 a2 a3 w b (e.val / 256) ⟨e.val % 256, Nat.mod_lt _ (by decide)⟩ (posOf w r.val) : EReal) := rfl

/-- The scan's results at equal places are equal. -/
theorem scanAt_congr (a0 : FVec Ideal S2x8448x2048 .bf16) (a1 : FVec Ideal S2x8448x4096 .bf16) (a2 : FVec Ideal S2x8448x128 .f32) (a3 : FVec Ideal S1x16 .f32) {w w' : ℕ} {b b' : Fin 2}
    (h : ℕ) (d : Fin 256) {p p' : ℕ} (hw : w = w') (hb : b.val = b'.val) (hp : p = p') : (scanAt a0 a1 a2 a3 w b h d p : EReal) = (scanAt a0 a1 a2 a3 w' b' h d p' : EReal) := by
  obtain rfl := Fin.ext hb
  rw [hw, hp]

/-- The first result is the forward scan's. -/
theorem result_fwd (H : RealArgs m c) : out_main_v79 (STEP^[132] (entryContents preI m c))
    = resOf (m ((c.tc : Thread nD τ).loc main_arg0)) (m ((c.tc : Thread nD τ).loc main_arg1)) (m ((c.tc : Thread nD τ).loc main_arg2)) (m ((c.tc : Thread nD τ).loc main_arg3)) 0 := by
  funext j
  obtain ⟨b, r, e, rfl⟩ : ∃ b r e, j = ix3 b r e := ⟨j 0, j 1, j 2, eq_ix3 j⟩
  refine (cols_apply _ _ _ _).trans ((back_apply _ _ _ _ _).trans ((lo_apply _ _ _ _ _).trans ((rows_apply _ _ _ _ _).trans ((scan_entry H _ _ _ _).trans ?_))))
  refine Eq.trans ?_ (resOf_apply _ _ _ _ _ _ _ _).symm
  exact scanAt_congr _ _ _ _ _ _ (by show b.val / 2 = 0; omega) (by show b.val % 2 = b.val; omega) (if_pos rfl).symm

/-- The second result is the backward scan's. -/
theorem result_bwd (H : RealArgs m c) : out_main_v84 (STEP^[132] (entryContents preI m c))
    = resOf (m ((c.tc : Thread nD τ).loc main_arg0)) (m ((c.tc : Thread nD τ).loc main_arg1)) (m ((c.tc : Thread nD τ).loc main_arg2)) (m ((c.tc : Thread nD τ).loc main_arg3)) 1 := by
  funext j
  obtain ⟨b, r, e, rfl⟩ : ∃ b r e, j = ix3 b r e := ⟨j 0, j 1, j 2, eq_ix3 j⟩
  refine (cols_apply _ _ _ _).trans ((revM_apply _ _ _ _ _).trans ((hi_apply _ _ _ _ _).trans ((rows_apply _ _ _ _ _).trans ((scan_entry H _ _ _ _).trans ?_))))
  refine Eq.trans ?_ (resOf_apply _ _ _ _ _ _ _ _).symm
  exact scanAt_congr _ _ _ _ _ _ (by show (2 + b.val) / 2 = 1; omega) (by show (2 + b.val) % 2 = b.val; omega) ((show rowOf 1 r.val = 8447 - r.val from if_neg (by decide)).trans (show posOf 1 r.val = 8447 - r.val from if_neg (by decide)).symm)

end Cert.Reference2Ideal.Scan
-- ==== Proof.lean ====
/- The certificate of the expert feed-forward, the chunked mLSTM scan and the mixer's output: each kernel's frame at both instances, the references' frames, and the value claims. -/
module

public import proofs.«01_k».proof.Defs
public import proofs.«01_k».proof.Proof.FfnFrame
public import proofs.«01_k».proof.Proof.FfnAlgebra
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel2Ideal.Value
public import proofs.«01_k».proof.Proof.MlGrid
public import proofs.«01_k».proof.Proof.Gen.Kernel3
public import proofs.«01_k».proof.Proof.MixFrame
public import proofs.«01_k».proof.Proof.MixAlgebra
public import proofs.«01_k».proof.Proof.Gen.Kernel3Ideal
public import proofs.«01_k».proof.Proof.Gen.Reference3Ideal
public import proofs.«01_k».proof.Proof.Gen.Reference3Ideal.Run
public import proofs.«01_k».proof.Proof.MlFinite
public import proofs.«01_k».proof.Proof.MlRefOut
public import Idealize.ShloMosaic.Adequacy
public import Idealize.ShloMosaic.Init

@[expose] public section

noncomputable section

namespace Cert.Proof

open Idealize.ShloMosaic Idealize.SL.Sem

/-- The feed-forward reference runs, keeps its arguments and leaves every counter at zero. -/
theorem frame_ffn_reference : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run m g)

/-- The scan's reference runs, keeps its arguments and leaves every counter at zero. -/
theorem frame_scan_reference : Cert.quiescent_Reference2Ideal (hReference2Ideal := Cert.Reference2Ideal.Gen.facts) := fun m g _ =>
  (θ_run _ _ _).mono (fun r h => ⟨fun c => (h c).2.2, sem_eq_zero_of_no_sems (by decide) r.2⟩) (Cert.Reference2Ideal.Value.run m g)

/-- The mixer output's reference runs, keeps its arguments and leaves every counter at zero. -/
theorem frame_mixer_reference : Cert.quiescent_Reference3Ideal (hReference3Ideal := Cert.Reference3Ideal.Gen.facts) := fun m g _ =>
  (θ_run _ _ _).mono (fun r h => ⟨fun c => (h c).2.2, sem_eq_zero_of_no_sems (by decide) r.2⟩) (Cert.Reference3Ideal.Value.run m g)

/-- The feed-forward kernel and its reference end with equal results. -/
theorem algebraic_ffn : Cert.algebraic_KernelIdeal_ReferenceIdeal (hKernelIdeal := Cert.KernelIdeal.Gen.facts) (hReferenceIdeal := Cert.ReferenceIdeal.Gen.facts) :=
  fun m g m' g' _ hag => ⟨_,
    (θ_run _ _ _).mono (fun _ h c => ⟨(h c).1.trans (Cert.KernelIdeal.FfnAcc.final m c), (h c).2⟩) (Cert.KernelIdeal.FfnValue.run_blocks m g),
    (θ_run _ _ _).mono (fun _ h c => ⟨(h c).1.trans (by
      obtain ⟨h0, h1, h2, h3, h4⟩ := hag c
      rw [h0, h1, h2, h3, h4]
      rfl), (h c).2⟩) (Cert.ReferenceIdeal.Value.run m' g')⟩

/-- The scan's kernel and its reference end with equal results where the arguments are finite: both results are the scan's closed form of them. -/
theorem algebraic_scan : Cert.algebraic_Kernel2Ideal_Reference2Ideal_pre_finite (hKernel2Ideal := Cert.Kernel2Ideal.Gen.facts) (hReference2Ideal := Cert.Reference2Ideal.Gen.facts)
    (hPre_finite := Cert.Pre_finite.facts) :=
  fun m g m' g' hp hag => by
    have H : ∀ c, Cert.Kernel2Ideal.Acc.RealArgs m c := fun c =>
      letI := Cert.Pre_finite.facts
      Cert.Pre_finite.real4 (hp c).1 (hp c).2.1 (hp c).2.2.1 (hp c).2.2.2
    have H' : ∀ c, Cert.Reference2Ideal.Scan.RealArgs m' c := fun c => by
      obtain ⟨h0, h1, h2, h3⟩ := hag c
      unfold Cert.Reference2Ideal.Scan.RealArgs
      rw [h0, h1, h2, h3]
      exact H c
    refine ⟨_, _,
      (θ_run _ _ _).mono (fun _ h c => ⟨(h c).1.trans (Cert.Kernel2Ideal.Acc.arr12 (H c)), (h c).2.1.trans (Cert.Kernel2Ideal.Acc.arr13 (H c)), (h c).2.2⟩) (Cert.Kernel2Ideal.Value.run_blocks m g),
      (θ_run _ _ _).mono (fun _ h c => ⟨(h c).1.trans ((Cert.Reference2Ideal.Scan.result_fwd (H' c)).trans ?_),
        (h c).2.1.trans ((Cert.Reference2Ideal.Scan.result_bwd (H' c)).trans ?_), (h c).2.2⟩) (Cert.Reference2Ideal.Value.run m' g')⟩
    all_goals
      obtain ⟨h0, h1, h2, h3⟩ := hag c
      rw [h0, h1, h2, h3]

/-- The mixer output's kernel and its reference end with equal results. -/
theorem algebraic_mixer : Cert.algebraic_Kernel3Ideal_Reference3Ideal (hKernel3Ideal := Cert.Kernel3Ideal.Gen.facts) (hReference3Ideal := Cert.Reference3Ideal.Gen.facts) :=
  fun m g m' g' _ hag => by
    refine ⟨_, _,
      (θ_run _ _ _).mono (fun _ h c => ⟨(h c).1.trans (Cert.Kernel3Ideal.Mix.final11 m c), (h c).2.1.trans (Cert.Kernel3Ideal.Mix.final12 m c), (h c).2.2⟩) (Cert.Kernel3Ideal.Mix.run_blocks m g),
      (θ_run _ _ _).mono (fun _ h c => ⟨(h c).1.trans ((Cert.Reference3Ideal.Mix.out0_eq m' c).trans ?_),
        (h c).2.1.trans ((Cert.Reference3Ideal.Mix.out1_eq m' c).trans ?_), (h c).2.2⟩) (Cert.Reference3Ideal.Value.run m' g')⟩
    all_goals
      obtain ⟨h0, h1, h2, h3, h4, h5, h6, h7, h8, h9, _⟩ := hag c
      rw [h0, h1, h2, h3, h4, h5, h6, h7, h8, h9]

/-- The certificate: the frames of the nine programs, the three idealizations and the three equalities. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Pre_finite.facts,
  fun m g _ => Cert.Kernel.Ffn.frame m g, fun m g _ => Cert.KernelIdeal.FfnIdeal.frame m g, frame_ffn_reference,
  fun m g _ => Cert.Kernel2.Gen.frame m g, fun m g _ => Cert.Kernel2Ideal.Gen.frame m g, fun m g _ => Cert.Kernel2Ideal.Gen.frame m g,
  frame_scan_reference, fun m g _ => frame_scan_reference m g trivial,
  fun m g _ => Cert.Kernel3.Mix.frame m g, fun m g _ => Cert.Kernel3Ideal.Mix.frame m g, frame_mixer_reference,
  trivial, algebraic_ffn, trivial, algebraic_scan, trivial, algebraic_mixer⟩

end Cert.Proof

end
